-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7)
      ∧ r.2.mem ((c.tc : Thread Cert.Oproj.nD Cert.Oproj.τ).loc Cert.Oproj.main_arg8) = m ((c.tc : Thread Cert.Oproj.nD Cert.Oproj.τ).loc Cert.Oproj.main_arg8))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
      ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7)
      ∧ r.2.mem ((c.tc : Thread Cert.OprojRefIdeal.nD Cert.OprojRefIdeal.τ).loc Cert.OprojRefIdeal.main_arg8) = m ((c.tc : Thread Cert.OprojRefIdeal.nD Cert.OprojRefIdeal.τ).loc Cert.OprojRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)
      ∧ m' ((c.tc : Thread Cert.OprojRefIdeal.nD Cert.OprojRefIdeal.τ).loc Cert.OprojRefIdeal.main_arg8) = m ((c.tc : Thread Cert.OprojIdeal.nD Cert.OprojIdeal.τ).loc Cert.OprojIdeal.main_arg8)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
          ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7)
          ∧ r.2.mem ((c.tc : Thread Cert.OprojRefIdeal.nD Cert.OprojRefIdeal.τ).loc Cert.OprojRefIdeal.main_arg8) = m' ((c.tc : Thread Cert.OprojRefIdeal.nD Cert.OprojRefIdeal.τ).loc Cert.OprojRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def Claim : Prop :=
  ∃ (hMlp : Cert.Mlp.Facts) (hMlpIdeal : Cert.MlpIdeal.Facts) (hMlpRefIdeal : Cert.MlpRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Mlp_MlpIdeal
    ∧ algebraic_MlpIdeal_MlpRefIdeal (hMlpIdeal := hMlpIdeal) (hMlpRefIdeal := hMlpRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Mlp.lean ====
abbrev S8192x3072 : Shape := ⟨2, ![8192, 3072]⟩
abbrev S1x1 : Shape := ⟨2, ![1, 1]⟩
abbrev S3072x6144 : Shape := ⟨2, ![3072, 6144]⟩
abbrev S1x6144 : Shape := ⟨2, ![1, 6144]⟩
abbrev S6144x3072 : Shape := ⟨2, ![6144, 3072]⟩
abbrev S1x3072 : Shape := ⟨2, ![1, 3072]⟩
abbrev S8192x6144 : Shape := ⟨2, ![8192, 6144]⟩
abbrev S256x3072 : Shape := ⟨2, ![256, 3072]⟩
abbrev S256x6144 : Shape := ⟨2, ![256, 6144]⟩
abbrev S2 : Shape := ⟨1, ![2]⟩
abbrev S1 : Shape := ⟨1, ![1]⟩
abbrev S_ : Shape := ⟨0, ![]⟩
abbrev S3072x256 : Shape := ⟨2, ![3072, 256]⟩
abbrev S256x256 : Shape := ⟨2, ![256, 256]⟩
abbrev S1x256 : Shape := ⟨2, ![1, 256]⟩
abbrev S6144x256 : Shape := ⟨2, ![6144, 256]⟩

abbrev nBuf : Space → Nat
  | .hbm => 12
  | .vmem => 15
  | .smem => 2
  | _ => 0

abbrev bufTy : (tb : Table) → Fin (tcTables nBuf tb) → BufTy
  | .hbm, ⟨0, _⟩ => ⟨S8192x3072, .i8⟩
  | .hbm, ⟨1, _⟩ => ⟨S8192x3072, .f32⟩
  | .hbm, ⟨2, _⟩ => ⟨S1x1, .f32⟩
  | .hbm, ⟨3, _⟩ => ⟨S1x1, .f32⟩
  | .hbm, ⟨4, _⟩ => ⟨S3072x6144, .i8⟩
  | .hbm, ⟨5, _⟩ => ⟨S1x6144, .f32⟩
  | .hbm, ⟨6, _⟩ => ⟨S1x6144, .i32⟩
  | .hbm, ⟨7, _⟩ => ⟨S6144x3072, .i8⟩
  | .hbm, ⟨8, _⟩ => ⟨S1x3072, .f32⟩
  | .hbm, ⟨9, _⟩ => ⟨S1x3072, .i32⟩
  | .hbm, ⟨10, _⟩ => ⟨S8192x6144, .i8⟩
  | .hbm, ⟨11, _⟩ => ⟨S8192x3072, .bf16⟩
  | .local _ .vmem, ⟨0, _⟩ => ⟨S256x3072, .i8⟩
  | .local _ .vmem, ⟨1, _⟩ => ⟨S256x3072, .i8⟩
  | .local _ .vmem, ⟨2, _⟩ => ⟨S256x3072, .f32⟩
  | .local _ .vmem, ⟨3, _⟩ => ⟨S256x3072, .f32⟩
  | .local _ .vmem, ⟨4, _⟩ => ⟨S1x6144, .f32⟩
  | .local _ .vmem, ⟨5, _⟩ => ⟨S1x6144, .i32⟩
  | .local _ .vmem, ⟨6, _⟩ => ⟨S1x3072, .f32⟩
  | .local _ .vmem, ⟨7, _⟩ => ⟨S1x3072, .i32⟩
  | .local _ .vmem, ⟨8, _⟩ => ⟨S256x6144, .i8⟩
  | .local _ .vmem, ⟨9, _⟩ => ⟨S256x6144, .i8⟩
  | .local _ .vmem, ⟨10, _⟩ => ⟨S256x3072, .bf16⟩
  | .local _ .vmem, ⟨11, _⟩ => ⟨S256x3072, .bf16⟩
  | .local _ .vmem, ⟨12, _⟩ => ⟨S3072x6144, .i8⟩
  | .local _ .vmem, ⟨13, _⟩ => ⟨S6144x3072, .i8⟩
  | .local _ .vmem, ⟨14, _⟩ => ⟨S256x6144, .bf16⟩
  | .local _ .smem, ⟨0, _⟩ => ⟨S1x1, .f32⟩
  | .local _ .smem, ⟨1, _⟩ => ⟨S1x1, .f32⟩
  | _, _ => ⟨S8192x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlpRefIdeal.lean ====
abbrev S8192x3072 : Shape := ⟨2, ![8192, 3072]⟩
abbrev S1x1 : Shape := ⟨2, ![1, 1]⟩
abbrev S3072x6144 : Shape := ⟨2, ![3072, 6144]⟩
abbrev S1x6144 : Shape := ⟨2, ![1, 6144]⟩
abbrev S6144x3072 : Shape := ⟨2, ![6144, 3072]⟩
abbrev S1x3072 : Shape := ⟨2, ![1, 3072]⟩
abbrev S8192x6144 : Shape := ⟨2, ![8192, 6144]⟩

abbrev nBuf : Space → Nat
  | .hbm => 12
  | .vmem => 12
  | .smem => 0
  | _ => 0

abbrev bufTy : (tb : Table) → Fin (tcTables nBuf tb) → BufTy
  | .hbm, ⟨0, _⟩ => ⟨S8192x3072, .i8⟩
  | .hbm, ⟨1, _⟩ => ⟨S8192x3072, .f32⟩
  | .hbm, ⟨2, _⟩ => ⟨S1x1, .f32⟩
  | .hbm, ⟨3, _⟩ => ⟨S1x1, .f32⟩
  | .hbm, ⟨4, _⟩ => ⟨S3072x6144, .i8⟩
  | .hbm, ⟨5, _⟩ => ⟨S1x6144, .f32⟩
  | .hbm, ⟨6, _⟩ => ⟨S1x6144, .i32⟩
  | .hbm, ⟨7, _⟩ => ⟨S6144x3072, .i8⟩
  | .hbm, ⟨8, _⟩ => ⟨S1x3072, .f32⟩
  | .hbm, ⟨9, _⟩ => ⟨S1x3072, .i32⟩
  | .hbm, ⟨10, _⟩ => ⟨S8192x6144, .i8⟩
  | .hbm, ⟨11, _⟩ => ⟨S8192x3072, .bf16⟩
  | .local _ .vmem, ⟨0, _⟩ => ⟨S8192x3072, .i8⟩
  | .local _ .vmem, ⟨1, _⟩ => ⟨S8192x3072, .f32⟩
  | .local _ .vmem, ⟨2, _⟩ => ⟨S1x1, .f32⟩
  | .local _ .vmem, ⟨3, _⟩ => ⟨S1x1, .f32⟩
  | .local _ .vmem, ⟨4, _⟩ => ⟨S3072x6144, .i8⟩
  | .local _ .vmem, ⟨5, _⟩ => ⟨S1x6144, .f32⟩
  | .local _ .vmem, ⟨6, _⟩ => ⟨S1x6144, .i32⟩
  | .local _ .vmem, ⟨7, _⟩ => ⟨S6144x3072, .i8⟩
  | .local _ .vmem, ⟨8, _⟩ => ⟨S1x3072, .f32⟩
  | .local _ .vmem, ⟨9, _⟩ => ⟨S1x3072, .i32⟩
  | .local _ .vmem, ⟨10, _⟩ => ⟨S8192x6144, .i8⟩
  | .local _ .vmem, ⟨11, _⟩ => ⟨S8192x3072, .bf16⟩
  | _, _ => ⟨S8192x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x6144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3072 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x6144 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Oproj.lean ====
abbrev S8192x1536 : Shape := ⟨2, ![8192, 1536]⟩
abbrev S32x1x256 : Shape := ⟨3, ![32, 1, 256]⟩
abbrev S8192x3072 : Shape := ⟨2, ![8192, 3072]⟩
abbrev S1x1 : Shape := ⟨2, ![1, 1]⟩
abbrev S1536x3072 : Shape := ⟨2, ![1536, 3072]⟩
abbrev S1x3072 : Shape := ⟨2, ![1, 3072]⟩
abbrev S256x1536 : Shape := ⟨2, ![256, 1536]⟩
abbrev S1x1x256 : Shape := ⟨3, ![1, 1, 256]⟩
abbrev S256x3072 : Shape := ⟨2, ![256, 3072]⟩
abbrev S1x256 : Shape := ⟨2, ![1, 256]⟩
abbrev S128x256 : Shape := ⟨2, ![128, 256]⟩
abbrev S256x128 : Shape := ⟨2, ![256, 128]⟩
abbrev S256x256 : Shape := ⟨2, ![256, 256]⟩
abbrev S1536x256 : Shape := ⟨2, ![1536, 256]⟩
abbrev S32x3072 : Shape := ⟨2, ![32, 3072]⟩
abbrev S32 : Shape := ⟨1, ![32]⟩
abbrev S32x1 : Shape := ⟨2, ![32, 1]⟩

abbrev nBuf : Space → Nat
  | .hbm => 11
  | .vmem => 17
  | .smem => 1
  | _ => 0

abbrev bufTy : (tb : Table) → Fin (tcTables nBuf tb) → BufTy
  | .hbm, ⟨0, _⟩ => ⟨S8192x1536, .i8⟩
  | .hbm, ⟨1, _⟩ => ⟨S32x1x256, .f32⟩
  | .hbm, ⟨2, _⟩ => ⟨S8192x3072, .bf16⟩
  | .hbm, ⟨3, _⟩ => ⟨S1x1, .f32⟩
  | .hbm, ⟨4, _⟩ => ⟨S1536x3072, .i8⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S8192x3072, .f32⟩
  | .hbm, ⟨10, _⟩ => ⟨S8192x3072, .i8⟩
  | .local _ .vmem, ⟨0, _⟩ => ⟨S256x1536, .i8⟩
  | .local _ .vmem, ⟨1, _⟩ => ⟨S256x1536, .i8⟩
  | .local _ .vmem, ⟨2, _⟩ => ⟨S1x1x256, .f32⟩
  | .local _ .vmem, ⟨3, _⟩ => ⟨S1x1x256, .f32⟩
  | .local _ .vmem, ⟨4, _⟩ => ⟨S256x3072, .bf16⟩
  | .local _ .vmem, ⟨5, _⟩ => ⟨S256x3072, .bf16⟩
  | .local _ .vmem, ⟨6, _⟩ => ⟨S1536x3072, .i8⟩
  | .local _ .vmem, ⟨7, _⟩ => ⟨S1x3072, .f32⟩
  | .local _ .vmem, ⟨8, _⟩ => ⟨S1x3072, .f32⟩
  | .local _ .vmem, ⟨9, _⟩ => ⟨S1x3072, .f32⟩
  | .local _ .vmem, ⟨10, _⟩ => ⟨S1x3072, .f32⟩
  | .local _ .vmem, ⟨11, _⟩ => ⟨S256x3072, .f32⟩
  | .local _ .vmem, ⟨12, _⟩ => ⟨S256x3072, .f32⟩
  | .local _ .vmem, ⟨13, _⟩ => ⟨S256x3072, .i8⟩
  | .local _ .vmem, ⟨14, _⟩ => ⟨S256x3072, .i8⟩
  | .local _ .vmem, ⟨15, _⟩ => ⟨S256x3072, .f32⟩
  | .local _ .vmem, ⟨16, _⟩ => ⟨S256x3072, .f32⟩
  | .local _ .smem, ⟨0, _⟩ => ⟨S1x1, .f32⟩
  | _, _ => ⟨S8192x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c1_i32_5 : BitVec 32 := 1#32
  let v13 : BitVec 1 := Scalar.cmpi .eq v12 c1_i32_5
  let c32_i32 : BitVec 32 := 32#32
  let v14 : BitVec 1 := Scalar.cmpi .slt arg0 c32_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c2_i32_7 : BitVec 32 := 2#32
  let c0_i32_8 : BitVec 32 := 0#32
  let v18 : BitVec 1 := Scalar.cmpi .eq c2_i32_7 c0_i32_8
  let c1_i32_9 : BitVec 32 := 1#32
  let v19 : BitVec 32 := Scalar.select v18 c1_i32_9 c2_i32_7
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let c0_i32_14 : BitVec 32 := 0#32
  let v29 : BitVec 1 := Scalar.cmpi .sgt arg0 c0_i32_14
  let v30 : BitVec 1 := Scalar.andi v28 v29
  let c32_i32_15 : BitVec 32 := 32#32
  let v31 : BitVec 1 := Scalar.cmpi .slt arg0 c32_i32_15
  let v32 : BitVec 1 := Scalar.andi v30 v31
  let v33 : BitVec 32 := Scalar.extui v32
  let c0_i32_16 : BitVec 32 := 0#32
  let v34 : BitVec 1 := Scalar.cmpi .ne v33 c0_i32_16
  v34

def k0_cond4 (i : grid0.Coords) : BitVec 1 :=
  let arg0 : BitVec 32 := BitVec.ofNat 32 (i 0).val
  let c32_i32_17 : BitVec 32 := 32#32
  let v35 : BitVec 1 := Scalar.cmpi .eq arg0 c32_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OprojRefIdeal.lean ====
abbrev S8192x1536 : Shape := ⟨2, ![8192, 1536]⟩
abbrev S32x1x256 : Shape := ⟨3, ![32, 1, 256]⟩
abbrev S8192x3072 : Shape := ⟨2, ![8192, 3072]⟩
abbrev S1x1 : Shape := ⟨2, ![1, 1]⟩
abbrev S1536x3072 : Shape := ⟨2, ![1536, 3072]⟩
abbrev S1x3072 : Shape := ⟨2, ![1, 3072]⟩
abbrev S8192x1 : Shape := ⟨2, ![8192, 1]⟩
abbrev S8192 : Shape := ⟨1, ![8192]⟩

abbrev nBuf : Space → Nat
  | .hbm => 11
  | .vmem => 11
  | .smem => 0
  | _ => 0

abbrev bufTy : (tb : Table) → Fin (tcTables nBuf tb) → BufTy
  | .hbm, ⟨0, _⟩ => ⟨S8192x1536, .i8⟩
  | .hbm, ⟨1, _⟩ => ⟨S32x1x256, .f32⟩
  | .hbm, ⟨2, _⟩ => ⟨S8192x3072, .bf16⟩
  | .hbm, ⟨3, _⟩ => ⟨S1x1, .f32⟩
  | .hbm, ⟨4, _⟩ => ⟨S1536x3072, .i8⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S8192x3072, .f32⟩
  | .hbm, ⟨10, _⟩ => ⟨S8192x3072, .i8⟩
  | .local _ .vmem, ⟨0, _⟩ => ⟨S8192x1536, .i8⟩
  | .local _ .vmem, ⟨1, _⟩ => ⟨S32x1x256, .f32⟩
  | .local _ .vmem, ⟨2, _⟩ => ⟨S8192x3072, .bf16⟩
  | .local _ .vmem, ⟨3, _⟩ => ⟨S1x1, .f32⟩
  | .local _ .vmem, ⟨4, _⟩ => ⟨S1536x3072, .i8⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x3072, .f32⟩
  | .local _ .vmem, ⟨9, _⟩ => ⟨S8192x3072, .f32⟩
  | .local _ .vmem, ⟨10, _⟩ => ⟨S8192x3072, .i8⟩
  | _, _ => ⟨S8192x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x3072 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Qkv.lean ====
abbrev S8192x3072 : Shape := ⟨2, ![8192, 3072]⟩
abbrev S1x1 : Shape := ⟨2, ![1, 1]⟩
abbrev S8192x64 : Shape := ⟨2, ![8192, 64]⟩
abbrev S1x3072 : Shape := ⟨2, ![1, 3072]⟩
abbrev S3072x1792 : Shape := ⟨2, ![3072, 1792]⟩
abbrev S1x1792 : Shape := ⟨2, ![1, 1792]⟩
abbrev S8192x1536 : Shape := ⟨2, ![8192, 1536]⟩
abbrev S8192x128 : Shape := ⟨2, ![8192, 128]⟩
abbrev S32x1x256 : Shape := ⟨3, ![32, 1, 256]⟩
abbrev S256x3072 : Shape := ⟨2, ![256, 3072]⟩
abbrev S256x64 : Shape := ⟨2, ![256, 64]⟩
abbrev S256x1536 : Shape := ⟨2, ![256, 1536]⟩
abbrev S256x128 : Shape := ⟨2, ![256, 128]⟩
abbrev S1x1x256 : Shape := ⟨3, ![1, 1, 256]⟩
abbrev S32x3072 : Shape := ⟨2, ![32, 3072]⟩
abbrev S32 : Shape := ⟨1, ![32]⟩
abbrev S32x1 : Shape := ⟨2, ![32, 1]⟩
abbrev S3072x256 : Shape := ⟨2, ![3072, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S128x256 : Shape := ⟨2, ![128, 256]⟩

abbrev nBuf : Space → Nat
  | .hbm => 15
  | .vmem => 25
  | .smem => 1
  | _ => 0

abbrev bufTy : (tb : Table) → Fin (tcTables nBuf tb) → BufTy
  | .hbm, ⟨0, _⟩ => ⟨S8192x3072, .bf16⟩
  | .hbm, ⟨1, _⟩ => ⟨S1x1, .f32⟩
  | .hbm, ⟨2, _⟩ => ⟨S8192x64, .f32⟩
  | .hbm, ⟨3, _⟩ => ⟨S8192x64, .f32⟩
  | .hbm, ⟨4, _⟩ => ⟨S1x3072, .f32⟩
  | .hbm, ⟨5, _⟩ => ⟨S1x3072, .f32⟩
  | .hbm, ⟨6, _⟩ => ⟨S3072x1792, .i8⟩
  | .hbm, ⟨7, _⟩ => ⟨S1x1792, .f32⟩
  | .hbm, ⟨8, _⟩ => ⟨S1x1792, .i32⟩
  | .hbm, ⟨9, _⟩ => ⟨S8192x3072, .i8⟩
  | .hbm, ⟨10, _⟩ => ⟨S8192x1536, .bf16⟩
  | .hbm, ⟨11, _⟩ => ⟨S8192x128, .i8⟩
  | .hbm, ⟨12, _⟩ => ⟨S32x1x256, .f32⟩
  | .hbm, ⟨13, _⟩ => ⟨S8192x128, .i8⟩
  | .hbm, ⟨14, _⟩ => ⟨S32x1x256, .f32⟩
  | .local _ .vmem, ⟨0, _⟩ => ⟨S256x3072, .bf16⟩
  | .local _ .vmem, ⟨1, _⟩ => ⟨S256x3072, .bf16⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S1x3072, .f32⟩
  | .local _ .vmem, ⟨7, _⟩ => ⟨S1x3072, .f32⟩
  | .local _ .vmem, ⟨8, _⟩ => ⟨S3072x1792, .i8⟩
  | .local _ .vmem, ⟨9, _⟩ => ⟨S1x1792, .f32⟩
  | .local _ .vmem, ⟨10, _⟩ => ⟨S1x1792, .i32⟩
  | .local _ .vmem, ⟨11, _⟩ => ⟨S256x3072, .i8⟩
  | .local _ .vmem, ⟨12, _⟩ => ⟨S256x3072, .i8⟩
  | .local _ .vmem, ⟨13, _⟩ => ⟨S256x1536, .bf16⟩
  | .local _ .vmem, ⟨14, _⟩ => ⟨S256x1536, .bf16⟩
  | .local _ .vmem, ⟨15, _⟩ => ⟨S256x128, .i8⟩
  | .local _ .vmem, ⟨16, _⟩ => ⟨S256x128, .i8⟩
  | .local _ .vmem, ⟨17, _⟩ => ⟨S1x1x256, .f32⟩
  | .local _ .vmem, ⟨18, _⟩ => ⟨S1x1x256, .f32⟩
  | .local _ .vmem, ⟨19, _⟩ => ⟨S256x128, .i8⟩
  | .local _ .vmem, ⟨20, _⟩ => ⟨S256x128, .i8⟩
  | .local _ .vmem, ⟨21, _⟩ => ⟨S1x1x256, .f32⟩
  | .local _ .vmem, ⟨22, _⟩ => ⟨S1x1x256, .f32⟩
  | .local _ .vmem, ⟨23, _⟩ => ⟨S256x3072, .bf16⟩
  | .local _ .vmem, ⟨24, _⟩ => ⟨S256x3072, .bf16⟩
  | .local _ .smem, ⟨0, _⟩ => ⟨S1x1, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 32 := Scalar.extui v14
  let c0_i32_7 : BitVec 32 := 0#32
  let v16 : BitVec 1 := Scalar.cmpi .ne v15 c0_i32_7
  v16

def k0_cond3 (i : grid0.Coords) : BitVec 1 :=
  let arg0 : BitVec 32 := BitVec.ofNat 32 (i 0).val
  let c2_i32_8 : BitVec 32 := 2#32
  let c0_i32_9 : BitVec 32 := 0#32
  let v17 : BitVec 1 := Scalar.cmpi .eq c2_i32_8 c0_i32_9
  let c1_i32_10 : BitVec 32 := 1#32
  let v18 : BitVec 32 := Scalar.select v17 c1_i32_10 c2_i32_8
  let v19 : BitVec 32 := Scalar.remsi arg0 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c0_i32_14 : BitVec 32 := 0#32
  let v27 : BitVec 1 := Scalar.cmpi .eq v26 c0_i32_14
  let c0_i32_15 : BitVec 32 := 0#32
  let v28 : BitVec 1 := Scalar.cmpi .sgt arg0 c0_i32_15
  let v29 : BitVec 1 := Scalar.andi v27 v28
  let c32_i32 : BitVec 32 := 32#32
  let v30 : BitVec 1 := Scalar.cmpi .slt arg0 c32_i32
  let v31 : BitVec 1 := Scalar.andi v29 v30
  let v32 : BitVec 32 := Scalar.extui v31
  let c0_i32_16 : BitVec 32 := 0#32
  let v33 : BitVec 1 := Scalar.cmpi .ne v32 c0_i32_16
  v33

def k0_cond4 (i : grid0.Coords) : BitVec 1 :=
  let arg0 : BitVec 32 := BitVec.ofNat 32 (i 0).val
  let c32_i32_17 : BitVec 32 := 32#32
  let v34 : BitVec 1 := Scalar.cmpi .eq arg0 c32_i32_17
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1792 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1792 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvRefIdeal.lean ====
abbrev S8192x3072 : Shape := ⟨2, ![8192, 3072]⟩
abbrev S1x1 : Shape := ⟨2, ![1, 1]⟩
abbrev S8192x64 : Shape := ⟨2, ![8192, 64]⟩
abbrev S1x3072 : Shape := ⟨2, ![1, 3072]⟩
abbrev S3072x1792 : Shape := ⟨2, ![3072, 1792]⟩
abbrev S1x1792 : Shape := ⟨2, ![1, 1792]⟩
abbrev S8192x1536 : Shape := ⟨2, ![8192, 1536]⟩
abbrev S8192x128 : Shape := ⟨2, ![8192, 128]⟩
abbrev S32x1x256 : Shape := ⟨3, ![32, 1, 256]⟩
abbrev S8192 : Shape := ⟨1, ![8192]⟩
abbrev S8192x1 : Shape := ⟨2, ![8192, 1]⟩
abbrev S8192x1792 : Shape := ⟨2, ![8192, 1792]⟩
abbrev S8192x12x128 : Shape := ⟨3, ![8192, 12, 128]⟩
abbrev S8192x12x64 : Shape := ⟨3, ![8192, 12, 64]⟩
abbrev S8192x1x64 : Shape := ⟨3, ![8192, 1, 64]⟩
abbrev S8192x1x128 : Shape := ⟨3, ![8192, 1, 128]⟩

abbrev nBuf : Space → Nat
  | .hbm => 15
  | .vmem => 15
  | .smem => 0
  | _ => 0

abbrev bufTy : (tb : Table) → Fin (tcTables nBuf tb) → BufTy
  | .hbm, ⟨0, _⟩ => ⟨S8192x3072, .bf16⟩
  | .hbm, ⟨1, _⟩ => ⟨S1x1, .f32⟩
  | .hbm, ⟨2, _⟩ => ⟨S8192x64, .f32⟩
  | .hbm, ⟨3, _⟩ => ⟨S8192x64, .f32⟩
  | .hbm, ⟨4, _⟩ => ⟨S1x3072, .f32⟩
  | .hbm, ⟨5, _⟩ => ⟨S1x3072, .f32⟩
  | .hbm, ⟨6, _⟩ => ⟨S3072x1792, .i8⟩
  | .hbm, ⟨7, _⟩ => ⟨S1x1792, .f32⟩
  | .hbm, ⟨8, _⟩ => ⟨S1x1792, .i32⟩
  | .hbm, ⟨9, _⟩ => ⟨S8192x3072, .i8⟩
  | .hbm, ⟨10, _⟩ => ⟨S8192x1536, .bf16⟩
  | .hbm, ⟨11, _⟩ => ⟨S8192x128, .i8⟩
  | .hbm, ⟨12, _⟩ => ⟨S32x1x256, .f32⟩
  | .hbm, ⟨13, _⟩ => ⟨S8192x128, .i8⟩
  | .hbm, ⟨14, _⟩ => ⟨S32x1x256, .f32⟩
  | .local _ .vmem, ⟨0, _⟩ => ⟨S8192x3072, .bf16⟩
  | .local _ .vmem, ⟨1, _⟩ => ⟨S1x1, .f32⟩
  | .local _ .vmem, ⟨2, _⟩ => ⟨S8192x64, .f32⟩
  | .local _ .vmem, ⟨3, _⟩ => ⟨S8192x64, .f32⟩
  | .local _ .vmem, ⟨4, _⟩ => ⟨S1x3072, .f32⟩
  | .local _ .vmem, ⟨5, _⟩ => ⟨S1x3072, .f32⟩
  | .local _ .vmem, ⟨6, _⟩ => ⟨S3072x1792, .i8⟩
  | .local _ .vmem, ⟨7, _⟩ => ⟨S1x1792, .f32⟩
  | .local _ .vmem, ⟨8, _⟩ => ⟨S1x1792, .i32⟩
  | .local _ .vmem, ⟨9, _⟩ => ⟨S8192x3072, .i8⟩
  | .local _ .vmem, ⟨10, _⟩ => ⟨S8192x1536, .bf16⟩
  | .local _ .vmem, ⟨11, _⟩ => ⟨S8192x128, .i8⟩
  | .local _ .vmem, ⟨12, _⟩ => ⟨S32x1x256, .f32⟩
  | .local _ .vmem, ⟨13, _⟩ => ⟨S8192x128, .i8⟩
  | .local _ .vmem, ⟨14, _⟩ => ⟨S32x1x256, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1792 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1792 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3072 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x128 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Oproj.Runs.lean ====
/-
   The kernel `_oproj` over any float layer, in the form in which the generated modules are written:
   what the runs of the body share: the contents of the arrays at the region's entry, the blocks each input stages, the
   conditions of the body in closed form over the point, and when an output is idle or written back.
-/
module

public import proofs.«01_k».proof.Proof.Gen.OprojIdeal.Launch
public import proofs.«01_k».proof.Proof.Gen.OprojIdeal.Skeleton
public import proofs.«01_k».proof.Proof.Gen.OprojIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_OprojIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28 and 30 only — decided over the grid. -/
theorem hcond0_2 : ∀ t : Fin cfg0.N, cond0_2 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30) :=
  (by decide +kernel : ∀ t : Fin grid0.N, cond0_2 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_3, k0_cond4, e0]
    word_cmp
   : ∀ t : Fin grid0.N, cond0_3 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x17fffffff : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → ¬cond0_2 (grid0.coords t) → ¬cond0_3 (grid0.coords t) → cfg0.idle 9 (grid0.coords t) = false :=
  fun t h0 h1 h2 h3 => (by decide +kernel : ∀ t : Fin cfg0.N, conds0_A (grid0.coords t) → cfg0.idle 9 (grid0.coords t) = false) t ⟨h0, h1, h2, h3⟩
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → ¬cond0_3 (grid0.coords t) → cfg0.idle 9 (grid0.coords t) = false :=
  fun t h0 h1 h2 h3 => (by decide +kernel : ∀ t : Fin cfg0.N, conds0_B (grid0.coords t) → cfg0.idle 9 (grid0.coords t) = false) t ⟨h0, h1, h2, h3⟩
/-- At the points of case C the printed configuration (`Cfg.idle`) calls output 9 live: the case stores into it. -/
theorem liveAt0_9_C : ∀ t : Fin cfg0.N, ¬cond0_0 (grid0.coords t) → ¬cond0_1 (grid0.coords t) → cond0_2 (grid0.coords t) → ¬cond0_3 (grid0.coords t) → cfg0.idle 9 (grid0.coords t) = false :=
  fun t h0 h1 h2 h3 => (by decide +kernel : ∀ t : Fin cfg0.N, conds0_C (grid0.coords t) → cfg0.idle 9 (grid0.coords t) = false) t ⟨h0, h1, h2, h3⟩
/-- At the points of case D the printed configuration (`Cfg.idle`) calls output 9 live: the case stores into it. -/
theorem idleAt0_9_D : ∀ t : Fin cfg0.N, ¬cond0_0 (grid0.coords t) → ¬cond0_1 (grid0.coords t) → ¬cond0_2 (grid0.coords t) → cond0_3 (grid0.coords t) → cfg0.idle 9 (grid0.coords t) = true :=
  fun t h0 h1 h2 h3 => (by decide +kernel : ∀ t : Fin cfg0.N, conds0_D (grid0.coords t) → cfg0.idle 9 (grid0.coords t) = true) t ⟨h0, h1, h2, h3⟩
/-- At the points of case D the pipeline writes output 9's block back. -/
theorem flushAt0_9_D : ∀ t : Fin cfg0.N, ¬cond0_0 (grid0.coords t) → ¬cond0_1 (grid0.coords t) → ¬cond0_2 (grid0.coords t) → cond0_3 (grid0.coords t) → (cfg0.win 9).flush t = true :=
  fun t h0 h1 h2 h3 => (by decide +kernel : ∀ t : Fin cfg0.N, conds0_D (grid0.coords t) → (cfg0.win 9).flush t = true) t ⟨h0, h1, h2, h3⟩
/-- At the points of case D, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_D : ∀ t : Fin cfg0.N, ¬cond0_0 (grid0.coords t) → ¬cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_D (grid0.coords t) → cfg0.fresh 9 t.val = false) t ⟨h0, h1, h2, h3⟩
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → ¬cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 live: the case stores into it. -/
theorem liveAt0_10_B : ∀ t : Fin cfg0.N, ¬cond0_0 (grid0.coords t) → cond0_1 (grid0.coords t) → ¬cond0_2 (grid0.coords t) → ¬cond0_3 (grid0.coords t) → cfg0.idle 10 (grid0.coords t) = false :=
  fun t h0 h1 h2 h3 => (by decide +kernel : ∀ t : Fin cfg0.N, conds0_B (grid0.coords t) → cfg0.idle 10 (grid0.coords t) = false) t ⟨h0, h1, h2, h3⟩
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → ¬cond0_3 (grid0.coords t) → cfg0.idle 10 (grid0.coords t) = false :=
  fun t h0 h1 h2 h3 => (by decide +kernel : ∀ t : Fin cfg0.N, conds0_C (grid0.coords t) → cfg0.idle 10 (grid0.coords t) = false) t ⟨h0, h1, h2, h3⟩
/-- At the points of case D the printed configuration (`Cfg.idle`) calls output 10 live: the case stores into it. -/
theorem liveAt0_10_D : ∀ t : Fin cfg0.N, ¬cond0_0 (grid0.coords t) → ¬cond0_1 (grid0.coords t) → ¬cond0_2 (grid0.coords t) → cond0_3 (grid0.coords t) → cfg0.idle 10 (grid0.coords t) = false :=
  fun t h0 h1 h2 h3 => (by decide +kernel : ∀ t : Fin cfg0.N, conds0_D (grid0.coords t) → cfg0.idle 10 (grid0.coords t) = false) t ⟨h0, h1, h2, h3⟩

/-! ## The kernel body on any staging memrefs: a subtype the run finds -/

/-- One staging buffer of output window 9, through which its contents are stated (`View.read_writes_of_cover`: the
    choice does not matter). -/
abbrev VO0_9 : View sig .tc .vmem S256x3072 .f32 := (Memref.whole cc0_stg9_0 : Memref sig .tc .vmem S256x3072 .f32).view
/-- One staging buffer of output window 10, through which its contents are stated (`View.read_writes_of_cover`: the
    choice does not matter). -/
abbrev VO0_10 : View sig .tc .vmem S256x3072 .i8 := (Memref.whole cc0_stg10_0 : Memref sig .tc .vmem S256x3072 .i8).view
/-- Each window's current staging memref at point `t`, spelled as the pipeline passes it (`bodyAt0`), and its wholeness. -/
abbrev ms0_0 (t : Fin cfg0.N) : Memref sig .tc .vmem S256x1536 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x3072 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3072 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x3072 .i8 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x3072 .f32 := Memref.whole cc0_scratch0
abbrev scM0_1 : Memref sig .tc .vmem S256x3072 .f32 := Memref.whole cc0_scratch1
/-- The scratch `a12` the kernel carries between points, as a view: what it holds is stated through it. -/
abbrev VS0_0 : View sig .tc .vmem S256x3072 .f32 := scM0_0.view
/-- The scratch `a13` the kernel carries between points, as a view: what it holds is stated through it. -/
abbrev VS0_1 : View sig .tc .vmem S256x3072 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OprojIdeal.Gen

end
-- ==== Proof.Oproj.RunA.lean ====
/-
   The kernel `_oproj` over any float layer, in the form in which the generated modules are written:
   one whole run of the body, in case A of its conditionals, with the pieces that it leaves in each buffer.
-/
module

public import proofs.«01_k».proof.Proof.Oproj.Runs

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 not taken: points 0), WITH the
    proof that on whole staging memrefs — the inputs' at their contents, the outputs it leaves idle (10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (a1 : Memref sig .tc .vmem S256x1536 .i8) (w1 : a1.IsWhole) (a2 : Memref sig .tc .vmem S1x1x256 .f32) (w2 : a2.IsWhole) (a3 : Memref sig .tc .vmem S256x3072 .bf16) (w3 : a3.IsWhole) (a4 : Memref sig .tc .smem S1x1 .f32) (w4 : a4.IsWhole) (a5 : Memref sig .tc .vmem S1536x3072 .i8) (w5 : a5.IsWhole) (a6 : Memref sig .tc .vmem S1x3072 .f32) (w6 : a6.IsWhole) (a7 : Memref sig .tc .vmem S1x3072 .f32) (w7 : a7.IsWhole) (a8 : Memref sig .tc .vmem S1x3072 .f32) (w8 : a8.IsWhole) (a9 : Memref sig .tc .vmem S1x3072 .f32) (w9 : a9.IsWhole) (a10 : Memref sig .tc .vmem S256x3072 .f32) (w10 : a10.IsWhole) (a11 : Memref sig .tc .vmem S256x3072 .i8) (w11 : a11.IsWhole) (a12 : Memref sig .tc .vmem S256x3072 .f32) (w12 : a12.IsWhole) (a13 : Memref sig .tc .vmem S256x3072 .f32) (w13 : a13.IsWhole) (hc0 : cond0_0 i) (hc1 : ¬cond0_1 i) (hc2 : ¬cond0_2 i) (hc3 : ¬cond0_3 i)
    (x0 : Vec F S256x1536 .i8) (x1 : Vec F S1x1x256 .f32) (x2 : Vec F S256x3072 .bf16) (x3 : Vec F S1x1 .f32) (x4 : Vec F S1536x3072 .i8) (x5 : Vec F S1x3072 .f32) (x6 : Vec F S1x3072 .f32) (x7 : Vec F S1x3072 .f32) (x8 : Vec F S1x3072 .f32) :
    Σ' (L9 : List (View.Piece (Elt F) S256x3072 .f32)), Σ' (L10 : List (View.Piece (Elt F) S256x3072 .i8)), Σ' (LS0 : List (View.Piece (Elt F) S256x3072 .f32)), { LS1 : List (View.Piece (Elt F) S256x3072 .f32) //
      ∀ (xi10 : Vec F S256x3072 .i8) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ owns (c : Thread nD τ) a11 fullShare xi10 ∗ (∃ d, owns (c : Thread nD τ) a12 fullShare d) ∗ (∃ d, owns (c : Thread nD τ) a13 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ owns (c : Thread nD τ) a11 fullShare xi10 ∗ (∃ f, a12.view.loc (c : Thread nD τ) ↦[a12.view.set]{fullShare} a12.view.writes (Elt F) f LS0) ∗ (∃ d, owns (c : Thread nD τ) a13 fullShare d)) -∗ K ⟨⟩))
          ⊢ wp frame (wpE (defs₀ (F := F)) Variants.none c none) E (cc0_oproj i a1 w1 a2 w2 a3 w3 a4 w4 a5 w5 a6 w6 a7 w7 a8 w8 a9 w9 a10 w10 a11 w11 a12 w12 a13 w13) K } := by
  refine ⟨?_, [], ?_, [], fun xi10 E K => ?run⟩
  case run =>
    simp only [cc0_oproj_eq_skeleton]; unfold cc0_oproj_skel
    simp only [k0_part43_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds0, %fs0, -, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w11.eq_unread hf10
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]; · iexists _; iexact H9
    isplitl [H10]
    · iexists _; isplitr; · ipureintro; exact w11.read_unread _
      iexact H10
    isplitl [HS0]; · iexists _; iexact HS0
    iexists _, _; isplitr; swap; · iexact HS1
    ipureintro; rfl

end Cert.OprojIdeal.Gen

end
-- ==== Proof.Oproj.RunB.lean ====
/-
   The kernel `_oproj` over any float layer, in the form in which the generated modules are written:
   one whole run of the body, in case B of its conditionals, with the pieces that it leaves in each buffer.
-/
module

public import proofs.«01_k».proof.Proof.Oproj.RunA

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1056000 in
/-- What the body's stores leave in each output's staging memref, as pieces (last first) IN CASE B (`scf.if` 0 not taken, `scf.if` 1 taken, `scf.if` 2 not taken, `scf.if` 3 not taken: points 1, 3, … 31: 16 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (a1 : Memref sig .tc .vmem S256x1536 .i8) (w1 : a1.IsWhole) (a2 : Memref sig .tc .vmem S1x1x256 .f32) (w2 : a2.IsWhole) (a3 : Memref sig .tc .vmem S256x3072 .bf16) (w3 : a3.IsWhole) (a4 : Memref sig .tc .smem S1x1 .f32) (w4 : a4.IsWhole) (a5 : Memref sig .tc .vmem S1536x3072 .i8) (w5 : a5.IsWhole) (a6 : Memref sig .tc .vmem S1x3072 .f32) (w6 : a6.IsWhole) (a7 : Memref sig .tc .vmem S1x3072 .f32) (w7 : a7.IsWhole) (a8 : Memref sig .tc .vmem S1x3072 .f32) (w8 : a8.IsWhole) (a9 : Memref sig .tc .vmem S1x3072 .f32) (w9 : a9.IsWhole) (a10 : Memref sig .tc .vmem S256x3072 .f32) (w10 : a10.IsWhole) (a11 : Memref sig .tc .vmem S256x3072 .i8) (w11 : a11.IsWhole) (a12 : Memref sig .tc .vmem S256x3072 .f32) (w12 : a12.IsWhole) (a13 : Memref sig .tc .vmem S256x3072 .f32) (w13 : a13.IsWhole) (hc0 : ¬cond0_0 i) (hc1 : cond0_1 i) (hc2 : ¬cond0_2 i) (hc3 : ¬cond0_3 i)
    (x0 : Vec F S256x1536 .i8) (x1 : Vec F S1x1x256 .f32) (x2 : Vec F S256x3072 .bf16) (x3 : Vec F S1x1 .f32) (x4 : Vec F S1536x3072 .i8) (x5 : Vec F S1x3072 .f32) (x6 : Vec F S1x3072 .f32) (x7 : Vec F S1x3072 .f32) (x8 : Vec F S1x3072 .f32) (xs0 : Vec F S256x3072 .f32) :
    Σ' (L9 : List (View.Piece (Elt F) S256x3072 .f32)), Σ' (L10 : List (View.Piece (Elt F) S256x3072 .i8)), Σ' (LS0 : List (View.Piece (Elt F) S256x3072 .f32)), { LS1 : List (View.Piece (Elt F) S256x3072 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ (∃ d, owns (c : Thread nD τ) a11 fullShare d) ∗ owns (c : Thread nD τ) a12 fullShare xs0 ∗ (∃ d, owns (c : Thread nD τ) a13 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ owns (c : Thread nD τ) a12 fullShare xs0 ∗ (∃ f, a13.view.loc (c : Thread nD τ) ↦[a13.view.set]{fullShare} a13.view.writes (Elt F) f LS1)) -∗ K ⟨⟩))
          ⊢ wp frame (wpE (defs₀ (F := F)) Variants.none c none) E (cc0_oproj i a1 w1 a2 w2 a3 w3 a4 w4 a5 w5 a6 w6 a7 w7 a8 w8 a9 w9 a10 w10 a11 w11 a12 w12 a13 w13) K } := by
  refine ⟨?_, ?_, [], ?_, fun E K => ?run⟩
  case run =>
    simp only [cc0_oproj_eq_skeleton]; unfold cc0_oproj_skel
    simp only [k0_part43_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w12.eq_unread hfs0
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]; · iexists _; iexact H9
    isplitl [H10]; · iexists _; iexact H10
    isplitl [HS0]
    · iexists _; isplitr; · ipureintro; exact w12.read_unread _
      iexact HS0
    iexists _; iexact HS1

end Cert.OprojIdeal.Gen

end
-- ==== Proof.Oproj.RunC.lean ====
/-
   The kernel `_oproj` over any float layer, in the form in which the generated modules are written:
   one whole run of the body, in case C of its conditionals, with the pieces that it leaves in each buffer.
-/
module

public import proofs.«01_k».proof.Proof.Oproj.RunB

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1056000 in
/-- What the body's stores leave in each output's staging memref, as pieces (last first) IN CASE C (`scf.if` 0 not taken, `scf.if` 1 not taken, `scf.if` 2 taken, `scf.if` 3 not taken: points 2, 4, … 30: 15 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (a1 : Memref sig .tc .vmem S256x1536 .i8) (w1 : a1.IsWhole) (a2 : Memref sig .tc .vmem S1x1x256 .f32) (w2 : a2.IsWhole) (a3 : Memref sig .tc .vmem S256x3072 .bf16) (w3 : a3.IsWhole) (a4 : Memref sig .tc .smem S1x1 .f32) (w4 : a4.IsWhole) (a5 : Memref sig .tc .vmem S1536x3072 .i8) (w5 : a5.IsWhole) (a6 : Memref sig .tc .vmem S1x3072 .f32) (w6 : a6.IsWhole) (a7 : Memref sig .tc .vmem S1x3072 .f32) (w7 : a7.IsWhole) (a8 : Memref sig .tc .vmem S1x3072 .f32) (w8 : a8.IsWhole) (a9 : Memref sig .tc .vmem S1x3072 .f32) (w9 : a9.IsWhole) (a10 : Memref sig .tc .vmem S256x3072 .f32) (w10 : a10.IsWhole) (a11 : Memref sig .tc .vmem S256x3072 .i8) (w11 : a11.IsWhole) (a12 : Memref sig .tc .vmem S256x3072 .f32) (w12 : a12.IsWhole) (a13 : Memref sig .tc .vmem S256x3072 .f32) (w13 : a13.IsWhole) (hc0 : ¬cond0_0 i) (hc1 : ¬cond0_1 i) (hc2 : cond0_2 i) (hc3 : ¬cond0_3 i)
    (x0 : Vec F S256x1536 .i8) (x1 : Vec F S1x1x256 .f32) (x2 : Vec F S256x3072 .bf16) (x3 : Vec F S1x1 .f32) (x4 : Vec F S1536x3072 .i8) (x5 : Vec F S1x3072 .f32) (x6 : Vec F S1x3072 .f32) (x7 : Vec F S1x3072 .f32) (x8 : Vec F S1x3072 .f32) (xs1 : Vec F S256x3072 .f32) :
    Σ' (L9 : List (View.Piece (Elt F) S256x3072 .f32)), Σ' (L10 : List (View.Piece (Elt F) S256x3072 .i8)), Σ' (LS0 : List (View.Piece (Elt F) S256x3072 .f32)), { LS1 : List (View.Piece (Elt F) S256x3072 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ (∃ d, owns (c : Thread nD τ) a11 fullShare d) ∗ (∃ d, owns (c : Thread nD τ) a12 fullShare d) ∗ owns (c : Thread nD τ) a13 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f LS0) ∗ owns (c : Thread nD τ) a13 fullShare xs1) -∗ K ⟨⟩))
          ⊢ wp frame (wpE (defs₀ (F := F)) Variants.none c none) E (cc0_oproj i a1 w1 a2 w2 a3 w3 a4 w4 a5 w5 a6 w6 a7 w7 a8 w8 a9 w9 a10 w10 a11 w11 a12 w12 a13 w13) K } := by
  refine ⟨?_, ?_, ?_, [], fun E K => ?run⟩
  case run =>
    simp only [cc0_oproj_eq_skeleton]; unfold cc0_oproj_skel
    simp only [k0_part43_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%fs1, %hfs1, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w13.eq_unread hfs1
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]; · iexists _; iexact H9
    isplitl [H10]; · iexists _; iexact H10
    isplitl [HS0]; · iexists _; iexact HS0
    iexists _; isplitr; · ipureintro; exact w13.read_unread _
    iexact HS1

end Cert.OprojIdeal.Gen

end
-- ==== Proof.Oproj.RunD.lean ====
/-
   The kernel `_oproj` over any float layer, in the form in which the generated modules are written:
   one whole run of the body, in case D of its conditionals, with the pieces that it leaves in each buffer.
-/
module

public import proofs.«01_k».proof.Proof.Oproj.RunC

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 32), WITH the
    proof that on whole staging memrefs — the inputs' at their contents, the outputs it reads before covering (9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (a1 : Memref sig .tc .vmem S256x1536 .i8) (w1 : a1.IsWhole) (a2 : Memref sig .tc .vmem S1x1x256 .f32) (w2 : a2.IsWhole) (a3 : Memref sig .tc .vmem S256x3072 .bf16) (w3 : a3.IsWhole) (a4 : Memref sig .tc .smem S1x1 .f32) (w4 : a4.IsWhole) (a5 : Memref sig .tc .vmem S1536x3072 .i8) (w5 : a5.IsWhole) (a6 : Memref sig .tc .vmem S1x3072 .f32) (w6 : a6.IsWhole) (a7 : Memref sig .tc .vmem S1x3072 .f32) (w7 : a7.IsWhole) (a8 : Memref sig .tc .vmem S1x3072 .f32) (w8 : a8.IsWhole) (a9 : Memref sig .tc .vmem S1x3072 .f32) (w9 : a9.IsWhole) (a10 : Memref sig .tc .vmem S256x3072 .f32) (w10 : a10.IsWhole) (a11 : Memref sig .tc .vmem S256x3072 .i8) (w11 : a11.IsWhole) (a12 : Memref sig .tc .vmem S256x3072 .f32) (w12 : a12.IsWhole) (a13 : Memref sig .tc .vmem S256x3072 .f32) (w13 : a13.IsWhole) (hc0 : ¬cond0_0 i) (hc1 : ¬cond0_1 i) (hc2 : ¬cond0_2 i) (hc3 : cond0_3 i)
    (x0 : Vec F S256x1536 .i8) (x1 : Vec F S1x1x256 .f32) (x2 : Vec F S256x3072 .bf16) (x3 : Vec F S1x1 .f32) (x4 : Vec F S1536x3072 .i8) (x5 : Vec F S1x3072 .f32) (x6 : Vec F S1x3072 .f32) (x7 : Vec F S1x3072 .f32) (x8 : Vec F S1x3072 .f32) (xo9 : Vec F S256x3072 .f32) (xs0 : Vec F S256x3072 .f32) (xs1 : Vec F S256x3072 .f32) :
    Σ' (L9 : List (View.Piece (Elt F) S256x3072 .f32)), Σ' (L10 : List (View.Piece (Elt F) S256x3072 .i8)), Σ' (LS0 : List (View.Piece (Elt F) S256x3072 .f32)), { LS1 : List (View.Piece (Elt F) S256x3072 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare xo9 ∗ (∃ d, owns (c : Thread nD τ) a11 fullShare d) ∗ owns (c : Thread nD τ) a12 fullShare xs0 ∗ owns (c : Thread nD τ) a13 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare xo9 ∗ (∃ f, a11.view.loc (c : Thread nD τ) ↦[a11.view.set]{fullShare} a11.view.writes (Elt F) f L10) ∗ owns (c : Thread nD τ) a12 fullShare xs0 ∗ owns (c : Thread nD τ) a13 fullShare xs1) -∗ K ⟨⟩))
          ⊢ wp frame (wpE (defs₀ (F := F)) Variants.none c none) E (cc0_oproj i a1 w1 a2 w2 a3 w3 a4 w4 a5 w5 a6 w6 a7 w7 a8 w8 a9 w9 a10 w10 a11 w11 a12 w12 a13 w13) K } := by
  refine ⟨[], ?_, [], [], fun E K => ?run⟩
  case run =>
    simp only [cc0_oproj_eq_skeleton]; unfold cc0_oproj_skel
    simp only [k0_part43_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w12.eq_unread hfs0; obtain rfl := w13.eq_unread hfs1
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]; · iexists _; iexact H10
    isplitl [HS0]
    · iexists _; isplitr; · ipureintro; exact w12.read_unread _
      iexact HS0
    iexists _; isplitr; · ipureintro; exact w13.read_unread _
    iexact HS1

end Cert.OprojIdeal.Gen

end
-- ==== Proof.Oproj.FrameDefs.lean ====
/-
   The kernel `_oproj` over any float layer, in the form in which the generated modules are written:
   what each case leaves in the outputs and in the two scratch buffers, the contents after every point of the grid, the
   proof data of the pipeline, the body obligation at every point, the launch and the frame.

   The second scratch buffer is first stored at point 1. The invariant before a point therefore names its contents from the
   second point on only (`PhiS`); after point 0 it holds anything.
-/
module

public import proofs.«01_k».proof.Proof.Oproj.RunD
public import Idealize.ShloMosaic.Lib.Claim

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (a1 : Memref sig .tc .vmem S256x1536 .i8) (w1 : a1.IsWhole)
  (a2 : Memref sig .tc .vmem S1x1x256 .f32) (w2 : a2.IsWhole) (a3 : Memref sig .tc .vmem S256x3072 .bf16)
  (w3 : a3.IsWhole) (a4 : Memref sig .tc .smem S1x1 .f32) (w4 : a4.IsWhole)
  (a5 : Memref sig .tc .vmem S1536x3072 .i8) (w5 : a5.IsWhole) (a6 : Memref sig .tc .vmem S1x3072 .f32)
  (w6 : a6.IsWhole) (a7 : Memref sig .tc .vmem S1x3072 .f32) (w7 : a7.IsWhole)
  (a8 : Memref sig .tc .vmem S1x3072 .f32) (w8 : a8.IsWhole) (a9 : Memref sig .tc .vmem S1x3072 .f32)
  (w9 : a9.IsWhole) (a10 : Memref sig .tc .vmem S256x3072 .f32) (w10 : a10.IsWhole)
  (a11 : Memref sig .tc .vmem S256x3072 .i8) (w11 : a11.IsWhole) (a12 : Memref sig .tc .vmem S256x3072 .f32)
  (w12 : a12.IsWhole) (a13 : Memref sig .tc .vmem S256x3072 .f32) (w13 : a13.IsWhole) (hc0 : cond0_0 i)
  (hc1 : ¬cond0_1 i) (hc2 : ¬cond0_2 i) (hc3 : ¬cond0_3 i) (x0 : Vec F S256x1536 .i8) (x1 : Vec F S1x1x256 .f32)
  (x2 : Vec F S256x3072 .bf16) (x3 : Vec F S1x1 .f32) (x4 : Vec F S1536x3072 .i8) (x5 : Vec F S1x3072 .f32)
  (x6 : Vec F S1x3072 .f32) (x7 : Vec F S1x3072 .f32) (x8 : Vec F S1x3072 .f32)

/-- Case A's pieces for output 9 tile its block (12 stores of `S256x256`, checked by the kernel's evaluation: Lib/Ring.lean `Piece.tiledL`, linear in the pieces, through a loop's `@[irreducible]` trip theorem too), so they cover it. -/
theorem cover0_A_9 (y : S256x3072.Idx) :
    ∃ pc ∈ (kernelRun0_A c i a1 w1 a2 w2 a3 w3 a4 w4 a5 w5 a6 w6 a7 w7 a8 w8 a9 w9 a10 w10 a11 w11 a12 w12 a13 w13 hc0 hc1 hc2 hc3 x0 x1 x2 x3 x4 x5 x6 x7 x8).1, y ∈ pc.1.set :=
  View.cover_of_tiledL (s := S256x3072) _ S256x256.size (by sl_kernel_rfl) y

/-- What case A leaves in output 9's staging buffer: its pieces read back over junk. -/
def out0_A_9 : Vec F S256x3072 .f32 :=
  VO0_9.read (Elt F) (VO0_9.writes (Elt F) VO0_9.junk (kernelRun0_A c i a1 w1 a2 w2 a3 w3 a4 w4 a5 w5 a6 w6 a7 w7 a8 w8 a9 w9 a10 w10 a11 w11 a12 w12 a13 w13 hc0 hc1 hc2 hc3 x0 x1 x2 x3 x4 x5 x6 x7 x8).1)

/-- Case A stores nothing into output 10 (the window is idle at its points and not written back there):
    no pieces — a placeholder (junk read back) that nothing consults, since at these points the window is neither
    written back nor read at the next point (Lib/Pipeline.lean "Idle points"). -/
def out0_A_10 : Vec F S256x3072 .i8 :=
  VO0_10.read (Elt F) (VO0_10.writes (Elt F) VO0_10.junk (kernelRun0_A c i a1 w1 a2 w2 a3 w3 a4 w4 a5 w5 a6 w6 a7 w7 a8 w8 a9 w9 a10 w10 a11 w11 a12 w12 a13 w13 hc0 hc1 hc2 hc3 x0 x1 x2 x3 x4 x5 x6 x7 x8).2.1)

/-- Case A's pieces for scratch `a12`, which the kernel carries between points, cover it: 12 pieces of `S256x256` tiling it (Lib/Ring.lean `Piece.tiledL`). -/
theorem scover0_A_0 (y : S256x3072.Idx) :
    ∃ pc ∈ (kernelRun0_A c i a1 w1 a2 w2 a3 w3 a4 w4 a5 w5 a6 w6 a7 w7 a8 w8 a9 w9 a10 w10 a11 w11 a12 w12 a13 w13 hc0 hc1 hc2 hc3 x0 x1 x2 x3 x4 x5 x6 x7 x8).2.2.1, y ∈ pc.1.set :=
  View.cover_of_tiledL (s := S256x3072) _ S256x256.size (by sl_kernel_rfl) y

/-- What case A leaves in scratch `a12`: its pieces read back over junk. -/
def sout0_A_0 : Vec F S256x3072 .f32 :=
  VS0_0.read (Elt F) (VS0_0.writes (Elt F) VS0_0.junk (kernelRun0_A c i a1 w1 a2 w2 a3 w3 a4 w4 a5 w5 a6 w6 a7 w7 a8 w8 a9 w9 a10 w10 a11 w11 a12 w12 a13 w13 hc0 hc1 hc2 hc3 x0 x1 x2 x3 x4 x5 x6 x7 x8).2.2.1)

end CaseA

section CaseB

variable (c : Dev nD) (i : grid0.Coords) (a1 : Memref sig .tc .vmem S256x1536 .i8) (w1 : a1.IsWhole)
  (a2 : Memref sig .tc .vmem S1x1x256 .f32) (w2 : a2.IsWhole) (a3 : Memref sig .tc .vmem S256x3072 .bf16)
  (w3 : a3.IsWhole) (a4 : Memref sig .tc .smem S1x1 .f32) (w4 : a4.IsWhole)
  (a5 : Memref sig .tc .vmem S1536x3072 .i8) (w5 : a5.IsWhole) (a6 : Memref sig .tc .vmem S1x3072 .f32)
  (w6 : a6.IsWhole) (a7 : Memref sig .tc .vmem S1x3072 .f32) (w7 : a7.IsWhole)
  (a8 : Memref sig .tc .vmem S1x3072 .f32) (w8 : a8.IsWhole) (a9 : Memref sig .tc .vmem S1x3072 .f32)
  (w9 : a9.IsWhole) (a10 : Memref sig .tc .vmem S256x3072 .f32) (w10 : a10.IsWhole)
  (a11 : Memref sig .tc .vmem S256x3072 .i8) (w11 : a11.IsWhole) (a12 : Memref sig .tc .vmem S256x3072 .f32)
  (w12 : a12.IsWhole) (a13 : Memref sig .tc .vmem S256x3072 .f32) (w13 : a13.IsWhole) (hc0 : ¬cond0_0 i)
  (hc1 : cond0_1 i) (hc2 : ¬cond0_2 i) (hc3 : ¬cond0_3 i) (x0 : Vec F S256x1536 .i8) (x1 : Vec F S1x1x256 .f32)
  (x2 : Vec F S256x3072 .bf16) (x3 : Vec F S1x1 .f32) (x4 : Vec F S1536x3072 .i8) (x5 : Vec F S1x3072 .f32)
  (x6 : Vec F S1x3072 .f32) (x7 : Vec F S1x3072 .f32) (x8 : Vec F S1x3072 .f32) (xs0 : Vec F S256x3072 .f32)

/-- Case B's pieces for output 9 tile its block (12 stores of `S256x256`, checked by the kernel's evaluation: Lib/Ring.lean `Piece.tiledL`, linear in the pieces, through a loop's `@[irreducible]` trip theorem too), so they cover it. -/
theorem cover0_B_9 (y : S256x3072.Idx) :
    ∃ pc ∈ (kernelRun0_B c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs0).1, y ∈ pc.1.set :=
  View.cover_of_tiledL (s := S256x3072) _ S256x256.size (by sl_kernel_rfl) y

/-- What case B leaves in output 9's staging buffer: its pieces read back over junk. -/
def out0_B_9 : Vec F S256x3072 .f32 :=
  VO0_9.read (Elt F) (VO0_9.writes (Elt F) VO0_9.junk (kernelRun0_B c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs0).1)

/-- Case B's pieces for output 10 tile its block (8 stores of `S32x3072`, checked by the kernel's evaluation: Lib/Ring.lean `Piece.tiledL`, linear in the pieces, through a loop's `@[irreducible]` trip theorem too), so they cover it. -/
theorem cover0_B_10 (y : S256x3072.Idx) :
    ∃ pc ∈ (kernelRun0_B c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs0).2.1, y ∈ pc.1.set :=
  View.cover_of_tiledL (s := S256x3072) _ S32x3072.size (by sl_kernel_rfl) y

/-- What case B leaves in output 10's staging buffer: its pieces read back over junk. -/
def out0_B_10 : Vec F S256x3072 .i8 :=
  VO0_10.read (Elt F) (VO0_10.writes (Elt F) VO0_10.junk (kernelRun0_B c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs0).2.1)

/-- Case B's pieces for scratch `a13`, which the kernel carries between points, cover it: 12 pieces of `S256x256` tiling it (Lib/Ring.lean `Piece.tiledL`). -/
theorem scover0_B_1 (y : S256x3072.Idx) :
    ∃ pc ∈ (kernelRun0_B c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs0).2.2.2.1, y ∈ pc.1.set :=
  View.cover_of_tiledL (s := S256x3072) _ S256x256.size (by sl_kernel_rfl) y

/-- What case B leaves in scratch `a13`: its pieces read back over junk. -/
def sout0_B_1 : Vec F S256x3072 .f32 :=
  VS0_1.read (Elt F) (VS0_1.writes (Elt F) VS0_1.junk (kernelRun0_B c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs0).2.2.2.1)

end CaseB

section CaseC

variable (c : Dev nD) (i : grid0.Coords) (a1 : Memref sig .tc .vmem S256x1536 .i8) (w1 : a1.IsWhole)
  (a2 : Memref sig .tc .vmem S1x1x256 .f32) (w2 : a2.IsWhole) (a3 : Memref sig .tc .vmem S256x3072 .bf16)
  (w3 : a3.IsWhole) (a4 : Memref sig .tc .smem S1x1 .f32) (w4 : a4.IsWhole)
  (a5 : Memref sig .tc .vmem S1536x3072 .i8) (w5 : a5.IsWhole) (a6 : Memref sig .tc .vmem S1x3072 .f32)
  (w6 : a6.IsWhole) (a7 : Memref sig .tc .vmem S1x3072 .f32) (w7 : a7.IsWhole)
  (a8 : Memref sig .tc .vmem S1x3072 .f32) (w8 : a8.IsWhole) (a9 : Memref sig .tc .vmem S1x3072 .f32)
  (w9 : a9.IsWhole) (a10 : Memref sig .tc .vmem S256x3072 .f32) (w10 : a10.IsWhole)
  (a11 : Memref sig .tc .vmem S256x3072 .i8) (w11 : a11.IsWhole) (a12 : Memref sig .tc .vmem S256x3072 .f32)
  (w12 : a12.IsWhole) (a13 : Memref sig .tc .vmem S256x3072 .f32) (w13 : a13.IsWhole) (hc0 : ¬cond0_0 i)
  (hc1 : ¬cond0_1 i) (hc2 : cond0_2 i) (hc3 : ¬cond0_3 i) (x0 : Vec F S256x1536 .i8) (x1 : Vec F S1x1x256 .f32)
  (x2 : Vec F S256x3072 .bf16) (x3 : Vec F S1x1 .f32) (x4 : Vec F S1536x3072 .i8) (x5 : Vec F S1x3072 .f32)
  (x6 : Vec F S1x3072 .f32) (x7 : Vec F S1x3072 .f32) (x8 : Vec F S1x3072 .f32) (xs1 : Vec F S256x3072 .f32)

/-- Case C's pieces for output 9 tile its block (12 stores of `S256x256`, checked by the kernel's evaluation: Lib/Ring.lean `Piece.tiledL`, linear in the pieces, through a loop's `@[irreducible]` trip theorem too), so they cover it. -/
theorem cover0_C_9 (y : S256x3072.Idx) :
    ∃ pc ∈ (kernelRun0_C c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs1).1, y ∈ pc.1.set :=
  View.cover_of_tiledL (s := S256x3072) _ S256x256.size (by sl_kernel_rfl) y

/-- What case C leaves in output 9's staging buffer: its pieces read back over junk. -/
def out0_C_9 : Vec F S256x3072 .f32 :=
  VO0_9.read (Elt F) (VO0_9.writes (Elt F) VO0_9.junk (kernelRun0_C c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs1).1)

/-- Case C's pieces for output 10 tile its block (8 stores of `S32x3072`, checked by the kernel's evaluation: Lib/Ring.lean `Piece.tiledL`, linear in the pieces, through a loop's `@[irreducible]` trip theorem too), so they cover it. -/
theorem cover0_C_10 (y : S256x3072.Idx) :
    ∃ pc ∈ (kernelRun0_C c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs1).2.1, y ∈ pc.1.set :=
  View.cover_of_tiledL (s := S256x3072) _ S32x3072.size (by sl_kernel_rfl) y

/-- What case C leaves in output 10's staging buffer: its pieces read back over junk. -/
def out0_C_10 : Vec F S256x3072 .i8 :=
  VO0_10.read (Elt F) (VO0_10.writes (Elt F) VO0_10.junk (kernelRun0_C c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs1).2.1)

/-- Case C's pieces for scratch `a12`, which the kernel carries between points, cover it: 12 pieces of `S256x256` tiling it (Lib/Ring.lean `Piece.tiledL`). -/
theorem scover0_C_0 (y : S256x3072.Idx) :
    ∃ pc ∈ (kernelRun0_C c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs1).2.2.1, y ∈ pc.1.set :=
  View.cover_of_tiledL (s := S256x3072) _ S256x256.size (by sl_kernel_rfl) y

/-- What case C leaves in scratch `a12`: its pieces read back over junk. -/
def sout0_C_0 : Vec F S256x3072 .f32 :=
  VS0_0.read (Elt F) (VS0_0.writes (Elt F) VS0_0.junk (kernelRun0_C c i a1 w1 a2 w2 a3 w3 a4 w4 a5 w5 a6 w6 a7 w7 a8 w8 a9 w9 a10 w10 a11 w11 a12 w12 a13 w13 hc0 hc1 hc2 hc3 x0 x1 x2 x3 x4 x5 x6 x7 x8 xs1).2.2.1)

end CaseC

section CaseD

variable (c : Dev nD) (i : grid0.Coords) (a1 : Memref sig .tc .vmem S256x1536 .i8) (w1 : a1.IsWhole)
  (a2 : Memref sig .tc .vmem S1x1x256 .f32) (w2 : a2.IsWhole) (a3 : Memref sig .tc .vmem S256x3072 .bf16)
  (w3 : a3.IsWhole) (a4 : Memref sig .tc .smem S1x1 .f32) (w4 : a4.IsWhole)
  (a5 : Memref sig .tc .vmem S1536x3072 .i8) (w5 : a5.IsWhole) (a6 : Memref sig .tc .vmem S1x3072 .f32)
  (w6 : a6.IsWhole) (a7 : Memref sig .tc .vmem S1x3072 .f32) (w7 : a7.IsWhole)
  (a8 : Memref sig .tc .vmem S1x3072 .f32) (w8 : a8.IsWhole) (a9 : Memref sig .tc .vmem S1x3072 .f32)
  (w9 : a9.IsWhole) (a10 : Memref sig .tc .vmem S256x3072 .f32) (w10 : a10.IsWhole)
  (a11 : Memref sig .tc .vmem S256x3072 .i8) (w11 : a11.IsWhole) (a12 : Memref sig .tc .vmem S256x3072 .f32)
  (w12 : a12.IsWhole) (a13 : Memref sig .tc .vmem S256x3072 .f32) (w13 : a13.IsWhole) (hc0 : ¬cond0_0 i)
  (hc1 : ¬cond0_1 i) (hc2 : ¬cond0_2 i) (hc3 : cond0_3 i) (x0 : Vec F S256x1536 .i8) (x1 : Vec F S1x1x256 .f32)
  (x2 : Vec F S256x3072 .bf16) (x3 : Vec F S1x1 .f32) (x4 : Vec F S1536x3072 .i8) (x5 : Vec F S1x3072 .f32)
  (x6 : Vec F S1x3072 .f32) (x7 : Vec F S1x3072 .f32) (x8 : Vec F S1x3072 .f32) (xo9 : Vec F S256x3072 .f32)
  (xs0 : Vec F S256x3072 .f32) (xs1 : Vec F S256x3072 .f32)

/-- Case D's pieces for output 10 tile its block (8 stores of `S32x3072`, checked by the kernel's evaluation: Lib/Ring.lean `Piece.tiledL`, linear in the pieces, through a loop's `@[irreducible]` trip theorem too), so they cover it. -/
theorem cover0_D_10 (y : S256x3072.Idx) :
    ∃ pc ∈ (kernelRun0_D c i a1 w1 a2 w2 a3 w3 a4 w4 a5 w5 a6 w6 a7 w7 a8 w8 a9 w9 a10 w10 a11 w11 a12 w12 a13 w13 hc0 hc1 hc2 hc3 x0 x1 x2 x3 x4 x5 x6 x7 x8 xo9 xs0 xs1).2.1, y ∈ pc.1.set :=
  View.cover_of_tiledL (s := S256x3072) _ S32x3072.size (by sl_kernel_rfl) y

/-- What case D leaves in output 10's staging buffer: its pieces read back over junk. -/
def out0_D_10 : Vec F S256x3072 .i8 :=
  VO0_10.read (Elt F) (VO0_10.writes (Elt F) VO0_10.junk (kernelRun0_D c i a1 w1 a2 w2 a3 w3 a4 w4 a5 w5 a6 w6 a7 w7 a8 w8 a9 w9 a10 w10 a11 w11 a12 w12 a13 w13 hc0 hc1 hc2 hc3 x0 x1 x2 x3 x4 x5 x6 x7 x8 xo9 xs0 xs1).2.1)

end CaseD

/-! ## What the outputs hold after each point -/

/-- What case A leaves at a point: the outputs in window order, then the scratch. -/
def leftA (c : Dev nD) (t : Fin cfg0.N) (h0 : t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    Vec F S256x3072 .f32 × Vec F S256x3072 .i8 × Vec F S256x3072 .f32 × Vec F S256x3072 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), VS0_1.read (Elt F) VS0_1.junk)

/-- What case B leaves at a point over what the point before left: the outputs in window order, then the scratch. -/
def leftB (c : Dev nD) (t : Fin cfg0.N) (h0 : ¬t.val % 33 = 0) (h1 : t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) (p : Vec F S256x3072 .f32 × Vec F S256x3072 .i8 × Vec F S256x3072 .f32 × Vec F S256x3072 .f32) :
    Vec F S256x3072 .f32 × Vec F S256x3072 .i8 × Vec F S256x3072 .f32 × Vec F S256x3072 .f32 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.1, p.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.1)

/-- What case C leaves at a point over what the point before left: the outputs in window order, then the scratch. -/
def leftC (c : Dev nD) (t : Fin cfg0.N) (h0 : ¬t.val % 33 = 0) (h1 : ¬t.val % 2 = 1) (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) (p : Vec F S256x3072 .f32 × Vec F S256x3072 .i8 × Vec F S256x3072 .f32 × Vec F S256x3072 .f32) :
    Vec F S256x3072 .f32 × Vec F S256x3072 .i8 × Vec F S256x3072 .f32 × Vec F S256x3072 .f32 :=
  (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2, p.2.2.2)

/-- What case D leaves at a point over what the point before left: the outputs in window order, then the scratch. -/
def leftD (c : Dev nD) (t : Fin cfg0.N) (h0 : ¬t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : t.val % 33 = 32) (p : Vec F S256x3072 .f32 × Vec F S256x3072 .i8 × Vec F S256x3072 .f32 × Vec F S256x3072 .f32) :
    Vec F S256x3072 .f32 × Vec F S256x3072 .i8 × Vec F S256x3072 .f32 × Vec F S256x3072 .f32 :=
  (p.1, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) p.1 p.2.2.1 p.2.2.2, p.2.2.1, p.2.2.2)

/-- What the point after position `n` leaves over what position `n` left: the case that the closed forms select there. -/
def stepAt (c : Dev nD) (n : ℕ) (hn : n + 1 < cfg0.N) (p : Vec F S256x3072 .f32 × Vec F S256x3072 .i8 × Vec F S256x3072 .f32 × Vec F S256x3072 .f32) :
    Vec F S256x3072 .f32 × Vec F S256x3072 .i8 × Vec F S256x3072 .f32 × Vec F S256x3072 .f32 :=
  if h0 : (n + 1) % 33 = 0 then
    if h1 : (n + 1) % 2 = 1 then
      False.elim (by have hN : n + 1 < 33 := lt_of_lt_of_eq hn (show cfg0.N = 33 from N_0); omega)
    else
      if h2 : ((n + 1) % 33 = 2 ∨ (n + 1) % 33 = 4 ∨ (n + 1) % 33 = 6 ∨ (n + 1) % 33 = 8 ∨ (n + 1) % 33 = 10 ∨ (n + 1) % 33 = 12 ∨ (n + 1) % 33 = 14 ∨ (n + 1) % 33 = 16 ∨ (n + 1) % 33 = 18 ∨ (n + 1) % 33 = 20 ∨ (n + 1) % 33 = 22 ∨ (n + 1) % 33 = 24 ∨ (n + 1) % 33 = 26 ∨ (n + 1) % 33 = 28 ∨ (n + 1) % 33 = 30) then
        False.elim (by have hN : n + 1 < 33 := lt_of_lt_of_eq hn (show cfg0.N = 33 from N_0); omega)
      else
        if h3 : (n + 1) % 33 = 32 then
          False.elim (by have hN : n + 1 < 33 := lt_of_lt_of_eq hn (show cfg0.N = 33 from N_0); omega)
        else
          leftA m c ⟨n + 1, hn⟩ h0 h1 h2 h3
  else
    if h1 : (n + 1) % 2 = 1 then
      if h2 : ((n + 1) % 33 = 2 ∨ (n + 1) % 33 = 4 ∨ (n + 1) % 33 = 6 ∨ (n + 1) % 33 = 8 ∨ (n + 1) % 33 = 10 ∨ (n + 1) % 33 = 12 ∨ (n + 1) % 33 = 14 ∨ (n + 1) % 33 = 16 ∨ (n + 1) % 33 = 18 ∨ (n + 1) % 33 = 20 ∨ (n + 1) % 33 = 22 ∨ (n + 1) % 33 = 24 ∨ (n + 1) % 33 = 26 ∨ (n + 1) % 33 = 28 ∨ (n + 1) % 33 = 30) then
        False.elim (by have hN : n + 1 < 33 := lt_of_lt_of_eq hn (show cfg0.N = 33 from N_0); omega)
      else
        if h3 : (n + 1) % 33 = 32 then
          False.elim (by have hN : n + 1 < 33 := lt_of_lt_of_eq hn (show cfg0.N = 33 from N_0); omega)
        else
          leftB m c ⟨n + 1, hn⟩ h0 h1 h2 h3 p
    else
      if h2 : ((n + 1) % 33 = 2 ∨ (n + 1) % 33 = 4 ∨ (n + 1) % 33 = 6 ∨ (n + 1) % 33 = 8 ∨ (n + 1) % 33 = 10 ∨ (n + 1) % 33 = 12 ∨ (n + 1) % 33 = 14 ∨ (n + 1) % 33 = 16 ∨ (n + 1) % 33 = 18 ∨ (n + 1) % 33 = 20 ∨ (n + 1) % 33 = 22 ∨ (n + 1) % 33 = 24 ∨ (n + 1) % 33 = 26 ∨ (n + 1) % 33 = 28 ∨ (n + 1) % 33 = 30) then
        if h3 : (n + 1) % 33 = 32 then
          False.elim (by have hN : n + 1 < 33 := lt_of_lt_of_eq hn (show cfg0.N = 33 from N_0); omega)
        else
          leftC m c ⟨n + 1, hn⟩ h0 h1 h2 h3 p
      else
        if h3 : (n + 1) % 33 = 32 then
          leftD m c ⟨n + 1, hn⟩ h0 h1 h2 h3 p
        else
          False.elim (by have hN : n + 1 < 33 := lt_of_lt_of_eq hn (show cfg0.N = 33 from N_0); omega)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x3072 .f32 × Vec F S256x3072 .i8 × Vec F S256x3072 .f32 × Vec F S256x3072 .f32
  | 0, hn => leftA m c ⟨0, hn⟩ rfl (by dsimp only; omega) (by dsimp only; omega) (by dsimp only; omega)
  | n + 1, hn => stepAt m c n hn (outsAt0 c n (Nat.lt_of_succ_lt hn))

/-- `outsAt0` at a point of case A: that case's contents. -/
theorem outsAt0_A (c : Dev nD) (t : Fin cfg0.N) (h0 : t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    outsAt0 m c t.val t.isLt = leftA m c t h0 h1 h2 h3 := by
  obtain ⟨n, hn⟩ := t
  cases n with
  | zero => exact rfl
  | succ n => exact (show outsAt0 m c (n + 1) hn = stepAt m c n hn (outsAt0 m c n (Nat.lt_of_succ_lt hn)) from rfl).trans ((dif_pos h0).trans ((dif_neg h1).trans ((dif_neg h2).trans ((dif_neg h3).trans rfl))))

/-- `outsAt0` at a point of case B: that case's contents, over what the point before left. -/
theorem outsAt0_B (c : Dev nD) (t : Fin cfg0.N) (h0 : ¬t.val % 33 = 0) (h1 : t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    outsAt0 m c t.val t.isLt = leftB m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (show outsAt0 m c (n + 1) hn = stepAt m c n hn (outsAt0 m c n (Nat.lt_of_succ_lt hn)) from rfl).trans ((dif_neg h0).trans ((dif_pos h1).trans ((dif_neg h2).trans ((dif_neg h3).trans rfl))))

/-- `outsAt0` at a point of case C: that case's contents, over what the point before left. -/
theorem outsAt0_C (c : Dev nD) (t : Fin cfg0.N) (h0 : ¬t.val % 33 = 0) (h1 : ¬t.val % 2 = 1) (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    outsAt0 m c t.val t.isLt = leftC m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (show outsAt0 m c (n + 1) hn = stepAt m c n hn (outsAt0 m c n (Nat.lt_of_succ_lt hn)) from rfl).trans ((dif_neg h0).trans ((dif_neg h1).trans ((dif_pos h2).trans ((dif_neg h3).trans rfl))))

/-- `outsAt0` at a point of case D: that case's contents, over what the point before left. -/
theorem outsAt0_D (c : Dev nD) (t : Fin cfg0.N) (h0 : ¬t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : t.val % 33 = 32) :
    outsAt0 m c t.val t.isLt = leftD m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (show outsAt0 m c (n + 1) hn = stepAt m c n hn (outsAt0 m c n (Nat.lt_of_succ_lt hn)) from rfl).trans ((dif_neg h0).trans ((dif_neg h1).trans ((dif_neg h2).trans ((dif_pos h3).trans rfl))))

end Cert.OprojIdeal.Gen

end
-- ==== Proof.Oproj.Frame.lean ====
/-
   The kernel `_oproj` over any float layer, in the form in which the generated modules are written:
   what each case leaves in the outputs and in the two scratch buffers, the contents after every point of the grid, the
   proof data of the pipeline, the body obligation at every point, the launch and the frame.

   The second scratch buffer is first stored at point 1. The invariant before a point therefore names its contents from the
   second point on only (`PhiS`); after point 0 it holds anything.
-/
module

public import proofs.«01_k».proof.Proof.Oproj.FrameDefs
public import Idealize.ShloMosaic.Lib.Claim

@[expose] public section

-- membership in a rectangle of production extents (`View.cover_of_tiled`): the elaborator's structural look
-- recurses once per coordinate of the long axes
set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ (∃ d, ⌜n ≠ 0 → d = ((outsAt0 m c n hn).2.2.2)⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, ⌜n ≠ 0 → d = ((outsAt0 m c n hn).2.2.2)⌝ ∗ owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, ⌜(n - 1) ≠ 0 → d = ((outsAt0 m c (n - 1) (by omega)).2.2.2)⌝ ∗ owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 33 := lt_of_lt_of_eq t.isLt (show cfg0.N = 33 from N_0)
  rw [after0_9, after0_9]
  by_cases h0 : t.val % 33 = 0
  · by_cases h1 : t.val % 2 = 1
    · exfalso; omega
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [liveAt0_9_A t ((hcond0_0 t).mpr h0) (fun h => h1 ((hcond0_1 t).mp h)) (fun h => h2 ((hcond0_2 t).mp h)) (fun h => h3 ((hcond0_3 t).mp h))] at hi
          exact absurd hi Bool.false_ne_true
  · by_cases h1 : t.val % 2 = 1
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [liveAt0_9_B t (fun h => h0 ((hcond0_0 t).mp h)) ((hcond0_1 t).mpr h1) (fun h => h2 ((hcond0_2 t).mp h)) (fun h => h3 ((hcond0_3 t).mp h))] at hi
          exact absurd hi Bool.false_ne_true
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · by_cases h3 : t.val % 33 = 32
        · exfalso; omega
        · rw [liveAt0_9_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 33 = 32
        · rw [outsAt0_D m c t h0 h1 h2 h3]
          unfold leftD
          rfl
        · exfalso; omega
/-- At a point of case D output 9's current staging buffer holds what the point before left: the buffer is not fresh
    there (`notFresh0_9_D`: stored into since the region's entry or the last write-back, carried through the points that
    leave it idle by `hcarry0_9`; Lib/Pipeline/TableIdle.lean `Dat.before_out_traj`). -/
theorem before0_9_D (c : Dev nD) (t : Fin cfg0.N) (h0 : ¬t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : t.val % 33 = 32) (d) :
    (dats m 0 c).before 9 t d = (outsAt0 m c (t.val - 1) (Nat.lt_of_le_of_lt (Nat.sub_le _ _) t.isLt)).1 := by
  rw [Dat.before_out_traj _ 9 rfl (fun _ _ => rfl) (hcarry0_9 m c) t.val t rfl d,
    if_neg (by rw [notFresh0_9_D t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : t.val % 2 = 1
    · exfalso; omega
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h)) (fun h => h2 ((hcond0_2 t).mp h)) (fun h => h3 ((hcond0_3 t).mp h))], after0_9]
          rw [Dat.leavesExact_idle (dats m 0 c) 10 t (idleAt0_10_A t ((hcond0_0 t).mpr h0) (fun h => h1 ((hcond0_1 t).mp h)) (fun h => h2 ((hcond0_2 t).mp h)) (fun h => h3 ((hcond0_3 t).mp h))) (noFlush0_10_A t ((hcond0_0 t).mpr h0) (fun h => h1 ((hcond0_1 t).mp h)) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold leftA out0_A_9 sout0_A_0; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [HS0]; · iexact HS0
            isplitl [HS1]; · iexact HS1
            iintro ⟨H0, H1, H2, H3, H4, H5, H6, H7, H8, ⟨%e9, H9⟩, H10, ⟨%es0, HS0⟩, ⟨%fL1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _)
                iexists _; isplitr
                swap; · iexact HS1
                ipureintro; exact fun h => absurd hz h
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _ _ _ _)
            iexists _; iexact H10
          · exfalso; have hN : t.val < 33 := lt_of_lt_of_eq t.isLt (show cfg0.N = 33 from N_0); omega
  · by_cases h1 : t.val % 2 = 1
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h)) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h)) (fun h => h3 ((hcond0_3 t).mp h))], after0_10]
          by_cases hz : t.val = 0
          · exfalso; have hN : t.val < 33 := lt_of_lt_of_eq t.isLt (show cfg0.N = 33 from N_0); omega
          · rw [PhiS_castSucc m c t, PhiS_pos m c _ _ hz]
            rw [outsAt0_B m c t h0 h1 h2 h3]
            unfold leftB out0_B_9 out0_B_10 sout0_B_1; (try dsimp only)
            iintro ⟨⟨⟨HS0, ⟨%dS1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [HS0]; · iexact HS0
            isplitl [HS1]; · iexists _; iexact HS1
            iintro ⟨H0, H1, H2, H3, H4, H5, H6, H7, H8, ⟨%e9, H9⟩, ⟨%e10, H10⟩, HS0, ⟨%es1, HS1⟩⟩
            isplitl [HS0 HS1 Hg]
            · isplitl [HS0 HS1]
              · isplitl [HS0]
                · iexact HS0
                iexists _; isplitr
                · ipureintro; exact fun _ => rfl
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_B_9 c _ _ _ _ _ _ _ _ _ _ _ _ _ _ _ _ _ _ _ _ _ _ _ _ _ _ _ _ _ _ _ _ _ _ _ _ _ _ _ _ _)
            unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _)
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h))], after0_10]
          by_cases hz : t.val = 0
          · exfalso; have hN : t.val < 33 := lt_of_lt_of_eq t.isLt (show cfg0.N = 33 from N_0); omega
          · rw [PhiS_castSucc m c t, PhiS_pos m c _ _ hz]
            rw [outsAt0_C m c t h0 h1 h2 h3]
            unfold leftC out0_C_9 out0_C_10 sout0_C_0; (try dsimp only)
            iintro ⟨⟨⟨HS0, ⟨%dS1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            obtain rfl := hS1 (by omega)
            iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [HS0]; · iexists _; iexact HS0
            isplitl [HS1]; · iexact HS1
            iintro ⟨H0, H1, H2, H3, H4, H5, H6, H7, H8, ⟨%e9, H9⟩, ⟨%e10, H10⟩, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _ _)
                iexists _; isplitr
                · ipureintro; exact fun _ => rfl
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_C_9 c _ _ _ _ _ _ _ _ _ _ _ _ _ _ _ _ _ _ _ _ _ _ _ _ _ _ _ _ _ _ _ _ _ _ _ _ _ _ _ _ _)
            unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _)
      · by_cases h3 : t.val % 33 = 32
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [idleAt0_9_D t (fun h => h0 ((hcond0_0 t).mp h)) (fun h => h1 ((hcond0_1 t).mp h)) (fun h => h2 ((hcond0_2 t).mp h)) ((hcond0_3 t).mpr h3), flushAt0_9_D t (fun h => h0 ((hcond0_0 t).mp h)) (fun h => h1 ((hcond0_1 t).mp h)) (fun h => h2 ((hcond0_2 t).mp h)) ((hcond0_3 t).mpr h3)], after0_9]
          rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3)], after0_10]
          by_cases hz : t.val = 0
          · exfalso; have hN : t.val < 33 := lt_of_lt_of_eq t.isLt (show cfg0.N = 33 from N_0); omega
          · rw [PhiS_castSucc m c t, PhiS_pos m c _ _ hz]
            rw [outsAt0_D m c t h0 h1 h2 h3]
            simp only [before0_9_D m c t h0 h1 h2 h3]
            unfold leftD out0_D_10; (try dsimp only)
            iintro ⟨⟨⟨HS0, ⟨%dS1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
            obtain rfl := hS1 (by omega)
            iapply ((kernelRun0_D c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) _ _ _).2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [HS0]; · iexact HS0
            isplitl [HS1]; · iexact HS1
            iintro ⟨H0, H1, H2, H3, H4, H5, H6, H7, H8, H9, ⟨%e10, H10⟩, HS0, HS1⟩
            isplitl [HS0 HS1 Hg]
            · isplitl [HS0 HS1]
              · isplitl [HS0]
                · iexact HS0
                iexists _; isplitr
                · ipureintro; exact fun _ => rfl
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%dS1, -, HS1⟩⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_OprojIdeal`'s statement (Defs.lean) at any `F` — Proof.lean cites it at `Bits`:
    `theorem Cert.Proof.claim : Cert.Claim := ⟨Cert.OprojIdeal.Gen.facts, fun m ρ _ => Cert.OprojIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.OprojIdeal.Gen

end
-- ==== Proof.Oproj.Bits.lean ====
/- The frame of the program as it stands, with its floats' bits: it is word for word the ideal program, and that one's frame is
   proved for any reading of the floats. -/
module

public import proofs.«01_k».proof.Proof.Oproj.Frame
public import proofs.«01_k».proof.Proof.Gen.Oproj

@[expose] public section

set_option maxRecDepth 16384

noncomputable section

namespace Cert.Oproj

open Idealize.ShloMosaic Idealize.SL.Sem

variable {F : FTy → Type} [FloatOps F]

/-- The two programs' kernel bodies are the same. -/
theorem defs_eq : (Cert.Oproj.defs₀ (F := F)) = (Cert.OprojIdeal.defs₀ (F := F)) := by
  unfold Cert.Oproj.defs₀ Cert.OprojIdeal.defs₀
  refine congrArg Defs.onTc ?_
  funext l a
  match l, a with
  | ⟨0, _⟩, (t, s) => rfl

/-- The program terminates without fault, leaves its arguments as they were and its semaphores at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  unfold defs
  rw [defs_eq]
  exact Cert.OprojIdeal.Gen.frame (F := F) m ρ

end Cert.Oproj

end
-- ==== Proof.W8A8.lean ====
/- The mathematics of one W8A8 linear layer over the extended reals, as plain functions of matrix entries: the product of
   two matrices, the rescaling of an int8 product, the tanh form of gelu, and the int8 quantiser. Kernel blocks and
   reference arrays are both read as these functions, so an equation of programs becomes an equation of indices. -/
module

public import Idealize.ShloMosaic.Lib.Pipeline.Value
public import Idealize.ShloMosaic.Lib.Pipeline.ValueKit.Tiles
public import Idealize.ShloMosaic.Lib.MatmulPlain
public import Idealize.ShloMosaic.Lib.ValueLayout
public import Idealize.ShloMosaic.PureOps.Ideal.Laws

@[expose] public section

noncomputable section

namespace Cert.W8A8

open Idealize.ShloMosaic Idealize.ShloMosaic.ValueIdx
open scoped BigOperators

/-- A matrix of `M` rows and `N` columns. -/
abbrev Mat (α : Type) (M N : ℕ) := (⟨2, ![M, N]⟩ : Shape).Idx → α

/-- An integer word as the real number it stands for. -/
def code {w : ℕ} (b : BitVec w) : EReal := ((b.toInt : ℝ) : EReal)

/-- The constant whose f32 pattern is `b`. -/
def lit (b : BitVec 32) : EReal := Ideal.ofBits .f32 b

/-- Entry `(r, c)` of the product of two matrices. -/
def dot {M K N : ℕ} (a : Mat EReal M K) (b : Mat EReal K N) (r : Fin M) (c : Fin N) : EReal :=
  ∑ k : Fin K, a (ix2 r k) * b (ix2 k c)

/-- A product of int8 codes plus its integer bias, brought back to scale: the activation's scale times the channel's. -/
def rescale (acc : EReal) (bias : BitVec 32) (sc s : EReal) : EReal := (acc + code bias) * (sc * s)

/-- gelu in its tanh form: `0.5 h (1 + tanh (0.79788458 (h + 0.044715 h³)))`. -/
def gelu (h : EReal) : EReal :=
  (lit 0x3F000000#32 * h) * (lit 0x3F800000#32
    + Ideal.tanh (lit 0x3F4C422A#32 * (h + ((lit 0x3D372713#32 * h) * h) * h)))

/-- Rounded to an integer (ties to even), then clipped to `[-127, 127]`. -/
def clip8 (v : EReal) : EReal :=
  min (code (127#32)) (max (code (4294967169#32)) (Ideal.liftRound Ideal.roundHalfEven v))

/-- A value over its scale, rounded and clipped: the int8 code, still a real number. -/
def quant (v scale : EReal) : EReal := clip8 (Ideal.div v scale)

theorem code_127 : code (127#32) = ((127 : ℝ) : EReal) := by
  have : (127#32).toInt = 127 := by decide
  rw [code, this]; norm_num

theorem code_neg127 : code (4294967169#32) = ((-127 : ℝ) : EReal) := by
  have : (4294967169#32).toInt = -127 := by decide
  rw [code, this]; norm_num

/-- A clipped value is an integer between -127 and 127. -/
theorem clip8_int (v : EReal) : ∃ n : ℤ, -127 ≤ n ∧ n ≤ 127 ∧ clip8 v = ((n : ℝ) : EReal) := by
  rw [clip8, code_127, code_neg127]
  induction v using EReal.rec with
  | bot =>
    refine ⟨-127, by norm_num, by norm_num, ?_⟩
    show min _ (max _ (⊥ : EReal)) = _
    rw [max_eq_left bot_le, min_eq_right (EReal.coe_le_coe_iff.mpr (by norm_num))]; norm_num
  | top =>
    refine ⟨127, by norm_num, by norm_num, ?_⟩
    show min _ (max _ (⊤ : EReal)) = _
    rw [max_eq_right le_top, min_eq_left le_top]; norm_num
  | coe r =>
    refine ⟨min 127 (max (-127) (Ideal.roundHalfEven r)), by omega, by omega, ?_⟩
    show min _ (max _ (((Ideal.roundHalfEven r : ℝ)) : EReal)) = _
    rw [← EReal.coe_strictMono.monotone.map_max, ← EReal.coe_strictMono.monotone.map_min]
    push_cast
    rfl

/-- Storing a clipped value as an int8 and reading it back changes nothing: it is an integer in range. -/
theorem code_fptosi_clip8 (v : EReal) : code (Ideal.fptosi 8 (clip8 v)) = clip8 v := by
  obtain ⟨n, h1, h2, e⟩ := clip8_int v
  rw [e]
  have hz : Ideal.toIntClamped (-(2 ^ (8 - 1) : Nat)) ((2 ^ (8 - 1) : Nat) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num
    omega
  have ht : (Ideal.fptosi 8 ((n : ℝ) : EReal)).toInt = n := by
    rw [Ideal.fptosi, hz, BitVec.toInt_ofInt]
    norm_num [Int.bmod_def]
    omega
  rw [code, ht]

/-- `code_fptosi_clip8` at a quantised value. -/
theorem code_fptosi_quant (v s : EReal) : code (Ideal.fptosi 8 (quant v s)) = quant v s := code_fptosi_clip8 _

/-- The matrix unit's product of two plain matrices from a zero accumulator, read at an index. -/
theorem matmul_apply {M K N : ℕ} {φ₁ φ₂ : FTy} (prec : Option ContractPrecision) (d : DotDims ⟨2, ![M, K]⟩ ⟨2, ![K, N]⟩ ⟨2, ![M, N]⟩)
    (hd : d = DotDims.plain M K N)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c) = dot lhs rhs r c := by
  subst hd
  rw [Ideal.matmul_plain_apply]
  show Ideal.ofBits .f32 0x00000000#32 + _ = _
  rw [Ideal.ofBits_zero_f32, zero_add]
  rfl

/-- A one-element matrix broadcast over a matrix reads that element everywhere. -/
theorem broadcastTo_11_apply {α : Type} {M N : ℕ} (v : Mat α 1 1) (h : (⟨2, ![1, 1]⟩ : Shape).Broadcasts ⟨2, ![M, N]⟩) (r : Fin M)
    (c : Fin N) : broadcastTo ⟨2, ![M, N]⟩ v h (ix2 r c) = v (ix2 0 0) :=
  broadcastTo_apply v h (ix2 r c) (ix2 0 0) fun a => by match a with | ⟨0, _⟩ => rfl | ⟨1, _⟩ => rfl

/-- gelu of a whole vector, as the programs print it. -/
def geluVec {s : Shape} (h : FVec Ideal s .f32) : FVec Ideal s .f32 :=
  mulf (mulf (broadcast s (Scalar.ofBits (F := Ideal) .f32 0x3F000000#32)) h)
    (addf (broadcast s (Scalar.ofBits (F := Ideal) .f32 0x3F800000#32))
      (tanh (mulf (broadcast s (Scalar.ofBits (F := Ideal) .f32 0x3F4C422A#32))
        (addf h (mulf (mulf (mulf (broadcast s (Scalar.ofBits (F := Ideal) .f32 0x3D372713#32)) h) h) h)))))

/-- The int8 quantiser on a whole vector `v` over a vector `d` of scales, as the programs print it. -/
def quantVec {s : Shape} (v d : FVec Ideal s .f32) : FVec Ideal s .f32 :=
  minimumf (broadcast s (Scalar.sitofp (F := Ideal) .f32 127#32))
    (maximumf (broadcast s (Scalar.sitofp (F := Ideal) .f32 4294967169#32)) (roundeven (divf v d)))

theorem geluVec_apply {s : Shape} (h : FVec Ideal s .f32) (i : s.Idx) : geluVec h i = gelu (h i) := rfl

theorem quantVec_apply {s : Shape} (v d : FVec Ideal s .f32) (i : s.Idx) : quantVec v d i = quant (v i) (d i) := rfl

/-- A printed int8 layer before its activation: the product with the int8 weights, plus the bias row, times the row `sv`
    of scales. -/
def layerVec {M K N : ℕ} (d : DotDims ⟨2, ![M, K]⟩ ⟨2, ![K, N]⟩ ⟨2, ![M, N]⟩)
    (lhs : FVec Ideal ⟨2, ![M, K]⟩ .bf16) (w : Mat (BitVec 8) K N) (bias : Mat (BitVec 32) 1 N)
    (sv : FVec Ideal ⟨2, ![1, N]⟩ .f32) (hb : (⟨2, ![1, N]⟩ : Shape).Broadcasts ⟨2, ![M, N]⟩) :
    FVec Ideal ⟨2, ![M, N]⟩ .f32 :=
  mulf (addf (matmul d none lhs (sitofp .bf16 w) (constant ⟨2, ![M, N]⟩ .f32 0x00000000#32))
    (broadcastTo ⟨2, ![M, N]⟩ (sitofp (F := Ideal) .f32 bias) hb)) (broadcastTo ⟨2, ![M, N]⟩ sv hb)

/-- A printed int8 layer before its activation, read at an index: the product of `lhs` with the int8 weights, plus the
    bias of the column, times the scale of the column. -/
theorem layer_apply {M K N : ℕ} (d : DotDims ⟨2, ![M, K]⟩ ⟨2, ![K, N]⟩ ⟨2, ![M, N]⟩) (hd : d = DotDims.plain M K N)
    (lhs : FVec Ideal ⟨2, ![M, K]⟩ .bf16) (w : Mat (BitVec 8) K N) (bias : Mat (BitVec 32) 1 N)
    (sv : FVec Ideal ⟨2, ![1, N]⟩ .f32) (hb : (⟨2, ![1, N]⟩ : Shape).Broadcasts ⟨2, ![M, N]⟩) (r : Fin M) (c : Fin N) :
    layerVec d lhs w bias sv hb (ix2 r c)
      = (dot lhs (fun i => code (w i)) r c + code (bias (ix2 0 c))) * sv (ix2 0 c) := by
  have hm := matmul_apply none d hd lhs (sitofp .bf16 w : FVec Ideal _ .bf16) r c
  have h1 := broadcastTo_1b_ab_apply (sitofp (F := Ideal) .f32 bias) hb r c
  have h2 := broadcastTo_1b_ab_apply sv hb r c
  show (FloatOps.matmul d none lhs (sitofp .bf16 w : FVec Ideal _ .bf16) (constant ⟨2, ![M, N]⟩ .f32 0x00000000#32) (ix2 r c) + _) * _ = _
  rw [hm, h1, h2]
  rfl

/-- Entry `(r, c)` of the MLP's first layer: the int8 code, as a real number, of gelu of the rescaled product. -/
def fcCode {M K N : ℕ} (x : Mat (BitVec 8) M K) (w : Mat (BitVec 8) K N) (bias : Mat (BitVec 32) 1 N) (s : Mat EReal 1 N)
    (sc scg : EReal) (r : Fin M) (c : Fin N) : EReal :=
  quant (gelu (rescale (dot (fun i => code (x i)) (fun i => code (w i)) r c) (bias (ix2 0 c)) sc (s (ix2 0 c)))) scg

/-- Entry `(r, c)` of a second layer over codes `g`: the residual plus the rescaled product. -/
def projOut {M K N : ℕ} (res : Mat EReal M N) (g : Mat EReal M K) (w : Mat (BitVec 8) K N) (bias : Mat (BitVec 32) 1 N)
    (s : Mat EReal 1 N) (sc : EReal) (r : Fin M) (c : Fin N) : EReal :=
  res (ix2 r c) + rescale (dot g (fun i => code (w i)) r c) (bias (ix2 0 c)) sc (s (ix2 0 c))

/-- A load through a unit-stride rectangle of a matrix, at an index. -/
theorem ld_ix2 {α : EltTy → Type} {e : EltTy} {M N m n : ℕ} (X : (⟨2, ![M, N]⟩ : Shape).Idx → α e) (o p : ℕ)
    (inb : ∀ a, (![o, p] : Fin 2 → ℕ) a + (![m, n] : Fin 2 → ℕ) a ≤ (⟨2, ![M, N]⟩ : Shape).size a)
    (r : Fin m) (c : Fin n) (R : Fin M) (C : Fin N) (hR : R.val = o + r.val) (hC : C.val = p + c.val) :
    View.ld (Val := α) (e' := e) X (Rect.unit (s := ⟨2, ![M, N]⟩) ![o, p] ![m, n] inb) (ix2 r c) = X (ix2 R C) := by
  refine congrArg X (funext fun a => Fin.ext ?_)
  rw [Rect.idx_unit_val]
  match a with
  | ⟨0, _⟩ => exact hR.symm
  | ⟨1, _⟩ => exact hC.symm

/-- Where a unit-stride rectangle of a matrix places an index. -/
theorem emb_ix2 {M N m n : ℕ} (o p : ℕ)
    (inb : ∀ a, (![o, p] : Fin 2 → ℕ) a + (![m, n] : Fin 2 → ℕ) a ≤ (⟨2, ![M, N]⟩ : Shape).size a)
    (r : Fin m) (c : Fin n) (R : Fin M) (C : Fin N) (hR : R.val = o + r.val) (hC : C.val = p + c.val) :
    (Rect.unit (s := ⟨2, ![M, N]⟩) ![o, p] ![m, n] inb).emb (ix2 r c) = (ix2 R C : (⟨2, ![M, N]⟩ : Shape).Idx) := by
  refine funext fun a => Fin.ext ?_
  rw [show (Rect.unit (s := ⟨2, ![M, N]⟩) ![o, p] ![m, n] inb).emb (ix2 r c) = (Rect.unit (s := ⟨2, ![M, N]⟩) ![o, p] ![m, n] inb).idx (ix2 r c) from rfl,
    Rect.idx_unit_val]
  match a with
  | ⟨0, _⟩ => exact hR.symm
  | ⟨1, _⟩ => exact hC.symm

/-- The MLP's codes as an array: entry by entry the int8 word of `fcCode`. -/
def fcCodes {M K N : ℕ} (x : Mat (BitVec 8) M K) (w : Mat (BitVec 8) K N) (bias : Mat (BitVec 32) 1 N) (s : Mat EReal 1 N)
    (sc scg : EReal) : Mat (BitVec 8) M N := fun i => Ideal.fptosi 8 (fcCode x w bias s sc scg (i 0) (i 1))

/-- The same codes as real numbers. -/
def fcReal {M K N : ℕ} (x : Mat (BitVec 8) M K) (w : Mat (BitVec 8) K N) (bias : Mat (BitVec 32) 1 N) (s : Mat EReal 1 N)
    (sc scg : EReal) : Mat EReal M N := fun i => fcCode x w bias s sc scg (i 0) (i 1)

/-- Writing a code as an int8 word and reading it back changes nothing: it is an integer in range. -/
theorem code_fcCodes {M K N : ℕ} (x : Mat (BitVec 8) M K) (w : Mat (BitVec 8) K N) (bias : Mat (BitVec 32) 1 N)
    (s : Mat EReal 1 N) (sc scg : EReal) : (fun i => code (fcCodes x w bias s sc scg i)) = fcReal x w bias s sc scg :=
  funext fun _ => code_fptosi_quant _ _

/-- A second layer's output as an array. -/
def projOuts {M K N : ℕ} (res : Mat EReal M N) (g : Mat EReal M K) (w : Mat (BitVec 8) K N) (bias : Mat (BitVec 32) 1 N)
    (s : Mat EReal 1 N) (sc : EReal) : Mat EReal M N := fun i => projOut res g w bias s sc (i 0) (i 1)

/-- `n` columns of a printed layer with its scales, from column `o` on, over whole rows: at an index it is the whole
    layer's entry at the index moved `o` columns. -/
theorem layer_piece {M K N n : ℕ} (d : DotDims ⟨2, ![M, K]⟩ ⟨2, ![K, n]⟩ ⟨2, ![M, n]⟩) (hd : d = DotDims.plain M K n)
    (lhs : FVec Ideal ⟨2, ![M, K]⟩ .bf16) (w : Mat (BitVec 8) K N) (bias : Mat (BitVec 32) 1 N)
    (s : Mat EReal 1 N) (sc : EReal) (o : ℕ)
    (inw : ∀ a, (![0, o] : Fin 2 → ℕ) a + (![K, n] : Fin 2 → ℕ) a ≤ (⟨2, ![K, N]⟩ : Shape).size a)
    (inb ins : ∀ a, (![0, o] : Fin 2 → ℕ) a + (![1, n] : Fin 2 → ℕ) a ≤ (⟨2, ![1, N]⟩ : Shape).size a)
    (hb : (⟨2, ![1, n]⟩ : Shape).Broadcasts ⟨2, ![M, n]⟩) (r : Fin M) (c : Fin n) (C : Fin N) (hC : C.val = o + c.val) :
    layerVec d lhs (View.ld (Val := Elt Ideal) (e' := .i8) w (Rect.unit (s := ⟨2, ![K, N]⟩) ![0, o] ![K, n] inw))
        (View.ld (Val := Elt Ideal) (e' := .i32) bias (Rect.unit (s := ⟨2, ![1, N]⟩) ![0, o] ![1, n] inb))
        (mulf (F := Ideal) (φ := .f32) (broadcast ⟨2, ![1, n]⟩ sc)
          (View.ld (Val := Elt Ideal) (e' := .f32) s (Rect.unit (s := ⟨2, ![1, N]⟩) ![0, o] ![1, n] ins))) hb (ix2 r c)
      = rescale (dot lhs (fun i => code (w i)) r C) (bias (ix2 0 C)) sc (s (ix2 0 C)) := by
  rw [layer_apply d hd]
  have h1 := ld_ix2 (α := Elt Ideal) (e := .i32) bias 0 o inb 0 c 0 C (by rfl) hC
  have h2 := ld_ix2 (α := Elt Ideal) (e := .f32) s 0 o ins 0 c 0 C (by rfl) hC
  have h3 : ∀ k : Fin K, _ := fun k => ld_ix2 (α := Elt Ideal) (e := .i8) w 0 o inw k c k C (by simp) hC
  refine congrArg₂ (· * ·) (congrArg₂ (· + ·) ?_ (congrArg code h1)) (congrArg (sc * ·) h2)
  exact Finset.sum_congr rfl fun k _ => congrArg (lhs (ix2 r k) * code ·) (h3 k)

/-- The codes' columns `o … o + n - 1` of one block of rows, as the kernel computes and keeps them. -/
theorem codes_piece {M K N n : ℕ} (d : DotDims ⟨2, ![M, K]⟩ ⟨2, ![K, n]⟩ ⟨2, ![M, n]⟩) (hd : d = DotDims.plain M K n)
    (x : Mat (BitVec 8) M K) (w : Mat (BitVec 8) K N) (bias : Mat (BitVec 32) 1 N)
    (s : Mat EReal 1 N) (sc scg : EReal) (o : ℕ)
    (inx : ∀ a, (![0, 0] : Fin 2 → ℕ) a + (![M, K] : Fin 2 → ℕ) a ≤ (⟨2, ![M, K]⟩ : Shape).size a)
    (inw : ∀ a, (![0, o] : Fin 2 → ℕ) a + (![K, n] : Fin 2 → ℕ) a ≤ (⟨2, ![K, N]⟩ : Shape).size a)
    (inb ins : ∀ a, (![0, o] : Fin 2 → ℕ) a + (![1, n] : Fin 2 → ℕ) a ≤ (⟨2, ![1, N]⟩ : Shape).size a)
    (hb : (⟨2, ![1, n]⟩ : Shape).Broadcasts ⟨2, ![M, n]⟩)
    (ino : ∀ a, (![0, o] : Fin 2 → ℕ) a + (![M, n] : Fin 2 → ℕ) a ≤ (⟨2, ![M, N]⟩ : Shape).size a)
    (y : (⟨2, ![M, n]⟩ : Shape).Idx) :
    quantVec (geluVec (layerVec d
        (sitofp .bf16 (View.ld (Val := Elt Ideal) (e' := .i8) x (Rect.unit (s := ⟨2, ![M, K]⟩) ![0, 0] ![M, K] inx)))
        (View.ld (Val := Elt Ideal) (e' := .i8) w (Rect.unit (s := ⟨2, ![K, N]⟩) ![0, o] ![K, n] inw))
        (View.ld (Val := Elt Ideal) (e' := .i32) bias (Rect.unit (s := ⟨2, ![1, N]⟩) ![0, o] ![1, n] inb))
        (mulf (F := Ideal) (φ := .f32) (broadcast ⟨2, ![1, n]⟩ sc)
          (View.ld (Val := Elt Ideal) (e' := .f32) s (Rect.unit (s := ⟨2, ![1, N]⟩) ![0, o] ![1, n] ins))) hb))
        (broadcast ⟨2, ![M, n]⟩ scg) y
      = fcReal x w bias s sc scg ((Rect.unit (s := ⟨2, ![M, N]⟩) ![0, o] ![M, n] ino).emb y) := by
  obtain ⟨r, c, rfl⟩ : ∃ r c, y = ix2 r c := ⟨y 0, y 1, eq_ix2 y⟩
  have hC : o + c.val < N := lt_of_lt_of_le (Nat.add_lt_add_left c.isLt o) (ino 1)
  have hx : View.ld (Val := Elt Ideal) (e' := .i8) x (Rect.unit (s := ⟨2, ![M, K]⟩) ![0, 0] ![M, K] inx) = x := by
    funext i
    obtain ⟨a, b, rfl⟩ : ∃ a b, i = ix2 a b := ⟨i 0, i 1, eq_ix2 i⟩
    exact ld_ix2 (α := Elt Ideal) (e := .i8) x 0 0 inx a b a b (by simp) (by simp)
  rw [emb_ix2 0 o ino r c r ⟨o + c.val, hC⟩ (by simp) rfl, quantVec_apply, geluVec_apply,
    layer_piece d hd _ w bias s sc o inw inb ins hb r c ⟨o + c.val, hC⟩ rfl, hx]
  rfl

/-- A second layer's columns `o … o + n - 1` of one block of rows, as the kernel computes them over real codes. -/
theorem proj_piece {M K N n : ℕ} (d : DotDims ⟨2, ![M, K]⟩ ⟨2, ![K, n]⟩ ⟨2, ![M, n]⟩) (hd : d = DotDims.plain M K n)
    (res : Mat EReal M N) (g : FVec Ideal ⟨2, ![M, K]⟩ .bf16) (w : Mat (BitVec 8) K N) (bias : Mat (BitVec 32) 1 N)
    (s : Mat EReal 1 N) (sc : EReal) (o : ℕ)
    (inw : ∀ a, (![0, o] : Fin 2 → ℕ) a + (![K, n] : Fin 2 → ℕ) a ≤ (⟨2, ![K, N]⟩ : Shape).size a)
    (inb ins : ∀ a, (![0, o] : Fin 2 → ℕ) a + (![1, n] : Fin 2 → ℕ) a ≤ (⟨2, ![1, N]⟩ : Shape).size a)
    (hb : (⟨2, ![1, n]⟩ : Shape).Broadcasts ⟨2, ![M, n]⟩)
    (inr ino : ∀ a, (![0, o] : Fin 2 → ℕ) a + (![M, n] : Fin 2 → ℕ) a ≤ (⟨2, ![M, N]⟩ : Shape).size a)
    (y : (⟨2, ![M, n]⟩ : Shape).Idx) :
    addf (F := Ideal) (φ := .f32)
        (View.ld (Val := Elt Ideal) (e' := .f32) res (Rect.unit (s := ⟨2, ![M, N]⟩) ![0, o] ![M, n] inr))
        (layerVec d g
          (View.ld (Val := Elt Ideal) (e' := .i8) w (Rect.unit (s := ⟨2, ![K, N]⟩) ![0, o] ![K, n] inw))
          (View.ld (Val := Elt Ideal) (e' := .i32) bias (Rect.unit (s := ⟨2, ![1, N]⟩) ![0, o] ![1, n] inb))
          (mulf (F := Ideal) (φ := .f32) (broadcast ⟨2, ![1, n]⟩ sc)
            (View.ld (Val := Elt Ideal) (e' := .f32) s (Rect.unit (s := ⟨2, ![1, N]⟩) ![0, o] ![1, n] ins))) hb) y
      = projOuts res g w bias s sc ((Rect.unit (s := ⟨2, ![M, N]⟩) ![0, o] ![M, n] ino).emb y) := by
  obtain ⟨r, c, rfl⟩ : ∃ r c, y = ix2 r c := ⟨y 0, y 1, eq_ix2 y⟩
  have hC : o + c.val < N := lt_of_lt_of_le (Nat.add_lt_add_left c.isLt o) (ino 1)
  rw [emb_ix2 0 o ino r c r ⟨o + c.val, hC⟩ (by simp) rfl]
  exact congrArg₂ (· + ·) (ld_ix2 (α := Elt Ideal) (e := .f32) res 0 o inr r c r ⟨o + c.val, hC⟩ (by simp) rfl)
    (layer_piece d hd g w bias s sc o inw inb ins hb r c ⟨o + c.val, hC⟩ rfl)

/-- The real codes of a row depend only on that row of `x`. -/
theorem fcReal_rows {M M' K N : ℕ} (x : Mat (BitVec 8) M K) (X : Mat (BitVec 8) M' K) (w : Mat (BitVec 8) K N)
    (bias : Mat (BitVec 32) 1 N) (s : Mat EReal 1 N) (sc scg : EReal) (r : Fin M) (R : Fin M')
    (h : ∀ k, x (ix2 r k) = X (ix2 R k)) (c : Fin N) :
    fcReal x w bias s sc scg (ix2 r c) = fcReal X w bias s sc scg (ix2 R c) := by
  have hd : dot (fun i => code (x i)) (fun i => code (w i)) r c = dot (fun i => code (X i)) (fun i => code (w i)) R c :=
    Finset.sum_congr rfl fun k _ => congrArg (fun b => code b * code (w (ix2 k c))) (h k)
  show fcCode x w bias s sc scg r c = fcCode X w bias s sc scg R c
  unfold fcCode
  rw [hd]

/-- A row of the second layer's output depends only on that row of the residual and of the codes. -/
theorem projOuts_rows {M M' K N : ℕ} (res : Mat EReal M N) (Res : Mat EReal M' N) (g : Mat EReal M K) (G : Mat EReal M' K)
    (w : Mat (BitVec 8) K N) (bias : Mat (BitVec 32) 1 N) (s : Mat EReal 1 N) (sc : EReal) (r : Fin M) (R : Fin M')
    (hg : ∀ k, g (ix2 r k) = G (ix2 R k)) (c : Fin N) (hr : res (ix2 r c) = Res (ix2 R c)) :
    projOuts res g w bias s sc (ix2 r c) = projOuts Res G w bias s sc (ix2 R c) := by
  have hd : dot g (fun i => code (w i)) r c = dot G (fun i => code (w i)) R c :=
    Finset.sum_congr rfl fun k _ => congrArg (fun b => b * code (w (ix2 k c))) (hg k)
  show projOut res g w bias s sc r c = projOut Res G w bias s sc R c
  unfold projOut
  rw [hd, hr]

section Loads

variable {sig : RefSig} {κ : Kind} {sp : Space} {S : Shape} {e : EltTy} {Val : EltTy → Type} [∀ e, Nonempty (Val e)]

/-- A load after ONE copy filled the whole of a buffer reads what was copied. -/
theorem readCov_whole (v : View sig κ sp S e) (w : (Rect.whole S).shape.Idx → Val e) (r : Rect S) :
    v.readCov [(⟨Rect.whole S, w⟩ : View.Piece Val S e)] r.toLoadRect = View.ld (w : S.Idx → Val e) r := by
  have hc : ∀ y : S.Idx, ∃ p ∈ [(⟨Rect.whole S, w⟩ : View.Piece Val S e)], y ∈ p.1.set := fun y =>
    ⟨_, List.mem_singleton_self _, by rw [Rect.set_whole]; exact Finset.mem_univ y⟩
  rw [View.readCov_eq_canon_ld v _ r hc]
  refine congrArg (fun X => View.ld X r) (funext fun y => ?_)
  refine View.canon_apply_of_pieces (w : S.Idx → Val e) _ (List.forall_mem_cons.mpr ⟨fun x => ?_, ?_⟩) y (hc y)
  · exact congrArg w (Rect.emb_whole_apply S x).symm
  · exact fun p hp => absurd hp List.not_mem_nil

/-- A load of the whole of a buffer after stores that tile it reads the one function each store wrote its part of. -/
theorem readCov_of_pieces (v : View sig κ sp S e) (L : List (View.Piece Val S e)) (G : S.Idx → Val e)
    {off : Fin S.rank → ℕ} (hoff : off = fun _ => 0) (inb : ∀ a, off a + S.size a ≤ S.size a)
    (hc : ∀ y : S.Idx, ∃ p ∈ L, y ∈ p.1.set) (h : ∀ p ∈ L, ∀ x : p.1.shape.Idx, p.2 x = G (p.1.emb x)) :
    v.readCov L (Rect.unit off S.size inb).toLoadRect = G := by
  rw [View.readCov_eq_canon_ld v _ _ hc, View.ld_unit_zero hoff inb]
  exact funext fun y => View.canon_apply_of_pieces G L h y (hc y)

end Loads

end Cert.W8A8

end
-- ==== Proof.NormLayer.lean ====
/- The mathematics of the transformer block's layer norm and of its output projection over the extended reals, as plain
   functions of matrix entries: a row's mean and variance, the normalised row with its gain and offset, the int8 quantiser
   over it, and the residual plus a product of int8 codes brought back to scale row by row. Kernel blocks and reference
   arrays are both read as these functions. -/
module

public import proofs.«01_k».proof.Proof.W8A8

@[expose] public section

noncomputable section

namespace Cert.W8A8

open Idealize.ShloMosaic Idealize.ShloMosaic.ValueIdx
open scoped BigOperators

/-- The mean of a row of 3072 entries: their sum over 3072. -/
def rowMean {M N : ℕ} (x : Mat EReal M N) (r : Fin M) : EReal := Ideal.div (∑ k : Fin N, x (ix2 r k)) (lit 0x45400000#32)

/-- A matrix less its rows' means. -/
def centred {M N : ℕ} (x : Mat EReal M N) : Mat EReal M N := fun i => x i - rowMean x (i 0)

/-- Entry `(r, c)` of the layer norm: the centred entry over the root of the row's variance plus 1e-5, times the gain, plus
    the offset. -/
def normEntry {M N : ℕ} (x : Mat EReal M N) (g b : Mat EReal 1 N) (r : Fin M) (c : Fin N) : EReal :=
  Ideal.div (centred x (ix2 r c))
      (Ideal.sqrt (rowMean (fun i => centred x i * centred x i) r + lit 0x3727C5AC#32)) * g (ix2 0 c) + b (ix2 0 c)

/-- The layer norm's int8 codes as real numbers. -/
def normReal {M N : ℕ} (x : Mat EReal M N) (g b : Mat EReal 1 N) (sc : EReal) : Mat EReal M N :=
  fun i => quant (normEntry x g b (i 0) (i 1)) sc

/-- The layer norm's int8 codes. -/
def normCodes {M N : ℕ} (x : Mat EReal M N) (g b : Mat EReal 1 N) (sc : EReal) : Mat (BitVec 8) M N :=
  fun i => Ideal.fptosi 8 (normReal x g b sc i)

/-- Writing such a code as an int8 word and reading it back changes nothing: it is an integer in range. -/
theorem code_normCodes {M N : ℕ} (x : Mat EReal M N) (g b : Mat EReal 1 N) (sc : EReal) :
    (fun i => code (normCodes x g b sc i)) = normReal x g b sc := funext fun _ => code_fptosi_quant _ _

/-- The residual plus a product of int8 codes, scaled by row and by channel, plus the bias. -/
def outEntry {M K N : ℕ} (x : Mat EReal M N) (oc : Mat (BitVec 8) M K) (os : Fin M → EReal) (w : Mat (BitVec 8) K N)
    (s b : Mat EReal 1 N) (r : Fin M) (c : Fin N) : EReal :=
  x (ix2 r c) + (dot (fun i => code (oc i)) (fun i => code (w i)) r c * os r * s (ix2 0 c) + b (ix2 0 c))

/-- The same as an array. -/
def outReal {M K N : ℕ} (x : Mat EReal M N) (oc : Mat (BitVec 8) M K) (os : Fin M → EReal) (w : Mat (BitVec 8) K N)
    (s b : Mat EReal 1 N) : Mat EReal M N := fun i => outEntry x oc os w s b (i 0) (i 1)

/-! ## A row depends on its row only -/

theorem rowMean_rows {M M' N : ℕ} (x : Mat EReal M N) (X : Mat EReal M' N) (r : Fin M) (R : Fin M')
    (h : ∀ k, x (ix2 r k) = X (ix2 R k)) : rowMean x r = rowMean X R :=
  congrArg (Ideal.div · _) (Finset.sum_congr rfl fun k _ => h k)

theorem centred_rows {M M' N : ℕ} (x : Mat EReal M N) (X : Mat EReal M' N) (r : Fin M) (R : Fin M')
    (h : ∀ k, x (ix2 r k) = X (ix2 R k)) (c : Fin N) : centred x (ix2 r c) = centred X (ix2 R c) :=
  congrArg₂ (· - ·) (h c) (rowMean_rows x X r R h)

/-- The layer norm's codes of a row depend only on that row. -/
theorem normReal_rows {M M' N : ℕ} (x : Mat EReal M N) (X : Mat EReal M' N) (g b : Mat EReal 1 N) (sc : EReal) (r : Fin M)
    (R : Fin M') (h : ∀ k, x (ix2 r k) = X (ix2 R k)) (c : Fin N) :
    normReal x g b sc (ix2 r c) = normReal X g b sc (ix2 R c) := by
  have h1 := centred_rows x X r R h
  have h2 := rowMean_rows (fun i => centred x i * centred x i) (fun i => centred X i * centred X i) r R
    fun k => congrArg₂ (· * ·) (h1 k) (h1 k)
  show quant (normEntry x g b r c) sc = quant (normEntry X g b R c) sc
  unfold normEntry
  rw [h1, h2]

/-- A row of the output projection depends only on that row of the residual, of the codes and of the row scales. -/
theorem outReal_rows {M M' K N : ℕ} (x : Mat EReal M N) (X : Mat EReal M' N) (oc : Mat (BitVec 8) M K)
    (OC : Mat (BitVec 8) M' K) (os : Fin M → EReal) (OS : Fin M' → EReal) (w : Mat (BitVec 8) K N) (s b : Mat EReal 1 N)
    (r : Fin M) (R : Fin M') (hx : ∀ k, x (ix2 r k) = X (ix2 R k)) (ho : ∀ k, oc (ix2 r k) = OC (ix2 R k)) (hs : os r = OS R)
    (c : Fin N) : outReal x oc os w s b (ix2 r c) = outReal X OC OS w s b (ix2 R c) := by
  have hd : dot (fun i => code (oc i)) (fun i => code (w i)) r c = dot (fun i => code (OC i)) (fun i => code (w i)) R c :=
    Finset.sum_congr rfl fun k _ => congrArg (fun b => code b * code (w (ix2 k c))) (ho k)
  show outEntry x oc os w s b r c = outEntry X OC OS w s b R c
  unfold outEntry
  rw [hd, hx, hs]

/-! ## The printed forms -/

/-- A column broadcast over a matrix reads, at `(r, c)`, the column at `r`. -/
theorem broadcastTo_a1_ab_apply {α : Type} {a b : ℕ} (v : Mat α a 1) (h : (⟨2, ![a, 1]⟩ : Shape).Broadcasts ⟨2, ![a, b]⟩)
    (r : Fin a) (c : Fin b) : broadcastTo ⟨2, ![a, b]⟩ v h (ix2 r c) = v (ix2 r 0) := by
  refine broadcastTo_apply v h (ix2 r c) (ix2 r 0) fun ax => ?_
  match ax with
  | ⟨0, _⟩ =>
    show r.val = if a = 1 then 0 else r.val
    split
    · have := r.isLt; omega
    · rfl
  | ⟨1, _⟩ => rfl

/-- A vector cast to a column reads, at `(r, 0)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) : shapeCast ⟨2, ![a, 1]⟩ x h (ix2 r 0) = x (ix1 r) :=
  shapeCast_apply x h _ _ (by
    rw [Shape.rowMajor_val_one, Shape.rowMajor_val_two]
    show r.val = r.val * 1 + 0
    omega)

/-- The rows' means as a column, as the programs print them. -/
def meanCol {M N : ℕ} (x : FVec Ideal ⟨2, ![M, N]⟩ .f32) (hr : Shape.Reduces ⟨2, ![M, N]⟩ [1] ⟨1, ![M]⟩)
    (hs : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ x 0x00000000#32 hr (.inl rfl) rfl) hs)
    (broadcast ⟨2, ![M, 1]⟩ (Scalar.ofBits (F := Ideal) .f32 0x45400000#32))

theorem meanCol_apply {M N : ℕ} (x : FVec Ideal ⟨2, ![M, N]⟩ .f32) (hr : Shape.Reduces ⟨2, ![M, N]⟩ [1] ⟨1, ![M]⟩)
    (hs : (⟨1, ![M]⟩ : Shape).ShapeCasts ⟨2, ![M, 1]⟩) (r : Fin M) : meanCol x hr hs (ix2 r 0) = rowMean x r := by
  have h1 := shapeCast_a_a1_apply (multiReduction .add [1] ⟨1, ![M]⟩ x 0x00000000#32 hr (.inl rfl) rfl) hs r
  have h2 : multiReduction .add [1] ⟨1, ![M]⟩ x 0x00000000#32 hr (.inl rfl) rfl (ix1 r) = ∑ k : Fin N, x (ix2 r k) :=
    (Ideal.multiReduction_add_single x 0x00000000#32 hr (.inl rfl) rfl (ix1 r)).trans
      (Finset.sum_congr rfl fun k _ => congrArg x (funext fun a => Fin.ext (by match a with | ⟨0, _⟩ => rfl | ⟨1, _⟩ => rfl)))
  show Ideal.div (shapeCast ⟨2, ![M, 1]⟩ (multiReduction .add [1] ⟨1, ![M]⟩ x 0x00000000#32 hr (.inl rfl) rfl) hs (ix2 r 0)) _ = _
  rw [h1, h2]
  rfl

/-- A matrix less its rows' means, as the programs print it. -/
def centredVec {M N : ℕ} (x : FVec Ideal ⟨2, ![M, N]⟩ .f32) (hr : Shape.Reduces ⟨2, ![M, N]⟩ [1] ⟨1, ![M]⟩)
    (hs : (⟨1, ![M]⟩ : Shape).ShapeCasts ⟨2, ![M, 1]⟩) (hc : (⟨2, ![M, 1]⟩ : Shape).Broadcasts ⟨2, ![M, N]⟩) :
    FVec Ideal ⟨2, ![M, N]⟩ .f32 := subf x (broadcastTo ⟨2, ![M, N]⟩ (meanCol x hr hs) hc)

theorem centredVec_eq {M N : ℕ} (x : FVec Ideal ⟨2, ![M, N]⟩ .f32) (hr : Shape.Reduces ⟨2, ![M, N]⟩ [1] ⟨1, ![M]⟩)
    (hs : (⟨1, ![M]⟩ : Shape).ShapeCasts ⟨2, ![M, 1]⟩) (hc : (⟨2, ![M, 1]⟩ : Shape).Broadcasts ⟨2, ![M, N]⟩) :
    centredVec x hr hs hc = centred x := by
  funext i
  obtain ⟨r, c, rfl⟩ : ∃ r c, i = ix2 r c := ⟨i 0, i 1, eq_ix2 i⟩
  show x (ix2 r c) - broadcastTo ⟨2, ![M, N]⟩ (meanCol x hr hs) hc (ix2 r c) = _
  rw [broadcastTo_a1_ab_apply, meanCol_apply]
  rfl

/-- The layer norm of a whole array, as the programs print it. -/
def normVec {M N : ℕ} (x : FVec Ideal ⟨2, ![M, N]⟩ .f32) (g b : FVec Ideal ⟨2, ![1, N]⟩ .f32)
    (hr : Shape.Reduces ⟨2, ![M, N]⟩ [1] ⟨1, ![M]⟩) (hs : (⟨1, ![M]⟩ : Shape).ShapeCasts ⟨2, ![M, 1]⟩)
    (hc : (⟨2, ![M, 1]⟩ : Shape).Broadcasts ⟨2, ![M, N]⟩) (hb : (⟨2, ![1, N]⟩ : Shape).Broadcasts ⟨2, ![M, N]⟩) :
    FVec Ideal ⟨2, ![M, N]⟩ .f32 :=
  addf (mulf (divf (centredVec x hr hs hc) (broadcastTo ⟨2, ![M, N]⟩
      (sqrt (addf (meanCol (mulf (centredVec x hr hs hc) (centredVec x hr hs hc)) hr hs)
        (broadcast ⟨2, ![M, 1]⟩ (Scalar.ofBits (F := Ideal) .f32 0x3727C5AC#32)))) hc))
    (broadcastTo ⟨2, ![M, N]⟩ g hb)) (broadcastTo ⟨2, ![M, N]⟩ b hb)

theorem normVec_apply {M N : ℕ} (x : FVec Ideal ⟨2, ![M, N]⟩ .f32) (g b : FVec Ideal ⟨2, ![1, N]⟩ .f32)
    (hr : Shape.Reduces ⟨2, ![M, N]⟩ [1] ⟨1, ![M]⟩) (hs : (⟨1, ![M]⟩ : Shape).ShapeCasts ⟨2, ![M, 1]⟩)
    (hc : (⟨2, ![M, 1]⟩ : Shape).Broadcasts ⟨2, ![M, N]⟩) (hb : (⟨2, ![1, N]⟩ : Shape).Broadcasts ⟨2, ![M, N]⟩)
    (r : Fin M) (c : Fin N) : normVec x g b hr hs hc hb (ix2 r c) = normEntry x g b r c := by
  have hg := broadcastTo_1b_ab_apply g hb r c
  have hb' := broadcastTo_1b_ab_apply b hb r c
  have hv := broadcastTo_a1_ab_apply (sqrt (addf (meanCol (mulf (centredVec x hr hs hc) (centredVec x hr hs hc)) hr hs)
        (broadcast ⟨2, ![M, 1]⟩ (Scalar.ofBits (F := Ideal) .f32 0x3727C5AC#32)))) hc r c
  have hm := meanCol_apply (mulf (centredVec x hr hs hc) (centredVec x hr hs hc)) hr hs r
  show Ideal.div (centredVec x hr hs hc (ix2 r c)) (broadcastTo _ _ hc (ix2 r c)) * broadcastTo _ g hb (ix2 r c)
    + broadcastTo _ b hb (ix2 r c) = _
  rw [hg, hb', hv]
  show Ideal.div _ (Ideal.sqrt (meanCol (mulf (centredVec x hr hs hc) (centredVec x hr hs hc)) hr hs (ix2 r 0) + _)) * _ + _ = _
  rw [hm, centredVec_eq]
  rfl

/-- `n` rows of a layer norm's codes, from row `o` on, as the kernel computes them from those rows. -/
theorem norm_piece {M N n : ℕ} (x : Mat EReal M N) (g b : Mat EReal 1 N) (sc : EReal) (o : ℕ)
    (inx ino : ∀ a, (![o, 0] : Fin 2 → ℕ) a + (![n, N] : Fin 2 → ℕ) a ≤ (⟨2, ![M, N]⟩ : Shape).size a)
    (ing inb : ∀ a, (![0, 0] : Fin 2 → ℕ) a + (![1, N] : Fin 2 → ℕ) a ≤ (⟨2, ![1, N]⟩ : Shape).size a)
    (hr : Shape.Reduces ⟨2, ![n, N]⟩ [1] ⟨1, ![n]⟩) (hs : (⟨1, ![n]⟩ : Shape).ShapeCasts ⟨2, ![n, 1]⟩)
    (hc : (⟨2, ![n, 1]⟩ : Shape).Broadcasts ⟨2, ![n, N]⟩) (hb : (⟨2, ![1, N]⟩ : Shape).Broadcasts ⟨2, ![n, N]⟩)
    (y : (⟨2, ![n, N]⟩ : Shape).Idx) :
    quantVec (normVec (View.ld (Val := Elt Ideal) (e' := .f32) x (Rect.unit (s := ⟨2, ![M, N]⟩) ![o, 0] ![n, N] inx))
        (View.ld (Val := Elt Ideal) (e' := .f32) g (Rect.unit (s := ⟨2, ![1, N]⟩) ![0, 0] ![1, N] ing))
        (View.ld (Val := Elt Ideal) (e' := .f32) b (Rect.unit (s := ⟨2, ![1, N]⟩) ![0, 0] ![1, N] inb)) hr hs hc hb)
      (broadcast ⟨2, ![n, N]⟩ sc) y
      = normReal x g b sc ((Rect.unit (s := ⟨2, ![M, N]⟩) ![o, 0] ![n, N] ino).emb y) := by
  obtain ⟨r, c, rfl⟩ : ∃ r c, y = ix2 r c := ⟨y 0, y 1, eq_ix2 y⟩
  have hR : o + r.val < M := lt_of_lt_of_le (Nat.add_lt_add_left r.isLt o) (ino 0)
  have whole : ∀ (v : Mat EReal 1 N) (inv : ∀ a, (![0, 0] : Fin 2 → ℕ) a + (![1, N] : Fin 2 → ℕ) a ≤ (⟨2, ![1, N]⟩ : Shape).size a),
      View.ld (Val := Elt Ideal) (e' := .f32) v (Rect.unit (s := ⟨2, ![1, N]⟩) ![0, 0] ![1, N] inv) = v := fun v inv => by
    funext i
    obtain ⟨a, d, rfl⟩ : ∃ a d, i = ix2 a d := ⟨i 0, i 1, eq_ix2 i⟩
    exact ld_ix2 (α := Elt Ideal) (e := .f32) v 0 0 inv a d a d (by simp) (by simp)
  rw [emb_ix2 o 0 ino r c ⟨o + r.val, hR⟩ c rfl (by simp), quantVec_apply, normVec_apply, whole, whole]
  exact normReal_rows _ x g b sc r ⟨o + r.val, hR⟩
    (fun k => ld_ix2 (α := Elt Ideal) (e := .f32) x o 0 inx r k ⟨o + r.val, hR⟩ k rfl (by simp)) c

/-- The output projection of a whole array, as the programs print it, over a matrix `ov` of row scales. -/
def outVec {M K N : ℕ} (d : DotDims ⟨2, ![M, K]⟩ ⟨2, ![K, N]⟩ ⟨2, ![M, N]⟩) (x : FVec Ideal ⟨2, ![M, N]⟩ .f32)
    (oc : Mat (BitVec 8) M K) (w : Mat (BitVec 8) K N) (ov : FVec Ideal ⟨2, ![M, N]⟩ .f32) (s b : FVec Ideal ⟨2, ![1, N]⟩ .f32)
    (hb : (⟨2, ![1, N]⟩ : Shape).Broadcasts ⟨2, ![M, N]⟩) : FVec Ideal ⟨2, ![M, N]⟩ .f32 :=
  addf x (addf (mulf (mulf (matmul d none (sitofp .bf16 oc : FVec Ideal _ .bf16) (sitofp .bf16 w : FVec Ideal _ .bf16) (constant ⟨2, ![M, N]⟩ .f32 0x00000000#32)) ov)
    (broadcastTo ⟨2, ![M, N]⟩ s hb)) (broadcastTo ⟨2, ![M, N]⟩ b hb))

theorem outVec_apply {M K N : ℕ} (d : DotDims ⟨2, ![M, K]⟩ ⟨2, ![K, N]⟩ ⟨2, ![M, N]⟩) (hd : d = DotDims.plain M K N)
    (x : FVec Ideal ⟨2, ![M, N]⟩ .f32) (oc : Mat (BitVec 8) M K) (w : Mat (BitVec 8) K N) (ov : FVec Ideal ⟨2, ![M, N]⟩ .f32)
    (s b : FVec Ideal ⟨2, ![1, N]⟩ .f32) (hb : (⟨2, ![1, N]⟩ : Shape).Broadcasts ⟨2, ![M, N]⟩) (os : Fin M → EReal)
    (hov : ∀ r c, ov (ix2 r c) = os r) (r : Fin M) (c : Fin N) :
    outVec d x oc w ov s b hb (ix2 r c) = outEntry x oc os w s b r c := by
  have hm := matmul_apply none d hd (sitofp .bf16 oc : FVec Ideal _ .bf16) (sitofp .bf16 w : FVec Ideal _ .bf16) r c
  have h1 := broadcastTo_1b_ab_apply s hb r c
  have h2 := broadcastTo_1b_ab_apply b hb r c
  show x (ix2 r c) + (FloatOps.matmul d none (sitofp .bf16 oc : FVec Ideal _ .bf16) (sitofp .bf16 w : FVec Ideal _ .bf16) (constant ⟨2, ![M, N]⟩ .f32 0x00000000#32) (ix2 r c)
    * ov (ix2 r c) * broadcastTo _ s hb (ix2 r c) + broadcastTo _ b hb (ix2 r c)) = _
  rw [hm, h1, h2, hov]
  rfl

/-- `n` columns of the output projection, from column `o` on, over whole rows. -/
theorem out_piece {M K N n : ℕ} (d : DotDims ⟨2, ![M, K]⟩ ⟨2, ![K, n]⟩ ⟨2, ![M, n]⟩) (hd : d = DotDims.plain M K n)
    (x : Mat EReal M N) (oc : Mat (BitVec 8) M K) (w : Mat (BitVec 8) K N) (s b : Mat EReal 1 N)
    (ov : FVec Ideal ⟨2, ![M, n]⟩ .f32) (os : Fin M → EReal) (hov : ∀ r c, ov (ix2 r c) = os r) (o : ℕ)
    (inx ino : ∀ a, (![0, o] : Fin 2 → ℕ) a + (![M, n] : Fin 2 → ℕ) a ≤ (⟨2, ![M, N]⟩ : Shape).size a)
    (inc : ∀ a, (![0, 0] : Fin 2 → ℕ) a + (![M, K] : Fin 2 → ℕ) a ≤ (⟨2, ![M, K]⟩ : Shape).size a)
    (inw : ∀ a, (![0, o] : Fin 2 → ℕ) a + (![K, n] : Fin 2 → ℕ) a ≤ (⟨2, ![K, N]⟩ : Shape).size a)
    (ins inb : ∀ a, (![0, o] : Fin 2 → ℕ) a + (![1, n] : Fin 2 → ℕ) a ≤ (⟨2, ![1, N]⟩ : Shape).size a)
    (hb : (⟨2, ![1, n]⟩ : Shape).Broadcasts ⟨2, ![M, n]⟩) (hx : FTy.bf16.bits < FTy.f32.bits)
    (y : (⟨2, ![M, n]⟩ : Shape).Idx) :
    outVec d (extf (F := Ideal) .f32 (View.ld (Val := Elt Ideal) (e' := .bf16) x (Rect.unit (s := ⟨2, ![M, N]⟩) ![0, o] ![M, n] inx)) hx)
        (View.ld (Val := Elt Ideal) (e' := .i8) oc (Rect.unit (s := ⟨2, ![M, K]⟩) ![0, 0] ![M, K] inc))
        (View.ld (Val := Elt Ideal) (e' := .i8) w (Rect.unit (s := ⟨2, ![K, N]⟩) ![0, o] ![K, n] inw)) ov
        (View.ld (Val := Elt Ideal) (e' := .f32) s (Rect.unit (s := ⟨2, ![1, N]⟩) ![0, o] ![1, n] ins))
        (View.ld (Val := Elt Ideal) (e' := .f32) b (Rect.unit (s := ⟨2, ![1, N]⟩) ![0, o] ![1, n] inb)) hb y
      = outReal x oc os w s b ((Rect.unit (s := ⟨2, ![M, N]⟩) ![0, o] ![M, n] ino).emb y) := by
  obtain ⟨r, c, rfl⟩ : ∃ r c, y = ix2 r c := ⟨y 0, y 1, eq_ix2 y⟩
  have hC : o + c.val < N := lt_of_lt_of_le (Nat.add_lt_add_left c.isLt o) (ino 1)
  have h1 := ld_ix2 (α := Elt Ideal) (e := .bf16) x 0 o inx r c r ⟨o + c.val, hC⟩ (by simp) rfl
  have h2 := ld_ix2 (α := Elt Ideal) (e := .f32) s 0 o ins 0 c 0 ⟨o + c.val, hC⟩ (by rfl) rfl
  have h3 := ld_ix2 (α := Elt Ideal) (e := .f32) b 0 o inb 0 c 0 ⟨o + c.val, hC⟩ (by rfl) rfl
  have h4 : ∀ k : Fin K, _ := fun k => ld_ix2 (α := Elt Ideal) (e := .i8) oc 0 0 inc r k r k (by simp) (by simp)
  have h5 : ∀ k : Fin K, _ := fun k => ld_ix2 (α := Elt Ideal) (e := .i8) w 0 o inw k c k ⟨o + c.val, hC⟩ (by simp) rfl
  rw [emb_ix2 0 o ino r c r ⟨o + c.val, hC⟩ (by simp) rfl, outVec_apply d hd _ _ _ ov _ _ hb os hov]
  refine congrArg₂ (· + ·) h1 (congrArg₂ (· + ·) (congrArg₂ (· * ·) (congrArg (· * os r) ?_) h2) h3)
  exact Finset.sum_congr rfl fun k _ => congrArg₂ (fun p q => code p * code q) (h4 k) (h5 k)

/-- The one entry of a one-element matrix, as a scalar load reads it. -/
theorem first_one (X : Mat EReal 1 1) (r : Rect ⟨2, ![1, 1]⟩)
    (inb : ∀ a, (![0, 0] : Fin 2 → ℕ) a + (![1, 1] : Fin 2 → ℕ) a ≤ (⟨2, ![1, 1]⟩ : Shape).size a)
    (hr : r = Rect.unit ![0, 0] ![1, 1] inb) (h : 0 < r.shape.numel) :
    View.ld (Val := Elt Ideal) (e' := .f32) X r (Shape.Idx.first h) = X (ix2 0 0) := by
  refine congrArg X (funext fun a => Fin.ext ?_)
  subst hr
  match a with
  | ⟨0, _⟩ => rfl
  | ⟨1, _⟩ => rfl

/-- Row `R`'s scale, out of 32 blocks of 256 row scales. -/
def rowScale (os : (⟨3, ![32, 1, 256]⟩ : Shape).Idx → EReal) (R : Fin 8192) : EReal :=
  os (ix3 ⟨R.val / 256, by omega⟩ 0 ⟨R.val % 256, Nat.mod_lt _ (by norm_num)⟩)

theorem rowScale_block (os : (⟨3, ![32, 1, 256]⟩ : Shape).Idx → EReal) (b : Fin 32) (r : Fin 256) (R : Fin 8192)
    (hR : R.val = 256 * b.val + r.val) : rowScale os R = os (ix3 b 0 r) := by
  unfold rowScale
  have h1 : (⟨R.val / 256, by omega⟩ : Fin 32) = b := Fin.ext (by show R.val / 256 = b.val; omega)
  have h2 : (⟨R.val % 256, Nat.mod_lt _ (by norm_num)⟩ : Fin 256) = r := Fin.ext (by show R.val % 256 = r.val; omega)
  rw [h1, h2]

section Stores

variable {sig : RefSig} {κ : Kind} {sp : Space} {S : Shape} {e : EltTy} {Val : EltTy → Type} [∀ e, Nonempty (Val e)]

/-- A buffer after stores that tile it reads the one function each store wrote its part of. -/
theorem read_writes_of_pieces (v : View sig κ sp S e) (f) (L : List (View.Piece Val S e)) (G : S.Idx → Val e)
    (hc : ∀ y : S.Idx, ∃ p ∈ L, y ∈ p.1.set) (h : ∀ p ∈ L, ∀ x : p.1.shape.Idx, p.2 x = G (p.1.emb x)) :
    v.read Val (v.writes Val f L) = G := by
  rw [View.read_writes_eq_canon _ _ _ hc]
  exact funext fun y => View.canon_apply_of_pieces G L h y (hc y)

end Stores

end Cert.W8A8

end
-- ==== Proof.OprojReference.lean ====
/- What the output projection's reference computes, entry by entry: the residual plus the rescaled product (`W8A8.outReal`),
   and the codes of its layer norm (`W8A8.normCodes`). -/
module

public import proofs.«01_k».proof.Proof.Gen.OprojRefIdeal.Value
public import proofs.«01_k».proof.Proof.NormLayer

@[expose] public section

noncomputable section

namespace Cert.OprojRefIdeal.Reference

open Cert.OprojRefIdeal Cert.OprojRefIdeal.Gen Cert.W8A8 Idealize.ShloMosaic Idealize.ShloMosaic.ValueIdx

variable (a0 : Vec Ideal S8192x1536 .i8) (a1 : Vec Ideal S32x1x256 .f32) (a2 : Vec Ideal S8192x3072 .bf16)
  (a3 : Vec Ideal S1x1 .f32) (a4 : Vec Ideal S1536x3072 .i8) (a5 a6 a7 a8 : Vec Ideal S1x3072 .f32)

/-- The column of row scales: the 32 blocks of 256 scales, one below the other. -/
theorem scale_apply (R : Fin 8192) :
    shapeCast S8192x1 a1 shapeCasts_S32x1x256_S8192x1 (ix2 R 0) = rowScale a1 R := by
  refine shapeCast_apply a1 _ (ix2 R 0) (ix3 ⟨R.val / 256, by omega⟩ 0 ⟨R.val % 256, Nat.mod_lt _ (by norm_num)⟩) ?_
  rw [Shape.rowMajor_val_three, Shape.rowMajor_val_two]
  show (R.val / 256 * 1 + 0) * 256 + R.val % 256 = R.val * 1 + 0
  omega

/-- The reference's residual stream. -/
theorem res_vec : k0_pay2 (F := Ideal) a1 a2 a0 a4 a5 a6 = outReal a2 a0 (fun R => rowScale a1 R) a4 a5 a6 := by
  have hv : k0_pay2 (F := Ideal) a1 a2 a0 a4 a5 a6
      = outVec dot_S8192x1536_S1536x3072_S8192x3072_1_0_0_1_n_n (extf .f32 a2 bitsLt_bf16_f32) a0 a4
        (broadcastTo S8192x3072 (shapeCast S8192x1 a1 shapeCasts_S32x1x256_S8192x1) broadcasts_S8192x1_S8192x3072) a5 a6
        broadcasts_S1x3072_S8192x3072 := rfl
  funext i
  obtain ⟨r, c, rfl⟩ : ∃ r c, i = ix2 r c := ⟨i 0, i 1, eq_ix2 i⟩
  rw [hv]
  exact outVec_apply _ rfl _ _ _ _ _ _ _ (fun R => rowScale a1 R)
    (fun r c => (broadcastTo_a1_ab_apply _ _ r c).trans (scale_apply a1 r)) r c

/-- The reference's code of the layer norm of any rows `y`. -/
theorem codes_vec (hy : k0_pay2 (F := Ideal) a1 a2 a0 a4 a5 a6 = outReal a2 a0 (fun R => rowScale a1 R) a4 a5 a6) :
    k0_pay1 (F := Ideal) a7 a8 (k0_pay3 a1 a2 a0 a4 a5 a6) (k0_pay4 a1 a2 a0 a4 a5 a6) a3
      = normCodes (outReal a2 a0 (fun R => rowScale a1 R) a4 a5 a6) a7 a8 (a3 (ix2 0 0)) := by
  have hv : k0_pay1 (F := Ideal) a7 a8 (k0_pay3 a1 a2 a0 a4 a5 a6) (k0_pay4 a1 a2 a0 a4 a5 a6) a3
      = fptosi 8 (quantVec (normVec (k0_pay2 (F := Ideal) a1 a2 a0 a4 a5 a6) a7 a8 reduces_S8192x3072_S8192
        shapeCasts_S8192_S8192x1 broadcasts_S8192x1_S8192x3072 broadcasts_S1x3072_S8192x3072)
        (broadcastTo S8192x3072 a3 broadcasts_S1x1_S8192x3072)) := rfl
  funext i
  obtain ⟨r, c, rfl⟩ : ∃ r c, i = ix2 r c := ⟨i 0, i 1, eq_ix2 i⟩
  have h3 := broadcastTo_11_apply a3 broadcasts_S1x1_S8192x3072 r c
  rw [hv, hy]
  show Ideal.fptosi 8 (quantVec _ _ (ix2 r c)) = _
  rw [quantVec_apply, normVec_apply]
  exact congrArg (fun d => Ideal.fptosi 8 (quant _ d)) h3

/-- The reference's residual stream, as an array of its arguments. -/
theorem res_eq : Value.G9 (F := Ideal) a0 a1 a2 a3 a4 a5 a6 a7 a8 = outReal a2 a0 (fun R => rowScale a1 R) a4 a5 a6 :=
  res_vec a0 a1 a2 a4 a5 a6

/-- The reference's codes, as an array of its arguments. -/
theorem codes_eq : Value.G10 (F := Ideal) a0 a1 a2 a3 a4 a5 a6 a7 a8
    = normCodes (outReal a2 a0 (fun R => rowScale a1 R) a4 a5 a6) a7 a8 (a3 (ix2 0 0)) :=
  codes_vec a0 a1 a2 a3 a4 a5 a6 a7 a8 (res_vec a0 a1 a2 a4 a5 a6)

end Cert.OprojRefIdeal.Reference

end
-- ==== Proof.Oproj.Value.lean ====
/-
   The kernel `_oproj` over any float layer, in the form in which the generated modules are written:
   what the arrays of the two outputs hold at the end, read off the proof data.
-/
module

public import proofs.«01_k».proof.Proof.Oproj.Frame
public import Idealize.ShloMosaic.Lib.Pipeline.Value

@[expose] public section

noncomputable section

namespace Cert.OprojIdeal.Value

open Cert.OprojIdeal Cert.OprojIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- An index that no flushing point's block covers keeps output window 9's array contents at region entry. -/
theorem entry9 (c : Dev nD) (i : S8192x3072.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 1), read through the window's block. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- An index that no flushing point's block covers keeps output window 10's array contents at region entry. -/
theorem entry10 (c : Dev nD) (i : S8192x3072.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.OprojIdeal.Value

end
-- ==== Proof.OprojBlock.lean ====
/- What the output projection's body leaves at one grid point. Its first half writes, in 12 stores of 256 columns, the
   residual plus the rescaled product on the point's rows, into the result window and into one of two scratch buffers; its second
   half writes, in 8 stores of 32 rows, the layer norm's codes of what the OTHER scratch buffer holds from the point before.
   Case A (the first point) has the first half only, case D (the last) the second only, cases B and C take the two
   buffers in turn. -/
module

public import proofs.«01_k».proof.Proof.Oproj.Value
public import proofs.«01_k».proof.Proof.NormLayer
public import Idealize.ShloMosaic.Lib.Pointwise.TacticCore

@[expose] public section

set_option maxRecDepth 16384

noncomputable section

namespace Cert.OprojIdeal.Block

open Cert.OprojIdeal Cert.OprojIdeal.Gen Cert.W8A8 Idealize.ShloMosaic Idealize.ShloMosaic.TcCoe Idealize.ShloMosaic.Tactic

/-- A row of 256 scales turned into a 256 by 256 matrix, one scale per row, as the kernel prints it: spread over 128 rows,
    transposed, and set beside itself. -/
def scaleVec (v : Vec Ideal S1x1x256 .f32) : FVec Ideal S256x256 .f32 :=
  let t : FVec Ideal S256x128 .f32 := transpose S256x128 [1, 0] (broadcastTo S128x256
    (shapeCast S1x256 (shapeCast S1x256 v shapeCasts_S1x1x256_S1x256) shapeCasts_S1x256_S1x256)
    broadcasts_S1x256_S128x256) transposes_S128x256_p1_0_S256x128
  concatenate S256x256 1 [⟨S256x128, t⟩, ⟨S256x128, t⟩] concatenates_S256x128_S256x128_S256x256_d1

theorem scaleVec_apply (v : Vec Ideal S1x1x256 .f32) (r c : Fin 256) :
    scaleVec v (ValueIdx.ix2 r c) = v (ValueIdx.ix3 0 0 r) := by
  have ht : ∀ d : Fin 128, transpose S256x128 [1, 0] (broadcastTo S128x256
    (shapeCast S1x256 (shapeCast S1x256 v shapeCasts_S1x1x256_S1x256) shapeCasts_S1x256_S1x256)
    broadcasts_S1x256_S128x256) transposes_S128x256_p1_0_S256x128 (ValueIdx.ix2 r d) = v (ValueIdx.ix3 0 0 r) := fun d => by
    refine (ValueIdx.transpose_ix2_apply _ _ r d).trans ((ValueIdx.broadcastTo_1b_ab_apply _ _ d r).trans ?_)
    rw [shapeCast_self]
    exact ValueIdx.shapeCast_1ab_ab_apply v _ 0 r
  by_cases hc : c.val < 128
  · refine (concatenate_pair_apply_left (t := S256x256) (s₁ := S256x128) (s₂ := S256x128) (1 : Fin 2) _ _ concatenates_S256x128_S256x128_S256x256_d1 (ValueIdx.ix2 r c) rfl
      (ValueIdx.ix2 r (⟨c.val, hc⟩ : Fin 128)) ?_).trans (ht _)
    intro b
    match b with
    | ⟨0, _⟩ => rfl
    | ⟨1, _⟩ => rfl
  · have hd : c.val - 128 < 128 := by omega
    refine (concatenate_pair_apply_right (t := S256x256) (s₁ := S256x128) (s₂ := S256x128) (1 : Fin 2) _ _ concatenates_S256x128_S256x128_S256x256_d1 (ValueIdx.ix2 r c) rfl rfl
      (ValueIdx.ix2 r (⟨c.val - 128, hd⟩ : Fin 128)) ?_ ?_).trans (ht _)
    · intro b hb
      match b with
      | ⟨0, _⟩ => rfl
      | ⟨1, _⟩ => exact absurd rfl hb
    · show c.val - 128 + 128 = c.val
      omega

/-- A load of the whole block of row scales reads the block. -/
theorem scale_ld (v : Vec Ideal S1x1x256 .f32) (r c : Fin 256) :
    scaleVec (View.ld (Val := Elt Ideal) (e' := .f32) v (Rect.unit (s := S1x1x256) ![0, 0, 0] S1x1x256.size inb_S1x1x256_S1x1x256_0_0_0))
      (ValueIdx.ix2 r c) = v (ValueIdx.ix3 0 0 r) := by
  rw [View.ld_unit_zero (S := S1x1x256) (funext fun a => by fin_cases a <;> rfl) _ v]
  exact scaleVec_apply v r c

variable (c : Dev nD) (i : grid0.Coords)
  (a1 : Memref sig .tc .vmem S256x1536 .i8) (w1 : a1.IsWhole) (a2 : Memref sig .tc .vmem S1x1x256 .f32) (w2 : a2.IsWhole)
  (a3 : Memref sig .tc .vmem S256x3072 .bf16) (w3 : a3.IsWhole) (a4 : Memref sig .tc .smem S1x1 .f32) (w4 : a4.IsWhole)
  (a5 : Memref sig .tc .vmem S1536x3072 .i8) (w5 : a5.IsWhole) (a6 : Memref sig .tc .vmem S1x3072 .f32) (w6 : a6.IsWhole)
  (a7 : Memref sig .tc .vmem S1x3072 .f32) (w7 : a7.IsWhole) (a8 : Memref sig .tc .vmem S1x3072 .f32) (w8 : a8.IsWhole)
  (a9 : Memref sig .tc .vmem S1x3072 .f32) (w9 : a9.IsWhole) (a10 : Memref sig .tc .vmem S256x3072 .f32) (w10 : a10.IsWhole)
  (a11 : Memref sig .tc .vmem S256x3072 .i8) (w11 : a11.IsWhole) (a12 : Memref sig .tc .vmem S256x3072 .f32) (w12 : a12.IsWhole)
  (a13 : Memref sig .tc .vmem S256x3072 .f32) (w13 : a13.IsWhole)

variable (x0 : Vec Ideal S256x1536 .i8) (x1 : Vec Ideal S1x1x256 .f32) (x2 : Vec Ideal S256x3072 .bf16) (x3 : Vec Ideal S1x1 .f32)
  (x4 : Vec Ideal S1536x3072 .i8) (x5 x6 x7 x8 : Vec Ideal S1x3072 .f32) (xo9 xs0 xs1 : Vec Ideal S256x3072 .f32)

/-- The first half's block: the residual plus the rescaled product on the point's rows. -/
abbrev res : Vec Ideal S256x3072 .f32 := outReal x2 x0 (fun r => x1 (ValueIdx.ix3 0 0 r)) x4 x5 x6

/-- The second half's block over the rows `y`: the layer norm's codes. -/
abbrev codes (y : Vec Ideal S256x3072 .f32) : Vec Ideal S256x3072 .i8 := normCodes y x7 x8 (x3 (ValueIdx.ix2 0 0))

section CaseA

variable (hc0 : cond0_0 i) (hc1 : ¬cond0_1 i) (hc2 : ¬cond0_2 i) (hc3 : ¬cond0_3 i)

/-- The result block after the first point. -/
theorem out_A_9 : out0_A_9 c i a1 w1 a2 w2 a3 w3 a4 w4 a5 w5 a6 w6 a7 w7 a8 w8 a9 w9 a10 w10 a11 w11 a12 w12 a13 w13
      hc0 hc1 hc2 hc3 x0 x1 x2 x3 x4 x5 x6 x7 x8
    = res x0 x1 x2 x4 x5 x6 := by
  unfold out0_A_9
  refine read_writes_of_pieces _ _ _ _ (by intro; apply cover0_A_9) ?_
  unfold kernelRun0_A
  dsimp only
  sl_unfold_words
  simp only [View.readAt_eq_ld, w1.read_unread, w2.read_unread, w3.read_unread, w4.read_unread, w5.read_unread,
    w6.read_unread, w7.read_unread, w8.read_unread, w9.read_unread]
  repeat
    refine List.forall_mem_cons.mpr ⟨fun x => ?_, ?_⟩
    · dsimp only
      unfold_payloads
      exact out_piece dot_S256x1536_S1536x256_S256x256_1_0_0_1_n_n rfl x2 x0 x4 x5 x6 _ _ (scale_ld x1) _ _ _ _ _ _ _ _ _ x
  exact fun q hq => absurd hq List.not_mem_nil

/-- Scratch buffer 0 after the first point. -/
theorem sout_A_0 : sout0_A_0 c i a1 w1 a2 w2 a3 w3 a4 w4 a5 w5 a6 w6 a7 w7 a8 w8 a9 w9 a10 w10 a11 w11 a12 w12 a13 w13
      hc0 hc1 hc2 hc3 x0 x1 x2 x3 x4 x5 x6 x7 x8
    = res x0 x1 x2 x4 x5 x6 := by
  unfold sout0_A_0
  refine read_writes_of_pieces _ _ _ _ (by intro; apply scover0_A_0) ?_
  unfold kernelRun0_A
  dsimp only
  sl_unfold_words
  simp only [View.readAt_eq_ld, w1.read_unread, w2.read_unread, w3.read_unread, w4.read_unread, w5.read_unread,
    w6.read_unread, w7.read_unread, w8.read_unread, w9.read_unread]
  repeat
    refine List.forall_mem_cons.mpr ⟨fun x => ?_, ?_⟩
    · dsimp only
      unfold_payloads
      rw [shapeCast_self]
      exact out_piece dot_S256x1536_S1536x256_S256x256_1_0_0_1_n_n rfl x2 x0 x4 x5 x6 _ _ (scale_ld x1) _ _ _ _ _ _ _ _ _ x
  exact fun q hq => absurd hq List.not_mem_nil

end CaseA

section CaseB

variable (hc0 : ¬cond0_0 i) (hc1 : cond0_1 i) (hc2 : ¬cond0_2 i) (hc3 : ¬cond0_3 i)

/-- The result block after an odd point. -/
theorem out_B_9 : out0_B_9 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xs0
    = res x0 x1 x2 x4 x5 x6 := by
  unfold out0_B_9
  refine read_writes_of_pieces _ _ _ _ (by intro; apply cover0_B_9) ?_
  unfold kernelRun0_B
  dsimp only
  sl_unfold_words
  simp only [View.readAt_eq_ld, w1.read_unread, w2.read_unread, w3.read_unread, w4.read_unread, w5.read_unread,
    w6.read_unread, w7.read_unread, w8.read_unread, w9.read_unread]
  repeat
    refine List.forall_mem_cons.mpr ⟨fun x => ?_, ?_⟩
    · dsimp only
      unfold_payloads
      exact out_piece dot_S256x1536_S1536x256_S256x256_1_0_0_1_n_n rfl x2 x0 x4 x5 x6 _ _ (scale_ld x1) _ _ _ _ _ _ _ _ _ x
  exact fun q hq => absurd hq List.not_mem_nil

/-- Scratch buffer 1 after an odd point. -/
theorem sout_B_1 : sout0_B_1 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xs0
    = res x0 x1 x2 x4 x5 x6 := by
  unfold sout0_B_1
  refine read_writes_of_pieces _ _ _ _ (by intro; apply scover0_B_1) ?_
  unfold kernelRun0_B
  dsimp only
  sl_unfold_words
  simp only [View.readAt_eq_ld, w1.read_unread, w2.read_unread, w3.read_unread, w4.read_unread, w5.read_unread,
    w6.read_unread, w7.read_unread, w8.read_unread, w9.read_unread]
  repeat
    refine List.forall_mem_cons.mpr ⟨fun x => ?_, ?_⟩
    · dsimp only
      unfold_payloads
      rw [shapeCast_self]
      exact out_piece dot_S256x1536_S1536x256_S256x256_1_0_0_1_n_n rfl x2 x0 x4 x5 x6 _ _ (scale_ld x1) _ _ _ _ _ _ _ _ _ x
  exact fun q hq => absurd hq List.not_mem_nil

/-- The codes block after an odd point: of the rows that the point before left in scratch. -/
theorem out_B_10 : out0_B_10 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xs0
    = codes x3 x7 x8 xs0 := by
  unfold out0_B_10
  refine read_writes_of_pieces _ _ _ _ (by intro; apply cover0_B_10) ?_
  unfold kernelRun0_B
  dsimp only
  sl_unfold_words
  simp only [View.readAt_eq_ld, w1.read_unread, w2.read_unread, w3.read_unread, w4.read_unread, w5.read_unread,
    w6.read_unread, w7.read_unread, w8.read_unread, w9.read_unread, w12.read_unread]
  simp only [first_one x3 _ _ rfl]
  repeat
    refine List.forall_mem_cons.mpr ⟨fun x => ?_, ?_⟩
    · dsimp only
      unfold_payloads
      exact congrArg (Ideal.fptosi 8) (norm_piece xs0 x7 x8 (x3 (ValueIdx.ix2 0 0)) _ _ _ _ _ _ _ _ _ x)
  exact fun q hq => absurd hq List.not_mem_nil

end CaseB

section CaseC

variable (hc0 : ¬cond0_0 i) (hc1 : ¬cond0_1 i) (hc2 : cond0_2 i) (hc3 : ¬cond0_3 i)

/-- The result block after an even point between. -/
theorem out_C_9 : out0_C_9 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xs1
    = res x0 x1 x2 x4 x5 x6 := by
  unfold out0_C_9
  refine read_writes_of_pieces _ _ _ _ (by intro; apply cover0_C_9) ?_
  unfold kernelRun0_C
  dsimp only
  sl_unfold_words
  simp only [View.readAt_eq_ld, w1.read_unread, w2.read_unread, w3.read_unread, w4.read_unread, w5.read_unread,
    w6.read_unread, w7.read_unread, w8.read_unread, w9.read_unread]
  repeat
    refine List.forall_mem_cons.mpr ⟨fun x => ?_, ?_⟩
    · dsimp only
      unfold_payloads
      exact out_piece dot_S256x1536_S1536x256_S256x256_1_0_0_1_n_n rfl x2 x0 x4 x5 x6 _ _ (scale_ld x1) _ _ _ _ _ _ _ _ _ x
  exact fun q hq => absurd hq List.not_mem_nil

/-- Scratch buffer 0 after an even point between. -/
theorem sout_C_0 : sout0_C_0 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xs1
    = res x0 x1 x2 x4 x5 x6 := by
  unfold sout0_C_0
  refine read_writes_of_pieces _ _ _ _ (by intro; apply scover0_C_0) ?_
  unfold kernelRun0_C
  dsimp only
  sl_unfold_words
  simp only [View.readAt_eq_ld, w1.read_unread, w2.read_unread, w3.read_unread, w4.read_unread, w5.read_unread,
    w6.read_unread, w7.read_unread, w8.read_unread, w9.read_unread]
  repeat
    refine List.forall_mem_cons.mpr ⟨fun x => ?_, ?_⟩
    · dsimp only
      unfold_payloads
      rw [shapeCast_self]
      exact out_piece dot_S256x1536_S1536x256_S256x256_1_0_0_1_n_n rfl x2 x0 x4 x5 x6 _ _ (scale_ld x1) _ _ _ _ _ _ _ _ _ x
  exact fun q hq => absurd hq List.not_mem_nil

/-- The codes block after an even point between: of the rows that the point before left in scratch. -/
theorem out_C_10 : out0_C_10 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xs1
    = codes x3 x7 x8 xs1 := by
  unfold out0_C_10
  refine read_writes_of_pieces _ _ _ _ (by intro; apply cover0_C_10) ?_
  unfold kernelRun0_C
  dsimp only
  sl_unfold_words
  simp only [View.readAt_eq_ld, w1.read_unread, w2.read_unread, w3.read_unread, w4.read_unread, w5.read_unread,
    w6.read_unread, w7.read_unread, w8.read_unread, w9.read_unread, w13.read_unread]
  simp only [first_one x3 _ _ rfl]
  repeat
    refine List.forall_mem_cons.mpr ⟨fun x => ?_, ?_⟩
    · dsimp only
      unfold_payloads
      exact congrArg (Ideal.fptosi 8) (norm_piece xs1 x7 x8 (x3 (ValueIdx.ix2 0 0)) _ _ _ _ _ _ _ _ _ x)
  exact fun q hq => absurd hq List.not_mem_nil

end CaseC

section CaseD

variable (hc0 : ¬cond0_0 i) (hc1 : ¬cond0_1 i) (hc2 : ¬cond0_2 i) (hc3 : cond0_3 i)

/-- The codes block after the last point: of the rows that the point before left in scratch. -/
theorem out_D_10 : out0_D_10 c i a1 w1 a2 w2 a3 w3 a4 w4 a5 w5 a6 w6 a7 w7 a8 w8 a9 w9 a10 w10 a11 w11 a12 w12 a13 w13
      hc0 hc1 hc2 hc3 x0 x1 x2 x3 x4 x5 x6 x7 x8 xo9 xs0 xs1
    = codes x3 x7 x8 xs1 := by
  unfold out0_D_10
  refine read_writes_of_pieces _ _ _ _ (by intro; apply cover0_D_10) ?_
  unfold kernelRun0_D
  dsimp only
  sl_unfold_words
  simp only [View.readAt_eq_ld, w1.read_unread, w2.read_unread, w3.read_unread, w4.read_unread, w5.read_unread,
    w6.read_unread, w7.read_unread, w8.read_unread, w9.read_unread, w13.read_unread]
  simp only [first_one x3 _ _ rfl]
  repeat
    refine List.forall_mem_cons.mpr ⟨fun x => ?_, ?_⟩
    · dsimp only
      unfold_payloads
      exact congrArg (Ideal.fptosi 8) (norm_piece xs1 x7 x8 (x3 (ValueIdx.ix2 0 0)) _ _ _ _ _ _ _ _ _ x)
  exact fun q hq => absurd hq List.not_mem_nil

end CaseD

end Cert.OprojIdeal.Block

end
-- ==== Proof.OprojArray.lean ====
/- The output projection kernel's two result arrays after its 33 points. Point `t` below 32 computes rows
   `256 t … 256 t + 255` of the residual stream, into its result and into one of two scratch buffers; point `t` above 0 computes
   the norm's codes of the rows of point `t - 1`, out of the buffer that point filled. Both depend on a row only, so the blocks
   are the pieces of the layers over the whole arrays. -/
module

public import proofs.«01_k».proof.Proof.OprojBlock

@[expose] public section

set_option maxRecDepth 16384

noncomputable section

namespace Cert.OprojIdeal.Array

open Cert.OprojIdeal Cert.OprojIdeal.Gen Cert.W8A8 Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Where the blocks lie -/

/-- The block of rows that a point computes (the last point, which computes none, stays at the last block). -/
def cur (t : Fin cfg0.N) : Fin 32 := ⟨min t.val 31, by omega⟩

/-- The block of rows whose codes a point computes. -/
def prev (t : Fin cfg0.N) : Fin 32 := ⟨t.val - 1, by have h := t.isLt; have hN : cfg0.N = 33 := N_0; omega⟩

/-- Row `r` of block `b`, as a row of the whole array. -/
def row (b : Fin 32) (r : Fin 256) : Fin 8192 := ⟨256 * b.val + r.val, by omega⟩

/-- Block `b` of an array's rows. -/
def rowsOf {α : Type} (y : Mat α 8192 3072) (b : Fin 32) : Mat α 256 3072 := fun j => y (ValueIdx.ix2 (row b (j 0)) (j 1))

theorem idx0 : ∀ t : Fin cfg0.N, win0_0.index t (0 : Fin 2) = min t.val 31 ∧ win0_0.index t (1 : Fin 2) = 0 :=
  (by decide +kernel : ∀ t : Fin grid0.N, _)

theorem idx2 : ∀ t : Fin cfg0.N, win0_2.index t (0 : Fin 2) = min t.val 31 ∧ win0_2.index t (1 : Fin 2) = 0 :=
  (by decide +kernel : ∀ t : Fin grid0.N, _)

theorem idx9 : ∀ t : Fin cfg0.N, win0_9.index t (0 : Fin 2) = min t.val 31 ∧ win0_9.index t (1 : Fin 2) = 0 :=
  (by decide +kernel : ∀ t : Fin grid0.N, _)

theorem idx1 : ∀ t : Fin cfg0.N, win0_1.index t (0 : Fin 3) = min t.val 31 ∧ win0_1.index t (1 : Fin 3) = 0
    ∧ win0_1.index t (2 : Fin 3) = 0 :=
  (by decide +kernel : ∀ t : Fin grid0.N, _)

theorem idx10 : ∀ t : Fin cfg0.N, win0_10.index t (0 : Fin 2) = t.val - 1 ∧ win0_10.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

/-- The residual stream's window is written back at every point but 31, whose block the last point writes back. -/
theorem flush9 : ∀ t : Fin cfg0.N, t.val ≠ 31 → (cfg0.win 9).flush t = true :=
  (by decide +kernel : ∀ t : Fin grid0.N, _)

/-- The codes' window is written back at every point but the first. -/
theorem flush10 : ∀ t : Fin cfg0.N, (cfg0.win 10).flush t = true ↔ t.val ≠ 0 :=
  (by decide +kernel : ∀ t : Fin grid0.N, _)

/-- A point's block of `main_arg0`: the rows of its block. -/
theorem iblk0 (t : Fin cfg0.N) (r : Fin 256) (k : Fin 1536) :
    iblk m c 0 t (ValueIdx.ix2 r k) = V m c main_arg0 (ValueIdx.ix2 (row (cur t) r) k) := by
  obtain ⟨e0, e1⟩ := idx0 t
  refine congrArg (V m c main_arg0) (funext fun a => Fin.ext ?_)
  match a with
  | ⟨0, _⟩ => show win0_0.index t (0 : Fin 2) * 256 + 1 * r.val = 256 * min t.val 31 + r.val; omega
  | ⟨1, _⟩ => show win0_0.index t (1 : Fin 2) * 1536 + 1 * k.val = k.val; omega

/-- A point's block of `main_arg2`: the rows of its block. -/
theorem iblk2 (t : Fin cfg0.N) (r : Fin 256) (k : Fin 3072) :
    iblk m c 2 t (ValueIdx.ix2 r k) = V m c main_arg2 (ValueIdx.ix2 (row (cur t) r) k) := by
  obtain ⟨e0, e1⟩ := idx2 t
  refine congrArg (V m c main_arg2) (funext fun a => Fin.ext ?_)
  match a with
  | ⟨0, _⟩ => show win0_2.index t (0 : Fin 2) * 256 + 1 * r.val = 256 * min t.val 31 + r.val; omega
  | ⟨1, _⟩ => show win0_2.index t (1 : Fin 2) * 3072 + 1 * k.val = k.val; omega

/-- A point's block of the row scales. -/
theorem iblk1 (t : Fin cfg0.N) (r : Fin 256) :
    iblk m c 1 t (ValueIdx.ix3 0 0 r) = V m c main_arg1 (ValueIdx.ix3 (cur t) 0 r) := by
  obtain ⟨e0, e1, e2⟩ := idx1 t
  refine congrArg (V m c main_arg1) (funext fun a => Fin.ext ?_)
  match a with
  | ⟨0, _⟩ => show win0_1.index t (0 : Fin 3) * 1 + 1 * 0 = min t.val 31; omega
  | ⟨1, _⟩ => show win0_1.index t (1 : Fin 3) * 1 + 1 * 0 = 0; omega
  | ⟨2, _⟩ => show win0_1.index t (2 : Fin 3) * 256 + 1 * r.val = r.val; omega

/-- The codes' scale: every point's block is the whole array. -/
theorem iblk3 (t : Fin cfg0.N) : iblk m c 3 t = V m c main_arg3 := by
  obtain ⟨e0, e1⟩ := idx3 t
  funext j
  refine congrArg (V m c main_arg3) (funext fun a => Fin.ext ?_)
  match a with
  | ⟨0, _⟩ => show win0_3.index t (0 : Fin 2) * 1 + 1 * (j 0).val = (j 0).val; omega
  | ⟨1, _⟩ => show win0_3.index t (1 : Fin 2) * 1 + 1 * (j 1).val = (j 1).val; omega

/-- The weights: every point's block is the whole array. -/
theorem iblk4 (t : Fin cfg0.N) : iblk m c 4 t = V m c main_arg4 := by
  obtain ⟨e0, e1⟩ := idx4 t
  funext j
  refine congrArg (V m c main_arg4) (funext fun a => Fin.ext ?_)
  match a with
  | ⟨0, _⟩ => show win0_4.index t (0 : Fin 2) * 1536 + 1 * (j 0).val = (j 0).val; omega
  | ⟨1, _⟩ => show win0_4.index t (1 : Fin 2) * 3072 + 1 * (j 1).val = (j 1).val; omega

/-- The channel scales: every point's block is the whole array. -/
theorem iblk5 (t : Fin cfg0.N) : iblk m c 5 t = V m c main_arg5 := by
  obtain ⟨e0, e1⟩ := idx5 t
  funext j
  refine congrArg (V m c main_arg5) (funext fun a => Fin.ext ?_)
  match a with
  | ⟨0, _⟩ => show win0_5.index t (0 : Fin 2) * 1 + 1 * (j 0).val = (j 0).val; omega
  | ⟨1, _⟩ => show win0_5.index t (1 : Fin 2) * 3072 + 1 * (j 1).val = (j 1).val; omega

/-- The bias: every point's block is the whole array. -/
theorem iblk6 (t : Fin cfg0.N) : iblk m c 6 t = V m c main_arg6 := by
  obtain ⟨e0, e1⟩ := idx6 t
  funext j
  refine congrArg (V m c main_arg6) (funext fun a => Fin.ext ?_)
  match a with
  | ⟨0, _⟩ => show win0_6.index t (0 : Fin 2) * 1 + 1 * (j 0).val = (j 0).val; omega
  | ⟨1, _⟩ => show win0_6.index t (1 : Fin 2) * 3072 + 1 * (j 1).val = (j 1).val; omega

/-- The norm's gains: every point's block is the whole array. -/
theorem iblk7 (t : Fin cfg0.N) : iblk m c 7 t = V m c main_arg7 := by
  obtain ⟨e0, e1⟩ := idx7 t
  funext j
  refine congrArg (V m c main_arg7) (funext fun a => Fin.ext ?_)
  match a with
  | ⟨0, _⟩ => show win0_7.index t (0 : Fin 2) * 1 + 1 * (j 0).val = (j 0).val; omega
  | ⟨1, _⟩ => show win0_7.index t (1 : Fin 2) * 3072 + 1 * (j 1).val = (j 1).val; omega

/-- The norm's offsets: every point's block is the whole array. -/
theorem iblk8 (t : Fin cfg0.N) : iblk m c 8 t = V m c main_arg8 := by
  obtain ⟨e0, e1⟩ := idx8 t
  funext j
  refine congrArg (V m c main_arg8) (funext fun a => Fin.ext ?_)
  match a with
  | ⟨0, _⟩ => show win0_8.index t (0 : Fin 2) * 1 + 1 * (j 0).val = (j 0).val; omega
  | ⟨1, _⟩ => show win0_8.index t (1 : Fin 2) * 3072 + 1 * (j 1).val = (j 1).val; omega

/-- Where output window 9's block at a point lies in its array. -/
theorem emb9 (t : Fin cfg0.N) (r : Fin 256) (k : Fin 3072) :
    ((cfg0.win 9).blk t).view.emb (ValueIdx.ix2 r k) = (ValueIdx.ix2 (row (cur t) r) k : (⟨2, ![8192, 3072]⟩ : Shape).Idx) := by
  obtain ⟨e0, e1⟩ := idx9 t
  refine funext fun a => Fin.ext ?_
  match a with
  | ⟨0, _⟩ => show win0_9.index t (0 : Fin 2) * 256 + 1 * r.val = 256 * min t.val 31 + r.val; omega
  | ⟨1, _⟩ => show win0_9.index t (1 : Fin 2) * 3072 + 1 * k.val = k.val; omega

/-- Where output window 10's block at a point lies in its array. -/
theorem emb10 (t : Fin cfg0.N) (r : Fin 256) (k : Fin 3072) :
    ((cfg0.win 10).blk t).view.emb (ValueIdx.ix2 r k) = (ValueIdx.ix2 (row (prev t) r) k : (⟨2, ![8192, 3072]⟩ : Shape).Idx) := by
  obtain ⟨e0, e1⟩ := idx10 t
  refine funext fun a => Fin.ext ?_
  match a with
  | ⟨0, _⟩ => show win0_10.index t (0 : Fin 2) * 256 + 1 * r.val = 256 * (t.val - 1) + r.val; omega
  | ⟨1, _⟩ => show win0_10.index t (1 : Fin 2) * 3072 + 1 * k.val = k.val; omega

/-- The blocks of output window 9 that are written back cover its array. -/
theorem covered9 (i : (⟨2, ![8192, 3072]⟩ : Shape).Idx) :
    ∃ t : Fin cfg0.N, (cfg0.win 9).flush t = true ∧ i ∈ ((cfg0.win 9).blk t).view.set := by
  have h0 : (i 0).val < 8192 := (i 0).isLt
  have hN : cfg0.N = 33 := N_0
  obtain ⟨t, hf, ht⟩ : ∃ t : Fin cfg0.N, (cfg0.win 9).flush t = true ∧ (cur t).val = (i 0).val / 256 := by
    by_cases hb : (i 0).val / 256 < 31
    · exact ⟨⟨(i 0).val / 256, by omega⟩, flush9 _ (by show (i 0).val / 256 ≠ 31; omega),
        by show min ((i 0).val / 256) 31 = (i 0).val / 256; omega⟩
    · exact ⟨⟨32, by omega⟩, flush9 _ (by show (32 : ℕ) ≠ 31; omega), by show min 32 31 = (i 0).val / 256; omega⟩
  refine ⟨t, hf, ?_⟩
  have h := ((cfg0.win 9).blk t).view.emb_mem_set (ValueIdx.ix2 ⟨(i 0).val % 256, Nat.mod_lt _ (by norm_num)⟩ (i 1))
  refine (congrArg (· ∈ ((cfg0.win 9).blk t).view.set) ((emb9 _ _ _).trans ?_)).mp h
  refine (congrArg (ValueIdx.ix2 · (i 1)) (Fin.ext ?_)).trans (ValueIdx.eq_ix2 i).symm
  show 256 * (cur t).val + (i 0).val % 256 = (i 0).val
  omega

/-- The blocks of output window 10 that are written back cover its array. -/
theorem covered10 (i : (⟨2, ![8192, 3072]⟩ : Shape).Idx) :
    ∃ t : Fin cfg0.N, (cfg0.win 10).flush t = true ∧ i ∈ ((cfg0.win 10).blk t).view.set := by
  have h0 : (i 0).val < 8192 := (i 0).isLt
  have hN : cfg0.N = 33 := N_0
  obtain ⟨t, hf, ht⟩ : ∃ t : Fin cfg0.N, (cfg0.win 10).flush t = true ∧ (prev t).val = (i 0).val / 256 := by
    exact ⟨⟨(i 0).val / 256 + 1, by omega⟩, (flush10 _).mpr (by show (i 0).val / 256 + 1 ≠ 0; omega),
      by show (i 0).val / 256 + 1 - 1 = (i 0).val / 256; omega⟩
  refine ⟨t, hf, ?_⟩
  have h := ((cfg0.win 10).blk t).view.emb_mem_set (ValueIdx.ix2 ⟨(i 0).val % 256, Nat.mod_lt _ (by norm_num)⟩ (i 1))
  refine (congrArg (· ∈ ((cfg0.win 10).blk t).view.set) ((emb10 _ _ _).trans ?_)).mp h
  refine (congrArg (ValueIdx.ix2 · (i 1)) (Fin.ext ?_)).trans (ValueIdx.eq_ix2 i).symm
  show 256 * (prev t).val + (i 0).val % 256 = (i 0).val
  omega

/-! ## The arrays -/

/-- The residual stream as an array of the launch arguments. -/
abbrev G9 : Vec Ideal S8192x3072 .f32 :=
  outReal (V m c main_arg2) (V m c main_arg0) (fun R => rowScale (V m c main_arg1) R)
    (V m c main_arg4) (V m c main_arg5) (V m c main_arg6)

/-- The codes as an array of the launch arguments. -/
abbrev G10 : Vec Ideal S8192x3072 .i8 :=
  normCodes (G9 m c) (V m c main_arg7) (V m c main_arg8) (V m c main_arg3 (ValueIdx.ix2 0 0))

/-- The first half's block at a point is its block of rows of the residual stream. -/
theorem res_iblk (t : Fin cfg0.N) :
    Block.res (iblk m c 0 t) (iblk m c 1 t) (iblk m c 2 t) (iblk m c 4 t) (iblk m c 5 t) (iblk m c 6 t) = rowsOf (G9 m c) (cur t) := by
  funext j
  obtain ⟨r, k, rfl⟩ : ∃ r k, j = ValueIdx.ix2 r k := ⟨j 0, j 1, ValueIdx.eq_ix2 j⟩
  unfold Block.res
  rw [iblk4 m c t, iblk5 m c t, iblk6 m c t]
  exact outReal_rows _ (V m c main_arg2) _ (V m c main_arg0) _ (fun R => rowScale (V m c main_arg1) R) _ _ _ r (row (cur t) r)
    (fun k => iblk2 m c t r k) (fun k => iblk0 m c t r k)
    ((iblk1 m c t r).trans (rowScale_block (V m c main_arg1) (cur t) r (row (cur t) r) rfl).symm) k

/-- The second half's block over a block of rows is that block of the codes. -/
theorem codes_iblk (t : Fin cfg0.N) (b : Fin 32) :
    Block.codes (iblk m c 3 t) (iblk m c 7 t) (iblk m c 8 t) (rowsOf (G9 m c) b) = rowsOf (G10 m c) b := by
  funext j
  obtain ⟨r, k, rfl⟩ : ∃ r k, j = ValueIdx.ix2 r k := ⟨j 0, j 1, ValueIdx.eq_ix2 j⟩
  unfold Block.codes
  rw [iblk3 m c t, iblk7 m c t, iblk8 m c t]
  exact congrArg (Ideal.fptosi 8) (normReal_rows _ (G9 m c) _ _ _ r (row b r) (fun _ => rfl) k)

/-! ## What each point leaves -/

section Points

variable (t : Fin cfg0.N)

/-- The result block after the first point. -/
theorem at_A_res (h0 : t.val % 33 = 0) (h1 : ¬t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).1 = rowsOf (G9 m c) (cur t) := by
  rw [outsAt0_A m c t h0 h1 h2 h3]
  unfold leftA
  dsimp only
  exact (Block.out_A_9 ..).trans (res_iblk m c t)

/-- Scratch buffer 0 after the first point. -/
theorem at_A_scr (h0 : t.val % 33 = 0) (h1 : ¬t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).2.2.1 = rowsOf (G9 m c) (cur t) := by
  rw [outsAt0_A m c t h0 h1 h2 h3]
  unfold leftA
  dsimp only
  exact (Block.sout_A_0 ..).trans (res_iblk m c t)

/-- The result block after an odd point. -/
theorem at_B_res (h0 : ¬t.val % 33 = 0) (h1 : t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).1 = rowsOf (G9 m c) (cur t) := by
  rw [outsAt0_B m c t h0 h1 h2 h3]
  unfold leftB
  dsimp only
  exact (Block.out_B_9 ..).trans (res_iblk m c t)

/-- Scratch buffer 1 after an odd point. -/
theorem at_B_scr (h0 : ¬t.val % 33 = 0) (h1 : t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).2.2.2 = rowsOf (G9 m c) (cur t) := by
  rw [outsAt0_B m c t h0 h1 h2 h3]
  unfold leftB
  dsimp only
  exact (Block.sout_B_1 ..).trans (res_iblk m c t)

/-- The result block after an even point between. -/
theorem at_C_res (h0 : ¬t.val % 33 = 0) (h1 : ¬t.val % 2 = 1)
    (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).1 = rowsOf (G9 m c) (cur t) := by
  rw [outsAt0_C m c t h0 h1 h2 h3]
  unfold leftC
  dsimp only
  exact (Block.out_C_9 ..).trans (res_iblk m c t)

/-- Scratch buffer 0 after an even point between. -/
theorem at_C_scr (h0 : ¬t.val % 33 = 0) (h1 : ¬t.val % 2 = 1)
    (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).2.2.1 = rowsOf (G9 m c) (cur t) := by
  rw [outsAt0_C m c t h0 h1 h2 h3]
  unfold leftC
  dsimp only
  exact (Block.sout_C_0 ..).trans (res_iblk m c t)

/-- The codes block after an odd point. -/
theorem at_B_codes (h0 : ¬t.val % 33 = 0) (h1 : t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).2.1 = Block.codes (iblk m c 3 t) (iblk m c 7 t) (iblk m c 8 t) (outsAt0 m c (t.val - 1) (Nat.lt_of_le_of_lt (Nat.sub_le _ _) t.isLt)).2.2.1 := by
  rw [outsAt0_B m c t h0 h1 h2 h3]
  unfold leftB
  dsimp only
  exact Block.out_B_10 ..

/-- The codes block after an even point between. -/
theorem at_C_codes (h0 : ¬t.val % 33 = 0) (h1 : ¬t.val % 2 = 1)
    (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : ¬t.val % 33 = 32) :
    (outsAt0 m c t.val t.isLt).2.1 = Block.codes (iblk m c 3 t) (iblk m c 7 t) (iblk m c 8 t) (outsAt0 m c (t.val - 1) (Nat.lt_of_le_of_lt (Nat.sub_le _ _) t.isLt)).2.2.2 := by
  rw [outsAt0_C m c t h0 h1 h2 h3]
  unfold leftC
  dsimp only
  exact Block.out_C_10 ..

/-- The codes block after the last point. -/
theorem at_D_codes (h0 : ¬t.val % 33 = 0) (h1 : ¬t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : t.val % 33 = 32) :
    (outsAt0 m c t.val t.isLt).2.1 = Block.codes (iblk m c 3 t) (iblk m c 7 t) (iblk m c 8 t) (outsAt0 m c (t.val - 1) (Nat.lt_of_le_of_lt (Nat.sub_le _ _) t.isLt)).2.2.2 := by
  rw [outsAt0_D m c t h0 h1 h2 h3]
  unfold leftD
  dsimp only
  exact Block.out_D_10 ..

/-- The last point leaves the result block as it is. -/
theorem at_D_res (h0 : ¬t.val % 33 = 0) (h1 : ¬t.val % 2 = 1)
    (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))
    (h3 : t.val % 33 = 32) :
    (outsAt0 m c t.val t.isLt).1 = (outsAt0 m c (t.val - 1) (Nat.lt_of_le_of_lt (Nat.sub_le _ _) t.isLt)).1 := by
  rw [outsAt0_D m c t h0 h1 h2 h3]
  unfold leftD
  dsimp only

end Points

/-- The even points between the first and the last, as the program lists them. -/
theorem between (t : Fin cfg0.N) (h0 : ¬t.val % 33 = 0) (h1 : ¬t.val % 2 = 1) (h3 : ¬t.val % 33 = 32) :
    (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30) := by
  have hN : cfg0.N = 33 := N_0
  have ht : t.val < 33 := hN ▸ t.isLt
  rw [Nat.mod_eq_of_lt ht] at h0 h3 ⊢
  omega

/-- The result block after point `t` below 32. -/
theorem resBelow (t : Fin cfg0.N) (h : t.val < 32) : (outsAt0 m c t.val t.isLt).1 = rowsOf (G9 m c) (cur t) := by
  by_cases h0 : t.val % 33 = 0
  · exact at_A_res m c t h0 (by omega) (by omega) (by omega)
  by_cases h1 : t.val % 2 = 1
  · exact at_B_res m c t h0 h1 (by omega) (by omega)
  · exact at_C_res m c t h0 h1 (between t h0 h1 (by omega)) (by omega)

/-- The result block after any point: the last point leaves what point 31 left. -/
theorem resAt (t : Fin cfg0.N) : (outsAt0 m c t.val t.isLt).1 = rowsOf (G9 m c) (cur t) := by
  have hN : cfg0.N = 33 := N_0
  have ht := t.isLt
  by_cases h : t.val < 32
  · exact resBelow m c t h
  · refine (at_D_res m c t (by omega) (by omega) (by omega) (by omega)).trans ?_
    refine (resBelow m c ⟨t.val - 1, Nat.lt_of_le_of_lt (Nat.sub_le _ _) t.isLt⟩ (by show t.val - 1 < 32; omega)).trans ?_
    exact congrArg (rowsOf (G9 m c)) (Fin.ext (by show min (t.val - 1) 31 = min t.val 31; omega))

/-- The first scratch buffer after an even point below 32. -/
theorem scratch0 (t : Fin cfg0.N) (h : t.val < 32) (he : t.val % 2 = 0) :
    (outsAt0 m c t.val t.isLt).2.2.1 = rowsOf (G9 m c) (cur t) := by
  by_cases h0 : t.val % 33 = 0
  · exact at_A_scr m c t h0 (by omega) (by omega) (by omega)
  · exact at_C_scr m c t h0 (by omega) (between t h0 (by omega) (by omega)) (by omega)

/-- The second scratch buffer after an odd point. -/
theorem scratch1 (t : Fin cfg0.N) (h : t.val < 32) (ho : t.val % 2 = 1) :
    (outsAt0 m c t.val t.isLt).2.2.2 = rowsOf (G9 m c) (cur t) :=
  at_B_scr m c t (by omega) ho (by omega) (by omega)

/-- The codes block after every point but the first. -/
theorem codesAt (t : Fin cfg0.N) (h : t.val ≠ 0) : (outsAt0 m c t.val t.isLt).2.1 = rowsOf (G10 m c) (prev t) := by
  have hN : cfg0.N = 33 := N_0
  have ht := t.isLt
  have hl : t.val - 1 < cfg0.N := Nat.lt_of_le_of_lt (Nat.sub_le _ _) t.isLt
  have hc : cur ⟨t.val - 1, hl⟩ = prev t := Fin.ext (by show min (t.val - 1) 31 = t.val - 1; omega)
  by_cases h1 : t.val % 2 = 1
  · have hs := scratch0 m c ⟨t.val - 1, hl⟩ (by show t.val - 1 < 32; omega) (by show (t.val - 1) % 2 = 0; omega)
    rw [hc] at hs
    exact (at_B_codes m c t (by omega) h1 (by omega) (by omega)).trans
      ((congrArg (Block.codes (iblk m c 3 t) (iblk m c 7 t) (iblk m c 8 t)) hs).trans (codes_iblk m c t (prev t)))
  · have hs := scratch1 m c ⟨t.val - 1, hl⟩ (by show t.val - 1 < 32; omega) (by show (t.val - 1) % 2 = 1; omega)
    rw [hc] at hs
    have hcod := (congrArg (Block.codes (iblk m c 3 t) (iblk m c 7 t) (iblk m c 8 t)) hs).trans (codes_iblk m c t (prev t))
    by_cases h3 : t.val % 33 = 32
    · exact (at_D_codes m c t (by omega) h1 (by omega) h3).trans hcod
    · exact (at_C_codes m c t (by omega) h1 (between t (by omega) h1 h3) h3).trans hcod

/-! ## The run -/

/-- What a point writes back to the residual stream is its block of `G9`. -/
theorem flushed9 (t : Fin cfg0.N) : (dats m 0 c).flushed 9 t = ((cfg0.win 9).blk t).view.read (Elt Ideal) (G9 m c) := by
  rw [Value.flushed9, resAt]
  funext j
  obtain ⟨r, k, rfl⟩ : ∃ r k, j = ValueIdx.ix2 r k := ⟨j 0, j 1, ValueIdx.eq_ix2 j⟩
  exact congrArg (G9 m c) (emb9 t r k).symm

/-- What a point writes back to the codes is its block of `G10`. -/
theorem flushed10 (t : Fin cfg0.N) (hf : (cfg0.win 10).flush t = true) :
    (dats m 0 c).flushed 10 t = ((cfg0.win 10).blk t).view.read (Elt Ideal) (G10 m c) := by
  rw [Value.flushed10, codesAt m c t ((flush10 t).mp hf)]
  funext j
  obtain ⟨r, k, rfl⟩ : ∃ r k, j = ValueIdx.ix2 r k := ⟨j 0, j 1, ValueIdx.eq_ix2 j⟩
  exact congrArg (G10 m c) (emb10 t r k).symm

/-- The residual stream after the run. -/
theorem final9 : (dats m 0 c).arrAt 9 cfg0.N = G9 m c :=
  (dats m 0 c).arrAt_eq_of_cover 9 (G9 m c) (fun t _ => flushed9 m c t) covered9

/-- The codes after the run. -/
theorem final10 : (dats m 0 c).arrAt 10 cfg0.N = G10 m c :=
  (dats m 0 c).arrAt_eq_of_cover 10 (G10 m c) (fun t hf => flushed10 m c t hf) covered10

/-- The kernel's run: its two results are the residual stream and its norm's codes, of the launch arguments, which stay. -/
theorem run : θ_run defs (onTc (τ := τ) (main (F := Ideal))) ⟨m, fun _ => 0, ρ⟩ fun r => ∀ c : Dev nD,
      r.2.mem ((c : Thread nD τ).loc main_v0_0) = G9 m c
      ∧ r.2.mem ((c : Thread nD τ).loc main_v0_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.OprojIdeal.Array

end
-- ==== Proof.Qkv.Runs.lean ====
/-
   The kernel `_qkv` over any float layer, in the form in which the generated modules are written:
   what the runs of the body share: the contents of the arrays at the region's entry, the blocks each input stages, the
   conditions of the body in closed form over the point, and when an output is idle or written back.
-/
module

public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_QkvIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28 and 30 only — decided over the grid. -/
theorem hcond0_2 : ∀ t : Fin cfg0.N, cond0_2 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30) :=
  (by decide +kernel : ∀ t : Fin grid0.N, cond0_2 (grid0.coords t) ↔ (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_3, k0_cond4, e0]
    word_cmp
   : ∀ t : Fin grid0.N, cond0_3 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x17fffffff : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → ¬cond0_2 (grid0.coords t) → ¬cond0_3 (grid0.coords t) → cfg0.idle 9 (grid0.coords t) = false :=
  fun t h0 h1 h2 h3 => (by decide +kernel : ∀ t : Fin cfg0.N, conds0_A (grid0.coords t) → cfg0.idle 9 (grid0.coords t) = false) t ⟨h0, h1, h2, h3⟩
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → ¬cond0_3 (grid0.coords t) → cfg0.idle 9 (grid0.coords t) = false :=
  fun t h0 h1 h2 h3 => (by decide +kernel : ∀ t : Fin cfg0.N, conds0_B (grid0.coords t) → cfg0.idle 9 (grid0.coords t) = false) t ⟨h0, h1, h2, h3⟩
/-- At the points of case C the printed configuration (`Cfg.idle`) calls output 9 live: the case stores into it. -/
theorem liveAt0_9_C : ∀ t : Fin cfg0.N, ¬cond0_0 (grid0.coords t) → ¬cond0_1 (grid0.coords t) → cond0_2 (grid0.coords t) → ¬cond0_3 (grid0.coords t) → cfg0.idle 9 (grid0.coords t) = false :=
  fun t h0 h1 h2 h3 => (by decide +kernel : ∀ t : Fin cfg0.N, conds0_C (grid0.coords t) → cfg0.idle 9 (grid0.coords t) = false) t ⟨h0, h1, h2, h3⟩
/-- At the points of case D the printed configuration (`Cfg.idle`) calls output 9 live: the case stores into it. -/
theorem idleAt0_9_D : ∀ t : Fin cfg0.N, ¬cond0_0 (grid0.coords t) → ¬cond0_1 (grid0.coords t) → ¬cond0_2 (grid0.coords t) → cond0_3 (grid0.coords t) → cfg0.idle 9 (grid0.coords t) = true :=
  fun t h0 h1 h2 h3 => (by decide +kernel : ∀ t : Fin cfg0.N, conds0_D (grid0.coords t) → cfg0.idle 9 (grid0.coords t) = true) t ⟨h0, h1, h2, h3⟩
/-- At the points of case D the pipeline writes output 9's block back. -/
theorem flushAt0_9_D : ∀ t : Fin cfg0.N, ¬cond0_0 (grid0.coords t) → ¬cond0_1 (grid0.coords t) → ¬cond0_2 (grid0.coords t) → cond0_3 (grid0.coords t) → (cfg0.win 9).flush t = true :=
  fun t h0 h1 h2 h3 => (by decide +kernel : ∀ t : Fin cfg0.N, conds0_D (grid0.coords t) → (cfg0.win 9).flush t = true) t ⟨h0, h1, h2, h3⟩
/-- At the points of case D, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_D : ∀ t : Fin cfg0.N, ¬cond0_0 (grid0.coords t) → ¬cond0_1 (grid0.coords t) → ¬cond0_2 (grid0.coords t) → cond0_3 (grid0.coords t) → cfg0.fresh 9 t.val = false :=
  fun t h0 h1 h2 h3 => (by intro t; rw [fresh0_9_eq t]; revert t; decide +kernel : ∀ t : Fin cfg0.N, conds0_D (grid0.coords t) → cfg0.fresh 9 t.val = false) t ⟨h0, h1, h2, h3⟩
/-- At the points of case A the printed configuration (`Cfg.idle`) calls output 10 idle: the case stores nothing into it. -/
theorem idleAt0_10_A : ∀ t : Fin cfg0.N, cond0_0 (grid0.coords t) → ¬cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → ¬cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 live: the case stores into it. -/
theorem liveAt0_10_B : ∀ t : Fin cfg0.N, ¬cond0_0 (grid0.coords t) → cond0_1 (grid0.coords t) → ¬cond0_2 (grid0.coords t) → ¬cond0_3 (grid0.coords t) → cfg0.idle 10 (grid0.coords t) = false :=
  fun t h0 h1 h2 h3 => (by decide +kernel : ∀ t : Fin cfg0.N, conds0_B (grid0.coords t) → cfg0.idle 10 (grid0.coords t) = false) t ⟨h0, h1, h2, h3⟩
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → ¬cond0_3 (grid0.coords t) → cfg0.idle 10 (grid0.coords t) = false :=
  fun t h0 h1 h2 h3 => (by decide +kernel : ∀ t : Fin cfg0.N, conds0_C (grid0.coords t) → cfg0.idle 10 (grid0.coords t) = false) t ⟨h0, h1, h2, h3⟩
/-- At the points of case D the printed configuration (`Cfg.idle`) calls output 10 live: the case stores into it. -/
theorem liveAt0_10_D : ∀ t : Fin cfg0.N, ¬cond0_0 (grid0.coords t) → ¬cond0_1 (grid0.coords t) → ¬cond0_2 (grid0.coords t) → cond0_3 (grid0.coords t) → cfg0.idle 10 (grid0.coords t) = false :=
  fun t h0 h1 h2 h3 => (by decide +kernel : ∀ t : Fin cfg0.N, conds0_D (grid0.coords t) → cfg0.idle 10 (grid0.coords t) = false) t ⟨h0, h1, h2, h3⟩
/-- At the points of case A the printed configuration (`Cfg.idle`) calls output 11 idle: the case stores nothing into it. -/
theorem idleAt0_11_A : ∀ t : Fin cfg0.N, cond0_0 (grid0.coords t) → ¬cond0_1 (grid0.coords t) → ¬cond0_2 (grid0.coords t) → ¬cond0_3 (grid0.coords t) → cfg0.idle 11 (grid0.coords t) = true :=
  fun t h0 h1 h2 h3 => (by decide +kernel : ∀ t : Fin cfg0.N, conds0_A (grid0.coords t) → cfg0.idle 11 (grid0.coords t) = true) t ⟨h0, h1, h2, h3⟩
/-- At the points of case A the pipeline does not write output 11's block back. -/
theorem noFlush0_11_A : ∀ t : Fin cfg0.N, cond0_0 (grid0.coords t) → ¬cond0_1 (grid0.coords t) → ¬cond0_2 (grid0.coords t) → ¬cond0_3 (grid0.coords t) → (cfg0.win 11).flush t = false :=
  fun t h0 h1 h2 h3 => (by decide +kernel : ∀ t : Fin cfg0.N, conds0_A (grid0.coords t) → (cfg0.win 11).flush t = false) t ⟨h0, h1, h2, h3⟩
/-- At the points of case B the printed configuration (`Cfg.idle`) calls output 11 live: the case stores into it. -/
theorem liveAt0_11_B : ∀ t : Fin cfg0.N, ¬cond0_0 (grid0.coords t) → cond0_1 (grid0.coords t) → ¬cond0_2 (grid0.coords t) → ¬cond0_3 (grid0.coords t) → cfg0.idle 11 (grid0.coords t) = false :=
  fun t h0 h1 h2 h3 => (by decide +kernel : ∀ t : Fin cfg0.N, conds0_B (grid0.coords t) → cfg0.idle 11 (grid0.coords t) = false) t ⟨h0, h1, h2, h3⟩
/-- At the points of case C the printed configuration (`Cfg.idle`) calls output 11 live: the case stores into it. -/
theorem liveAt0_11_C : ∀ t : Fin cfg0.N, ¬cond0_0 (grid0.coords t) → ¬cond0_1 (grid0.coords t) → cond0_2 (grid0.coords t) → ¬cond0_3 (grid0.coords t) → cfg0.idle 11 (grid0.coords t) = false :=
  fun t h0 h1 h2 h3 => (by decide +kernel : ∀ t : Fin cfg0.N, conds0_C (grid0.coords t) → cfg0.idle 11 (grid0.coords t) = false) t ⟨h0, h1, h2, h3⟩
/-- At the points of case D the printed configuration (`Cfg.idle`) calls output 11 live: the case stores into it. -/
theorem liveAt0_11_D : ∀ t : Fin cfg0.N, ¬cond0_0 (grid0.coords t) → ¬cond0_1 (grid0.coords t) → ¬cond0_2 (grid0.coords t) → cond0_3 (grid0.coords t) → cfg0.idle 11 (grid0.coords t) = false :=
  fun t h0 h1 h2 h3 => (by decide +kernel : ∀ t : Fin cfg0.N, conds0_D (grid0.coords t) → cfg0.idle 11 (grid0.coords t) = false) t ⟨h0, h1, h2, h3⟩
/-- At the points of case A the printed configuration (`Cfg.idle`) calls output 12 idle: the case stores nothing into it. -/
theorem idleAt0_12_A : ∀ t : Fin cfg0.N, cond0_0 (grid0.coords t) → ¬cond0_1 (grid0.coords t) → ¬cond0_2 (grid0.coords t) → ¬cond0_3 (grid0.coords t) → cfg0.idle 12 (grid0.coords t) = true :=
  fun t h0 h1 h2 h3 => (by decide +kernel : ∀ t : Fin cfg0.N, conds0_A (grid0.coords t) → cfg0.idle 12 (grid0.coords t) = true) t ⟨h0, h1, h2, h3⟩
/-- At the points of case A the pipeline does not write output 12's block back. -/
theorem noFlush0_12_A : ∀ t : Fin cfg0.N, cond0_0 (grid0.coords t) → ¬cond0_1 (grid0.coords t) → ¬cond0_2 (grid0.coords t) → ¬cond0_3 (grid0.coords t) → (cfg0.win 12).flush t = false :=
  fun t h0 h1 h2 h3 => (by decide +kernel : ∀ t : Fin cfg0.N, conds0_A (grid0.coords t) → (cfg0.win 12).flush t = false) t ⟨h0, h1, h2, h3⟩
/-- At the points of case B the printed configuration (`Cfg.idle`) calls output 12 live: the case stores into it. -/
theorem liveAt0_12_B : ∀ t : Fin cfg0.N, ¬cond0_0 (grid0.coords t) → cond0_1 (grid0.coords t) → ¬cond0_2 (grid0.coords t) → ¬cond0_3 (grid0.coords t) → cfg0.idle 12 (grid0.coords t) = false :=
  fun t h0 h1 h2 h3 => (by decide +kernel : ∀ t : Fin cfg0.N, conds0_B (grid0.coords t) → cfg0.idle 12 (grid0.coords t) = false) t ⟨h0, h1, h2, h3⟩
/-- At the points of case C the printed configuration (`Cfg.idle`) calls output 12 live: the case stores into it. -/
theorem liveAt0_12_C : ∀ t : Fin cfg0.N, ¬cond0_0 (grid0.coords t) → ¬cond0_1 (grid0.coords t) → cond0_2 (grid0.coords t) → ¬cond0_3 (grid0.coords t) → cfg0.idle 12 (grid0.coords t) = false :=
  fun t h0 h1 h2 h3 => (by decide +kernel : ∀ t : Fin cfg0.N, conds0_C (grid0.coords t) → cfg0.idle 12 (grid0.coords t) = false) t ⟨h0, h1, h2, h3⟩
/-- At the points of case D the printed configuration (`Cfg.idle`) calls output 12 live: the case stores into it. -/
theorem liveAt0_12_D : ∀ t : Fin cfg0.N, ¬cond0_0 (grid0.coords t) → ¬cond0_1 (grid0.coords t) → ¬cond0_2 (grid0.coords t) → cond0_3 (grid0.coords t) → cfg0.idle 12 (grid0.coords t) = false :=
  fun t h0 h1 h2 h3 => (by decide +kernel : ∀ t : Fin cfg0.N, conds0_D (grid0.coords t) → cfg0.idle 12 (grid0.coords t) = false) t ⟨h0, h1, h2, h3⟩
/-- At the points of case A the printed configuration (`Cfg.idle`) calls output 13 idle: the case stores nothing into it. -/
theorem idleAt0_13_A : ∀ t : Fin cfg0.N, cond0_0 (grid0.coords t) → ¬cond0_1 (grid0.coords t) → ¬cond0_2 (grid0.coords t) → ¬cond0_3 (grid0.coords t) → cfg0.idle 13 (grid0.coords t) = true :=
  fun t h0 h1 h2 h3 => (by decide +kernel : ∀ t : Fin cfg0.N, conds0_A (grid0.coords t) → cfg0.idle 13 (grid0.coords t) = true) t ⟨h0, h1, h2, h3⟩
/-- At the points of case A the pipeline does not write output 13's block back. -/
theorem noFlush0_13_A : ∀ t : Fin cfg0.N, cond0_0 (grid0.coords t) → ¬cond0_1 (grid0.coords t) → ¬cond0_2 (grid0.coords t) → ¬cond0_3 (grid0.coords t) → (cfg0.win 13).flush t = false :=
  fun t h0 h1 h2 h3 => (by decide +kernel : ∀ t : Fin cfg0.N, conds0_A (grid0.coords t) → (cfg0.win 13).flush t = false) t ⟨h0, h1, h2, h3⟩
/-- At the points of case B the printed configuration (`Cfg.idle`) calls output 13 live: the case stores into it. -/
theorem liveAt0_13_B : ∀ t : Fin cfg0.N, ¬cond0_0 (grid0.coords t) → cond0_1 (grid0.coords t) → ¬cond0_2 (grid0.coords t) → ¬cond0_3 (grid0.coords t) → cfg0.idle 13 (grid0.coords t) = false :=
  fun t h0 h1 h2 h3 => (by decide +kernel : ∀ t : Fin cfg0.N, conds0_B (grid0.coords t) → cfg0.idle 13 (grid0.coords t) = false) t ⟨h0, h1, h2, h3⟩
/-- At the points of case C the printed configuration (`Cfg.idle`) calls output 13 live: the case stores into it. -/
theorem liveAt0_13_C : ∀ t : Fin cfg0.N, ¬cond0_0 (grid0.coords t) → ¬cond0_1 (grid0.coords t) → cond0_2 (grid0.coords t) → ¬cond0_3 (grid0.coords t) → cfg0.idle 13 (grid0.coords t) = false :=
  fun t h0 h1 h2 h3 => (by decide +kernel : ∀ t : Fin cfg0.N, conds0_C (grid0.coords t) → cfg0.idle 13 (grid0.coords t) = false) t ⟨h0, h1, h2, h3⟩
/-- At the points of case D the printed configuration (`Cfg.idle`) calls output 13 live: the case stores into it. -/
theorem liveAt0_13_D : ∀ t : Fin cfg0.N, ¬cond0_0 (grid0.coords t) → ¬cond0_1 (grid0.coords t) → ¬cond0_2 (grid0.coords t) → cond0_3 (grid0.coords t) → cfg0.idle 13 (grid0.coords t) = false :=
  fun t h0 h1 h2 h3 => (by decide +kernel : ∀ t : Fin cfg0.N, conds0_D (grid0.coords t) → cfg0.idle 13 (grid0.coords t) = false) t ⟨h0, h1, h2, h3⟩
/-- At the points of case A the printed configuration (`Cfg.idle`) calls output 14 idle: the case stores nothing into it. -/
theorem idleAt0_14_A : ∀ t : Fin cfg0.N, cond0_0 (grid0.coords t) → ¬cond0_1 (grid0.coords t) → ¬cond0_2 (grid0.coords t) → ¬cond0_3 (grid0.coords t) → cfg0.idle 14 (grid0.coords t) = true :=
  fun t h0 h1 h2 h3 => (by decide +kernel : ∀ t : Fin cfg0.N, conds0_A (grid0.coords t) → cfg0.idle 14 (grid0.coords t) = true) t ⟨h0, h1, h2, h3⟩
/-- At the points of case A the pipeline does not write output 14's block back. -/
theorem noFlush0_14_A : ∀ t : Fin cfg0.N, cond0_0 (grid0.coords t) → ¬cond0_1 (grid0.coords t) → ¬cond0_2 (grid0.coords t) → ¬cond0_3 (grid0.coords t) → (cfg0.win 14).flush t = false :=
  fun t h0 h1 h2 h3 => (by decide +kernel : ∀ t : Fin cfg0.N, conds0_A (grid0.coords t) → (cfg0.win 14).flush t = false) t ⟨h0, h1, h2, h3⟩
/-- At the points of case B the printed configuration (`Cfg.idle`) calls output 14 live: the case stores into it. -/
theorem liveAt0_14_B : ∀ t : Fin cfg0.N, ¬cond0_0 (grid0.coords t) → cond0_1 (grid0.coords t) → ¬cond0_2 (grid0.coords t) → ¬cond0_3 (grid0.coords t) → cfg0.idle 14 (grid0.coords t) = false :=
  fun t h0 h1 h2 h3 => (by decide +kernel : ∀ t : Fin cfg0.N, conds0_B (grid0.coords t) → cfg0.idle 14 (grid0.coords t) = false) t ⟨h0, h1, h2, h3⟩
/-- At the points of case C the printed configuration (`Cfg.idle`) calls output 14 live: the case stores into it. -/
theorem liveAt0_14_C : ∀ t : Fin cfg0.N, ¬cond0_0 (grid0.coords t) → ¬cond0_1 (grid0.coords t) → cond0_2 (grid0.coords t) → ¬cond0_3 (grid0.coords t) → cfg0.idle 14 (grid0.coords t) = false :=
  fun t h0 h1 h2 h3 => (by decide +kernel : ∀ t : Fin cfg0.N, conds0_C (grid0.coords t) → cfg0.idle 14 (grid0.coords t) = false) t ⟨h0, h1, h2, h3⟩
/-- At the points of case D the printed configuration (`Cfg.idle`) calls output 14 live: the case stores into it. -/
theorem liveAt0_14_D : ∀ t : Fin cfg0.N, ¬cond0_0 (grid0.coords t) → ¬cond0_1 (grid0.coords t) → ¬cond0_2 (grid0.coords t) → cond0_3 (grid0.coords t) → cfg0.idle 14 (grid0.coords t) = false :=
  fun t h0 h1 h2 h3 => (by decide +kernel : ∀ t : Fin cfg0.N, conds0_D (grid0.coords t) → cfg0.idle 14 (grid0.coords t) = false) t ⟨h0, h1, h2, h3⟩

/-! ## The kernel body on any staging memrefs: a subtype the run finds -/

/-- One staging buffer of output window 9, through which its contents are stated (`View.read_writes_of_cover`: the
    choice does not matter). -/
abbrev VO0_9 : View sig .tc .vmem S256x3072 .i8 := (Memref.whole cc0_stg9_0 : Memref sig .tc .vmem S256x3072 .i8).view
/-- One staging buffer of output window 10, through which its contents are stated (`View.read_writes_of_cover`: the
    choice does not matter). -/
abbrev VO0_10 : View sig .tc .vmem S256x1536 .bf16 := (Memref.whole cc0_stg10_0 : Memref sig .tc .vmem S256x1536 .bf16).view
/-- One staging buffer of output window 11, through which its contents are stated (`View.read_writes_of_cover`: the
    choice does not matter). -/
abbrev VO0_11 : View sig .tc .vmem S256x128 .i8 := (Memref.whole cc0_stg11_0 : Memref sig .tc .vmem S256x128 .i8).view
/-- One staging buffer of output window 12, through which its contents are stated (`View.read_writes_of_cover`: the
    choice does not matter). -/
abbrev VO0_12 : View sig .tc .vmem S1x1x256 .f32 := (Memref.whole cc0_stg12_0 : Memref sig .tc .vmem S1x1x256 .f32).view
/-- One staging buffer of output window 13, through which its contents are stated (`View.read_writes_of_cover`: the
    choice does not matter). -/
abbrev VO0_13 : View sig .tc .vmem S256x128 .i8 := (Memref.whole cc0_stg13_0 : Memref sig .tc .vmem S256x128 .i8).view
/-- One staging buffer of output window 14, through which its contents are stated (`View.read_writes_of_cover`: the
    choice does not matter). -/
abbrev VO0_14 : View sig .tc .vmem S1x1x256 .f32 := (Memref.whole cc0_stg14_0 : Memref sig .tc .vmem S1x1x256 .f32).view
/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3072x1792 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1792 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1792 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3072 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1536 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S256x3072 .bf16 := Memref.whole cc0_scratch0
abbrev scM0_1 : Memref sig .tc .vmem S256x3072 .bf16 := Memref.whole cc0_scratch1
/-- The scratch `a16` the kernel carries between points, as a view: what it holds is stated through it. -/
abbrev VS0_0 : View sig .tc .vmem S256x3072 .bf16 := scM0_0.view
/-- The scratch `a17` the kernel carries between points, as a view: what it holds is stated through it. -/
abbrev VS0_1 : View sig .tc .vmem S256x3072 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.QkvIdeal.Gen

end
-- ==== Proof.Qkv.RunA.lean ====
/-
   The kernel `_qkv` over any float layer, in the form in which the generated modules are written:
   one whole run of the body, in case A of its conditionals, with the pieces that it leaves in each buffer.
-/
module

public import proofs.«01_k».proof.Proof.Qkv.Runs

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 not taken: points 0), WITH the
    proof that on whole staging memrefs — the inputs' at their contents, the outputs it leaves idle (10, 11, 12, 13, 14: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (a1 : Memref sig .tc .vmem S256x3072 .bf16) (w1 : a1.IsWhole) (a2 : Memref sig .tc .smem S1x1 .f32) (w2 : a2.IsWhole) (a3 : Memref sig .tc .vmem S256x64 .f32) (w3 : a3.IsWhole) (a4 : Memref sig .tc .vmem S256x64 .f32) (w4 : a4.IsWhole) (a5 : Memref sig .tc .vmem S1x3072 .f32) (w5 : a5.IsWhole) (a6 : Memref sig .tc .vmem S1x3072 .f32) (w6 : a6.IsWhole) (a7 : Memref sig .tc .vmem S3072x1792 .i8) (w7 : a7.IsWhole) (a8 : Memref sig .tc .vmem S1x1792 .f32) (w8 : a8.IsWhole) (a9 : Memref sig .tc .vmem S1x1792 .i32) (w9 : a9.IsWhole) (a10 : Memref sig .tc .vmem S256x3072 .i8) (w10 : a10.IsWhole) (a11 : Memref sig .tc .vmem S256x1536 .bf16) (w11 : a11.IsWhole) (a12 : Memref sig .tc .vmem S256x128 .i8) (w12 : a12.IsWhole) (a13 : Memref sig .tc .vmem S1x1x256 .f32) (w13 : a13.IsWhole) (a14 : Memref sig .tc .vmem S256x128 .i8) (w14 : a14.IsWhole) (a15 : Memref sig .tc .vmem S1x1x256 .f32) (w15 : a15.IsWhole) (a16 : Memref sig .tc .vmem S256x3072 .bf16) (w16 : a16.IsWhole) (a17 : Memref sig .tc .vmem S256x3072 .bf16) (w17 : a17.IsWhole) (hc0 : cond0_0 i) (hc1 : ¬cond0_1 i) (hc2 : ¬cond0_2 i) (hc3 : ¬cond0_3 i)
    (x0 : Vec F S256x3072 .bf16) (x1 : Vec F S1x1 .f32) (x2 : Vec F S256x64 .f32) (x3 : Vec F S256x64 .f32) (x4 : Vec F S1x3072 .f32) (x5 : Vec F S1x3072 .f32) (x6 : Vec F S3072x1792 .i8) (x7 : Vec F S1x1792 .f32) (x8 : Vec F S1x1792 .i32) :
    Σ' (L9 : List (View.Piece (Elt F) S256x3072 .i8)), Σ' (L10 : List (View.Piece (Elt F) S256x1536 .bf16)), Σ' (L11 : List (View.Piece (Elt F) S256x128 .i8)), Σ' (L12 : List (View.Piece (Elt F) S1x1x256 .f32)), Σ' (L13 : List (View.Piece (Elt F) S256x128 .i8)), Σ' (L14 : List (View.Piece (Elt F) S1x1x256 .f32)), Σ' (LS0 : List (View.Piece (Elt F) S256x3072 .bf16)), { LS1 : List (View.Piece (Elt F) S256x3072 .bf16) //
      ∀ (xi10 : Vec F S256x1536 .bf16) (xi11 : Vec F S256x128 .i8) (xi12 : Vec F S1x1x256 .f32) (xi13 : Vec F S256x128 .i8) (xi14 : Vec F S1x1x256 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ owns (c : Thread nD τ) a11 fullShare xi10 ∗ owns (c : Thread nD τ) a12 fullShare xi11 ∗ owns (c : Thread nD τ) a13 fullShare xi12 ∗ owns (c : Thread nD τ) a14 fullShare xi13 ∗ owns (c : Thread nD τ) a15 fullShare xi14 ∗ (∃ d, owns (c : Thread nD τ) a16 fullShare d) ∗ (∃ d, owns (c : Thread nD τ) a17 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ owns (c : Thread nD τ) a11 fullShare xi10 ∗ owns (c : Thread nD τ) a12 fullShare xi11 ∗ owns (c : Thread nD τ) a13 fullShare xi12 ∗ owns (c : Thread nD τ) a14 fullShare xi13 ∗ owns (c : Thread nD τ) a15 fullShare xi14 ∗ (∃ f, a16.view.loc (c : Thread nD τ) ↦[a16.view.set]{fullShare} a16.view.writes (Elt F) f LS0) ∗ (∃ d, owns (c : Thread nD τ) a17 fullShare d)) -∗ K ⟨⟩))
          ⊢ wp frame (wpE (defs₀ (F := F)) Variants.none c none) E (cc0_qkv i a1 w1 a2 w2 a3 w3 a4 w4 a5 w5 a6 w6 a7 w7 a8 w8 a9 w9 a10 w10 a11 w11 a12 w12 a13 w13 a14 w14 a15 w15 a16 w16 a17 w17) K } := by
  refine ⟨?_, [], [], [], [], [], ?_, [], fun xi10 xi11 xi12 xi13 xi14 E K => ?run⟩
  case run =>
    simp only [cc0_qkv_eq_skeleton]; unfold cc0_qkv_skel
    simp only [k0_part45_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w11.eq_unread hf10; obtain rfl := w12.eq_unread hf11; obtain rfl := w13.eq_unread hf12; obtain rfl := w14.eq_unread hf13; obtain rfl := w15.eq_unread hf14
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]; · iexists _; iexact H9
    isplitl [H10]
    · iexists _; isplitr; · ipureintro; exact w11.read_unread _
      iexact H10
    isplitl [H11]
    · iexists _; isplitr; · ipureintro; exact w12.read_unread _
      iexact H11
    isplitl [H12]
    · iexists _; isplitr; · ipureintro; exact w13.read_unread _
      iexact H12
    isplitl [H13]
    · iexists _; isplitr; · ipureintro; exact w14.read_unread _
      iexact H13
    isplitl [H14]
    · iexists _; isplitr; · ipureintro; exact w15.read_unread _
      iexact H14
    isplitl [HS0]; · iexists _; iexact HS0
    iexists _, _; isplitr; swap; · iexact HS1
    ipureintro; rfl

end Cert.QkvIdeal.Gen

end
-- ==== Proof.Qkv.RunB.lean ====
/-
   The kernel `_qkv` over any float layer, in the form in which the generated modules are written:
   one whole run of the body, in case B of its conditionals, with the pieces that it leaves in each buffer.
-/
module

public import proofs.«01_k».proof.Proof.Qkv.RunA

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 3, … 31: 16 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (a1 : Memref sig .tc .vmem S256x3072 .bf16) (w1 : a1.IsWhole) (a2 : Memref sig .tc .smem S1x1 .f32) (w2 : a2.IsWhole) (a3 : Memref sig .tc .vmem S256x64 .f32) (w3 : a3.IsWhole) (a4 : Memref sig .tc .vmem S256x64 .f32) (w4 : a4.IsWhole) (a5 : Memref sig .tc .vmem S1x3072 .f32) (w5 : a5.IsWhole) (a6 : Memref sig .tc .vmem S1x3072 .f32) (w6 : a6.IsWhole) (a7 : Memref sig .tc .vmem S3072x1792 .i8) (w7 : a7.IsWhole) (a8 : Memref sig .tc .vmem S1x1792 .f32) (w8 : a8.IsWhole) (a9 : Memref sig .tc .vmem S1x1792 .i32) (w9 : a9.IsWhole) (a10 : Memref sig .tc .vmem S256x3072 .i8) (w10 : a10.IsWhole) (a11 : Memref sig .tc .vmem S256x1536 .bf16) (w11 : a11.IsWhole) (a12 : Memref sig .tc .vmem S256x128 .i8) (w12 : a12.IsWhole) (a13 : Memref sig .tc .vmem S1x1x256 .f32) (w13 : a13.IsWhole) (a14 : Memref sig .tc .vmem S256x128 .i8) (w14 : a14.IsWhole) (a15 : Memref sig .tc .vmem S1x1x256 .f32) (w15 : a15.IsWhole) (a16 : Memref sig .tc .vmem S256x3072 .bf16) (w16 : a16.IsWhole) (a17 : Memref sig .tc .vmem S256x3072 .bf16) (w17 : a17.IsWhole) (hc0 : ¬cond0_0 i) (hc1 : cond0_1 i) (hc2 : ¬cond0_2 i) (hc3 : ¬cond0_3 i)
    (x0 : Vec F S256x3072 .bf16) (x1 : Vec F S1x1 .f32) (x2 : Vec F S256x64 .f32) (x3 : Vec F S256x64 .f32) (x4 : Vec F S1x3072 .f32) (x5 : Vec F S1x3072 .f32) (x6 : Vec F S3072x1792 .i8) (x7 : Vec F S1x1792 .f32) (x8 : Vec F S1x1792 .i32) (xs0 : Vec F S256x3072 .bf16) :
    Σ' (L9 : List (View.Piece (Elt F) S256x3072 .i8)), Σ' (L10 : List (View.Piece (Elt F) S256x1536 .bf16)), Σ' (L11 : List (View.Piece (Elt F) S256x128 .i8)), Σ' (L12 : List (View.Piece (Elt F) S1x1x256 .f32)), Σ' (L13 : List (View.Piece (Elt F) S256x128 .i8)), Σ' (L14 : List (View.Piece (Elt F) S1x1x256 .f32)), Σ' (LS0 : List (View.Piece (Elt F) S256x3072 .bf16)), { LS1 : List (View.Piece (Elt F) S256x3072 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a16 fullShare xs0 ∗ (∃ d, owns (c : Thread nD τ) a17 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ owns (c : Thread nD τ) a16 fullShare xs0 ∗ (∃ f, a17.view.loc (c : Thread nD τ) ↦[a17.view.set]{fullShare} a17.view.writes (Elt F) f LS1)) -∗ K ⟨⟩))
          ⊢ wp frame (wpE (defs₀ (F := F)) Variants.none c none) E (cc0_qkv i a1 w1 a2 w2 a3 w3 a4 w4 a5 w5 a6 w6 a7 w7 a8 w8 a9 w9 a10 w10 a11 w11 a12 w12 a13 w13 a14 w14 a15 w15 a16 w16 a17 w17) K } := by
  refine ⟨?_, ?_, ?_, ?_, ?_, ?_, [], ?_, fun E K => ?run⟩
  case run =>
    simp only [cc0_qkv_eq_skeleton]; unfold cc0_qkv_skel
    simp only [k0_part45_eq_skeleton, k0_part22_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w16.eq_unread hfs0
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact w16.read_unread _
      iexact HS0
    iexists _; iexact HS1

end Cert.QkvIdeal.Gen

end
-- ==== Proof.Qkv.RunC.lean ====
/-
   The kernel `_qkv` over any float layer, in the form in which the generated modules are written:
   one whole run of the body, in case C of its conditionals, with the pieces that it leaves in each buffer.
-/
module

public import proofs.«01_k».proof.Proof.Qkv.RunB

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 2, 4, … 30: 15 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (a1 : Memref sig .tc .vmem S256x3072 .bf16) (w1 : a1.IsWhole) (a2 : Memref sig .tc .smem S1x1 .f32) (w2 : a2.IsWhole) (a3 : Memref sig .tc .vmem S256x64 .f32) (w3 : a3.IsWhole) (a4 : Memref sig .tc .vmem S256x64 .f32) (w4 : a4.IsWhole) (a5 : Memref sig .tc .vmem S1x3072 .f32) (w5 : a5.IsWhole) (a6 : Memref sig .tc .vmem S1x3072 .f32) (w6 : a6.IsWhole) (a7 : Memref sig .tc .vmem S3072x1792 .i8) (w7 : a7.IsWhole) (a8 : Memref sig .tc .vmem S1x1792 .f32) (w8 : a8.IsWhole) (a9 : Memref sig .tc .vmem S1x1792 .i32) (w9 : a9.IsWhole) (a10 : Memref sig .tc .vmem S256x3072 .i8) (w10 : a10.IsWhole) (a11 : Memref sig .tc .vmem S256x1536 .bf16) (w11 : a11.IsWhole) (a12 : Memref sig .tc .vmem S256x128 .i8) (w12 : a12.IsWhole) (a13 : Memref sig .tc .vmem S1x1x256 .f32) (w13 : a13.IsWhole) (a14 : Memref sig .tc .vmem S256x128 .i8) (w14 : a14.IsWhole) (a15 : Memref sig .tc .vmem S1x1x256 .f32) (w15 : a15.IsWhole) (a16 : Memref sig .tc .vmem S256x3072 .bf16) (w16 : a16.IsWhole) (a17 : Memref sig .tc .vmem S256x3072 .bf16) (w17 : a17.IsWhole) (hc0 : ¬cond0_0 i) (hc1 : ¬cond0_1 i) (hc2 : cond0_2 i) (hc3 : ¬cond0_3 i)
    (x0 : Vec F S256x3072 .bf16) (x1 : Vec F S1x1 .f32) (x2 : Vec F S256x64 .f32) (x3 : Vec F S256x64 .f32) (x4 : Vec F S1x3072 .f32) (x5 : Vec F S1x3072 .f32) (x6 : Vec F S3072x1792 .i8) (x7 : Vec F S1x1792 .f32) (x8 : Vec F S1x1792 .i32) (xs1 : Vec F S256x3072 .bf16) :
    Σ' (L9 : List (View.Piece (Elt F) S256x3072 .i8)), Σ' (L10 : List (View.Piece (Elt F) S256x1536 .bf16)), Σ' (L11 : List (View.Piece (Elt F) S256x128 .i8)), Σ' (L12 : List (View.Piece (Elt F) S1x1x256 .f32)), Σ' (L13 : List (View.Piece (Elt F) S256x128 .i8)), Σ' (L14 : List (View.Piece (Elt F) S1x1x256 .f32)), Σ' (LS0 : List (View.Piece (Elt F) S256x3072 .bf16)), { LS1 : List (View.Piece (Elt F) S256x3072 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ owns (c : Thread nD τ) a17 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ f, a10.view.loc (c : Thread nD τ) ↦[a10.view.set]{fullShare} a10.view.writes (Elt F) f L9) ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ (∃ f, a16.view.loc (c : Thread nD τ) ↦[a16.view.set]{fullShare} a16.view.writes (Elt F) f LS0) ∗ owns (c : Thread nD τ) a17 fullShare xs1) -∗ K ⟨⟩))
          ⊢ wp frame (wpE (defs₀ (F := F)) Variants.none c none) E (cc0_qkv i a1 w1 a2 w2 a3 w3 a4 w4 a5 w5 a6 w6 a7 w7 a8 w8 a9 w9 a10 w10 a11 w11 a12 w12 a13 w13 a14 w14 a15 w15 a16 w16 a17 w17) K } := by
  refine ⟨?_, ?_, ?_, ?_, ?_, ?_, ?_, [], fun E K => ?run⟩
  case run =>
    simp only [cc0_qkv_eq_skeleton]; unfold cc0_qkv_skel
    simp only [k0_part45_eq_skeleton, k0_part37_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%fs1, %hfs1, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w17.eq_unread hfs1
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    iexists _; isplitr; · ipureintro; exact w17.read_unread _
    iexact HS1

end Cert.QkvIdeal.Gen

end
-- ==== Proof.Qkv.RunD.lean ====
/-
   The kernel `_qkv` over any float layer, in the form in which the generated modules are written:
   one whole run of the body, in case D of its conditionals, with the pieces that it leaves in each buffer.
-/
module

public import proofs.«01_k».proof.Proof.Qkv.RunC

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 32), WITH the
    proof that on whole staging memrefs — the inputs' at their contents, the outputs it reads before covering (9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (a1 : Memref sig .tc .vmem S256x3072 .bf16) (w1 : a1.IsWhole) (a2 : Memref sig .tc .smem S1x1 .f32) (w2 : a2.IsWhole) (a3 : Memref sig .tc .vmem S256x64 .f32) (w3 : a3.IsWhole) (a4 : Memref sig .tc .vmem S256x64 .f32) (w4 : a4.IsWhole) (a5 : Memref sig .tc .vmem S1x3072 .f32) (w5 : a5.IsWhole) (a6 : Memref sig .tc .vmem S1x3072 .f32) (w6 : a6.IsWhole) (a7 : Memref sig .tc .vmem S3072x1792 .i8) (w7 : a7.IsWhole) (a8 : Memref sig .tc .vmem S1x1792 .f32) (w8 : a8.IsWhole) (a9 : Memref sig .tc .vmem S1x1792 .i32) (w9 : a9.IsWhole) (a10 : Memref sig .tc .vmem S256x3072 .i8) (w10 : a10.IsWhole) (a11 : Memref sig .tc .vmem S256x1536 .bf16) (w11 : a11.IsWhole) (a12 : Memref sig .tc .vmem S256x128 .i8) (w12 : a12.IsWhole) (a13 : Memref sig .tc .vmem S1x1x256 .f32) (w13 : a13.IsWhole) (a14 : Memref sig .tc .vmem S256x128 .i8) (w14 : a14.IsWhole) (a15 : Memref sig .tc .vmem S1x1x256 .f32) (w15 : a15.IsWhole) (a16 : Memref sig .tc .vmem S256x3072 .bf16) (w16 : a16.IsWhole) (a17 : Memref sig .tc .vmem S256x3072 .bf16) (w17 : a17.IsWhole) (hc0 : ¬cond0_0 i) (hc1 : ¬cond0_1 i) (hc2 : ¬cond0_2 i) (hc3 : cond0_3 i)
    (x0 : Vec F S256x3072 .bf16) (x1 : Vec F S1x1 .f32) (x2 : Vec F S256x64 .f32) (x3 : Vec F S256x64 .f32) (x4 : Vec F S1x3072 .f32) (x5 : Vec F S1x3072 .f32) (x6 : Vec F S3072x1792 .i8) (x7 : Vec F S1x1792 .f32) (x8 : Vec F S1x1792 .i32) (xo9 : Vec F S256x3072 .i8) (xs0 : Vec F S256x3072 .bf16) (xs1 : Vec F S256x3072 .bf16) :
    Σ' (L9 : List (View.Piece (Elt F) S256x3072 .i8)), Σ' (L10 : List (View.Piece (Elt F) S256x1536 .bf16)), Σ' (L11 : List (View.Piece (Elt F) S256x128 .i8)), Σ' (L12 : List (View.Piece (Elt F) S1x1x256 .f32)), Σ' (L13 : List (View.Piece (Elt F) S256x128 .i8)), Σ' (L14 : List (View.Piece (Elt F) S1x1x256 .f32)), Σ' (LS0 : List (View.Piece (Elt F) S256x3072 .bf16)), { LS1 : List (View.Piece (Elt F) S256x3072 .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare xo9 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a16 fullShare xs0 ∗ owns (c : Thread nD τ) a17 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare xo9 ∗ (∃ f, a11.view.loc (c : Thread nD τ) ↦[a11.view.set]{fullShare} a11.view.writes (Elt F) f L10) ∗ (∃ f, a12.view.loc (c : Thread nD τ) ↦[a12.view.set]{fullShare} a12.view.writes (Elt F) f L11) ∗ (∃ f, a13.view.loc (c : Thread nD τ) ↦[a13.view.set]{fullShare} a13.view.writes (Elt F) f L12) ∗ (∃ f, a14.view.loc (c : Thread nD τ) ↦[a14.view.set]{fullShare} a14.view.writes (Elt F) f L13) ∗ (∃ f, a15.view.loc (c : Thread nD τ) ↦[a15.view.set]{fullShare} a15.view.writes (Elt F) f L14) ∗ owns (c : Thread nD τ) a16 fullShare xs0 ∗ owns (c : Thread nD τ) a17 fullShare xs1) -∗ K ⟨⟩))
          ⊢ wp frame (wpE (defs₀ (F := F)) Variants.none c none) E (cc0_qkv i a1 w1 a2 w2 a3 w3 a4 w4 a5 w5 a6 w6 a7 w7 a8 w8 a9 w9 a10 w10 a11 w11 a12 w12 a13 w13 a14 w14 a15 w15 a16 w16 a17 w17) K } := by
  refine ⟨[], ?_, ?_, ?_, ?_, ?_, [], [], fun E K => ?run⟩
  case run =>
    simp only [cc0_qkv_eq_skeleton]; unfold cc0_qkv_skel
    simp only [k0_part45_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7; obtain rfl := w9.eq_unread hf8; obtain rfl := w10.eq_unread hf9; obtain rfl := w16.eq_unread hfs0; obtain rfl := w17.eq_unread hfs1
    sl_exec (disch := first | sl_exact hc0 | sl_exact hc1 | sl_exact hc2 | sl_exact hc3)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; · ipureintro; exact w7.read_unread _
      iexact H6
    isplitl [H7]
    · iexists _; isplitr; · ipureintro; exact w8.read_unread _
      iexact H7
    isplitl [H8]
    · iexists _; isplitr; · ipureintro; exact w9.read_unread _
      iexact H8
    isplitl [H9]
    · iexists _; isplitr; · ipureintro; exact w10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact w16.read_unread _
      iexact HS0
    iexists _; isplitr; · ipureintro; exact w17.read_unread _
    iexact HS1

end Cert.QkvIdeal.Gen

end
-- ==== Proof.Qkv.FrameDefs.lean ====
/-
   The kernel `_qkv` over any float layer, in the form in which the generated modules are written:
   what each case leaves in the outputs and in the two scratch buffers, the contents after every point of the grid, the
   proof data of the pipeline, the body obligation at every point, the launch and the frame.

   The second scratch buffer is first stored at point 1. The invariant before a point therefore names its contents from the
   second point on only (`PhiS`); after point 0 it holds anything.
-/
module

public import proofs.«01_k».proof.Proof.Qkv.RunD
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (a1 : Memref sig .tc .vmem S256x3072 .bf16) (w1 : a1.IsWhole)
  (a2 : Memref sig .tc .smem S1x1 .f32) (w2 : a2.IsWhole) (a3 : Memref sig .tc .vmem S256x64 .f32)
  (w3 : a3.IsWhole) (a4 : Memref sig .tc .vmem S256x64 .f32) (w4 : a4.IsWhole)
  (a5 : Memref sig .tc .vmem S1x3072 .f32) (w5 : a5.IsWhole) (a6 : Memref sig .tc .vmem S1x3072 .f32)
  (w6 : a6.IsWhole) (a7 : Memref sig .tc .vmem S3072x1792 .i8) (w7 : a7.IsWhole)
  (a8 : Memref sig .tc .vmem S1x1792 .f32) (w8 : a8.IsWhole) (a9 : Memref sig .tc .vmem S1x1792 .i32)
  (w9 : a9.IsWhole) (a10 : Memref sig .tc .vmem S256x3072 .i8) (w10 : a10.IsWhole)
  (a11 : Memref sig .tc .vmem S256x1536 .bf16) (w11 : a11.IsWhole) (a12 : Memref sig .tc .vmem S256x128 .i8)
  (w12 : a12.IsWhole) (a13 : Memref sig .tc .vmem S1x1x256 .f32) (w13 : a13.IsWhole)
  (a14 : Memref sig .tc .vmem S256x128 .i8) (w14 : a14.IsWhole) (a15 : Memref sig .tc .vmem S1x1x256 .f32)
  (w15 : a15.IsWhole) (a16 : Memref sig .tc .vmem S256x3072 .bf16) (w16 : a16.IsWhole)
  (a17 : Memref sig .tc .vmem S256x3072 .bf16) (w17 : a17.IsWhole) (hc0 : cond0_0 i) (hc1 : ¬cond0_1 i)
  (hc2 : ¬cond0_2 i) (hc3 : ¬cond0_3 i) (x0 : Vec F S256x3072 .bf16) (x1 : Vec F S1x1 .f32) (x2 : Vec F S256x64 .f32)
  (x3 : Vec F S256x64 .f32) (x4 : Vec F S1x3072 .f32) (x5 : Vec F S1x3072 .f32) (x6 : Vec F S3072x1792 .i8)
  (x7 : Vec F S1x1792 .f32) (x8 : Vec F S1x1792 .i32)

/-- Case A's pieces for output 9 tile its block (8 stores of `S32x3072`, checked by the kernel's evaluation: Lib/Ring.lean `Piece.tiledL`, linear in the pieces, through a loop's `@[irreducible]` trip theorem too), so they cover it. -/
theorem cover0_A_9 (y : S256x3072.Idx) :
    ∃ pc ∈ (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).1, y ∈ pc.1.set :=
  View.cover_of_tiledL (s := S256x3072) _ S32x3072.size (by sl_kernel_rfl) y

/-- What case A leaves in output 9's staging buffer: its pieces read back over junk. -/
def out0_A_9 : Vec F S256x3072 .i8 :=
  VO0_9.read (Elt F) (VO0_9.writes (Elt F) VO0_9.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).1)

/-- Case A stores nothing into output 10 (the window is idle at its points and not written back there):
    no pieces — a placeholder (junk read back) that nothing consults, since at these points the window is neither
    written back nor read at the next point (Lib/Pipeline.lean "Idle points"). -/
def out0_A_10 : Vec F S256x1536 .bf16 :=
  VO0_10.read (Elt F) (VO0_10.writes (Elt F) VO0_10.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.1)

/-- Case A stores nothing into output 11 (the window is idle at its points and not written back there):
    no pieces — a placeholder (junk read back) that nothing consults, since at these points the window is neither
    written back nor read at the next point (Lib/Pipeline.lean "Idle points"). -/
def out0_A_11 : Vec F S256x128 .i8 :=
  VO0_11.read (Elt F) (VO0_11.writes (Elt F) VO0_11.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.2.1)

/-- Case A stores nothing into output 12 (the window is idle at its points and not written back there):
    no pieces — a placeholder (junk read back) that nothing consults, since at these points the window is neither
    written back nor read at the next point (Lib/Pipeline.lean "Idle points"). -/
def out0_A_12 : Vec F S1x1x256 .f32 :=
  VO0_12.read (Elt F) (VO0_12.writes (Elt F) VO0_12.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.2.2.1)

/-- Case A stores nothing into output 13 (the window is idle at its points and not written back there):
    no pieces — a placeholder (junk read back) that nothing consults, since at these points the window is neither
    written back nor read at the next point (Lib/Pipeline.lean "Idle points"). -/
def out0_A_13 : Vec F S256x128 .i8 :=
  VO0_13.read (Elt F) (VO0_13.writes (Elt F) VO0_13.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.2.2.2.1)

/-- Case A stores nothing into output 14 (the window is idle at its points and not written back there):
    no pieces — a placeholder (junk read back) that nothing consults, since at these points the window is neither
    written back nor read at the next point (Lib/Pipeline.lean "Idle points"). -/
def out0_A_14 : Vec F S1x1x256 .f32 :=
  VO0_14.read (Elt F) (VO0_14.writes (Elt F) VO0_14.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.2.2.2.2.1)

/-- Case A's pieces for scratch `a16`, which the kernel carries between points, cover it: 8 pieces of `S32x3072` tiling it (Lib/Ring.lean `Piece.tiledL`). -/
theorem scover0_A_0 (y : S256x3072.Idx) :
    ∃ pc ∈ (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.2.2.2.2.2.1, y ∈ pc.1.set :=
  View.cover_of_tiledL (s := S256x3072) _ S32x3072.size (by sl_kernel_rfl) y

/-- What case A leaves in scratch `a16`: its pieces read back over junk. -/
def sout0_A_0 : Vec F S256x3072 .bf16 :=
  VS0_0.read (Elt F) (VS0_0.writes (Elt F) VS0_0.junk (kernelRun0_A c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8).2.2.2.2.2.2.1)

end CaseA

section CaseB

variable (c : Dev nD) (i : grid0.Coords) (a1 : Memref sig .tc .vmem S256x3072 .bf16) (w1 : a1.IsWhole)
  (a2 : Memref sig .tc .smem S1x1 .f32) (w2 : a2.IsWhole) (a3 : Memref sig .tc .vmem S256x64 .f32)
  (w3 : a3.IsWhole) (a4 : Memref sig .tc .vmem S256x64 .f32) (w4 : a4.IsWhole)
  (a5 : Memref sig .tc .vmem S1x3072 .f32) (w5 : a5.IsWhole) (a6 : Memref sig .tc .vmem S1x3072 .f32)
  (w6 : a6.IsWhole) (a7 : Memref sig .tc .vmem S3072x1792 .i8) (w7 : a7.IsWhole)
  (a8 : Memref sig .tc .vmem S1x1792 .f32) (w8 : a8.IsWhole) (a9 : Memref sig .tc .vmem S1x1792 .i32)
  (w9 : a9.IsWhole) (a10 : Memref sig .tc .vmem S256x3072 .i8) (w10 : a10.IsWhole)
  (a11 : Memref sig .tc .vmem S256x1536 .bf16) (w11 : a11.IsWhole) (a12 : Memref sig .tc .vmem S256x128 .i8)
  (w12 : a12.IsWhole) (a13 : Memref sig .tc .vmem S1x1x256 .f32) (w13 : a13.IsWhole)
  (a14 : Memref sig .tc .vmem S256x128 .i8) (w14 : a14.IsWhole) (a15 : Memref sig .tc .vmem S1x1x256 .f32)
  (w15 : a15.IsWhole) (a16 : Memref sig .tc .vmem S256x3072 .bf16) (w16 : a16.IsWhole)
  (a17 : Memref sig .tc .vmem S256x3072 .bf16) (w17 : a17.IsWhole) (hc0 : ¬cond0_0 i) (hc1 : cond0_1 i)
  (hc2 : ¬cond0_2 i) (hc3 : ¬cond0_3 i) (x0 : Vec F S256x3072 .bf16) (x1 : Vec F S1x1 .f32) (x2 : Vec F S256x64 .f32)
  (x3 : Vec F S256x64 .f32) (x4 : Vec F S1x3072 .f32) (x5 : Vec F S1x3072 .f32) (x6 : Vec F S3072x1792 .i8)
  (x7 : Vec F S1x1792 .f32) (x8 : Vec F S1x1792 .i32) (xs0 : Vec F S256x3072 .bf16)

/-- Case B's pieces for output 9 tile its block (8 stores of `S32x3072`, checked by the kernel's evaluation: Lib/Ring.lean `Piece.tiledL`, linear in the pieces, through a loop's `@[irreducible]` trip theorem too), so they cover it. -/
theorem cover0_B_9 (y : S256x3072.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).1, y ∈ pc.1.set :=
  View.cover_of_tiledL (s := S256x3072) _ S32x3072.size (by sl_kernel_rfl) y

/-- What case B leaves in output 9's staging buffer: its pieces read back over junk. -/
def out0_B_9 : Vec F S256x3072 .i8 :=
  VO0_9.read (Elt F) (VO0_9.writes (Elt F) VO0_9.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).1)

/-- Case B's pieces for output 10 tile its block (6 stores of `S256x256`, checked by the kernel's evaluation: Lib/Ring.lean `Piece.tiledL`, linear in the pieces, through a loop's `@[irreducible]` trip theorem too), so they cover it. -/
theorem cover0_B_10 (y : S256x1536.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.1, y ∈ pc.1.set :=
  View.cover_of_tiledL (s := S256x1536) _ S256x256.size (by sl_kernel_rfl) y

/-- What case B leaves in output 10's staging buffer: its pieces read back over junk. -/
def out0_B_10 : Vec F S256x1536 .bf16 :=
  VO0_10.read (Elt F) (VO0_10.writes (Elt F) VO0_10.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.1)

/-- Case B's pieces for output 11 tile its block (1 store of `S256x128`, checked by the kernel's evaluation: Lib/Ring.lean `Piece.tiledL`, linear in the pieces, through a loop's `@[irreducible]` trip theorem too), so they cover it. -/
theorem cover0_B_11 (y : S256x128.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.1, y ∈ pc.1.set :=
  View.cover_of_tiledL (s := S256x128) _ S256x128.size (by sl_kernel_rfl) y

/-- What case B leaves in output 11's staging buffer: its pieces read back over junk. -/
def out0_B_11 : Vec F S256x128 .i8 :=
  VO0_11.read (Elt F) (VO0_11.writes (Elt F) VO0_11.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.1)

/-- Case B's pieces for output 12 tile its block (1 store of `S1x1x256`, checked by the kernel's evaluation: Lib/Ring.lean `Piece.tiledL`, linear in the pieces, through a loop's `@[irreducible]` trip theorem too), so they cover it. -/
theorem cover0_B_12 (y : S1x1x256.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.1, y ∈ pc.1.set :=
  View.cover_of_tiledL (s := S1x1x256) _ S1x1x256.size (by sl_kernel_rfl) y

/-- What case B leaves in output 12's staging buffer: its pieces read back over junk. -/
def out0_B_12 : Vec F S1x1x256 .f32 :=
  VO0_12.read (Elt F) (VO0_12.writes (Elt F) VO0_12.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.1)

/-- Case B's pieces for output 13 tile its block (1 store of `S256x128`, checked by the kernel's evaluation: Lib/Ring.lean `Piece.tiledL`, linear in the pieces, through a loop's `@[irreducible]` trip theorem too), so they cover it. -/
theorem cover0_B_13 (y : S256x128.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.2.1, y ∈ pc.1.set :=
  View.cover_of_tiledL (s := S256x128) _ S256x128.size (by sl_kernel_rfl) y

/-- What case B leaves in output 13's staging buffer: its pieces read back over junk. -/
def out0_B_13 : Vec F S256x128 .i8 :=
  VO0_13.read (Elt F) (VO0_13.writes (Elt F) VO0_13.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.2.1)

/-- Case B's pieces for output 14 tile its block (1 store of `S1x1x256`, checked by the kernel's evaluation: Lib/Ring.lean `Piece.tiledL`, linear in the pieces, through a loop's `@[irreducible]` trip theorem too), so they cover it. -/
theorem cover0_B_14 (y : S1x1x256.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.2.2.1, y ∈ pc.1.set :=
  View.cover_of_tiledL (s := S1x1x256) _ S1x1x256.size (by sl_kernel_rfl) y

/-- What case B leaves in output 14's staging buffer: its pieces read back over junk. -/
def out0_B_14 : Vec F S1x1x256 .f32 :=
  VO0_14.read (Elt F) (VO0_14.writes (Elt F) VO0_14.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.2.2.1)

/-- Case B's pieces for scratch `a17`, which the kernel carries between points, cover it: 8 pieces of `S32x3072` tiling it (Lib/Ring.lean `Piece.tiledL`). -/
theorem scover0_B_1 (y : S256x3072.Idx) :
    ∃ pc ∈ (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.2.2.2.2.1, y ∈ pc.1.set :=
  View.cover_of_tiledL (s := S256x3072) _ S32x3072.size (by sl_kernel_rfl) y

/-- What case B leaves in scratch `a17`: its pieces read back over junk. -/
def sout0_B_1 : Vec F S256x3072 .bf16 :=
  VS0_1.read (Elt F) (VS0_1.writes (Elt F) VS0_1.junk (kernelRun0_B c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs0).2.2.2.2.2.2.2.1)

end CaseB

section CaseC

variable (c : Dev nD) (i : grid0.Coords) (a1 : Memref sig .tc .vmem S256x3072 .bf16) (w1 : a1.IsWhole)
  (a2 : Memref sig .tc .smem S1x1 .f32) (w2 : a2.IsWhole) (a3 : Memref sig .tc .vmem S256x64 .f32)
  (w3 : a3.IsWhole) (a4 : Memref sig .tc .vmem S256x64 .f32) (w4 : a4.IsWhole)
  (a5 : Memref sig .tc .vmem S1x3072 .f32) (w5 : a5.IsWhole) (a6 : Memref sig .tc .vmem S1x3072 .f32)
  (w6 : a6.IsWhole) (a7 : Memref sig .tc .vmem S3072x1792 .i8) (w7 : a7.IsWhole)
  (a8 : Memref sig .tc .vmem S1x1792 .f32) (w8 : a8.IsWhole) (a9 : Memref sig .tc .vmem S1x1792 .i32)
  (w9 : a9.IsWhole) (a10 : Memref sig .tc .vmem S256x3072 .i8) (w10 : a10.IsWhole)
  (a11 : Memref sig .tc .vmem S256x1536 .bf16) (w11 : a11.IsWhole) (a12 : Memref sig .tc .vmem S256x128 .i8)
  (w12 : a12.IsWhole) (a13 : Memref sig .tc .vmem S1x1x256 .f32) (w13 : a13.IsWhole)
  (a14 : Memref sig .tc .vmem S256x128 .i8) (w14 : a14.IsWhole) (a15 : Memref sig .tc .vmem S1x1x256 .f32)
  (w15 : a15.IsWhole) (a16 : Memref sig .tc .vmem S256x3072 .bf16) (w16 : a16.IsWhole)
  (a17 : Memref sig .tc .vmem S256x3072 .bf16) (w17 : a17.IsWhole) (hc0 : ¬cond0_0 i) (hc1 : ¬cond0_1 i)
  (hc2 : cond0_2 i) (hc3 : ¬cond0_3 i) (x0 : Vec F S256x3072 .bf16) (x1 : Vec F S1x1 .f32) (x2 : Vec F S256x64 .f32)
  (x3 : Vec F S256x64 .f32) (x4 : Vec F S1x3072 .f32) (x5 : Vec F S1x3072 .f32) (x6 : Vec F S3072x1792 .i8)
  (x7 : Vec F S1x1792 .f32) (x8 : Vec F S1x1792 .i32) (xs1 : Vec F S256x3072 .bf16)

/-- Case C's pieces for output 9 tile its block (8 stores of `S32x3072`, checked by the kernel's evaluation: Lib/Ring.lean `Piece.tiledL`, linear in the pieces, through a loop's `@[irreducible]` trip theorem too), so they cover it. -/
theorem cover0_C_9 (y : S256x3072.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).1, y ∈ pc.1.set :=
  View.cover_of_tiledL (s := S256x3072) _ S32x3072.size (by sl_kernel_rfl) y

/-- What case C leaves in output 9's staging buffer: its pieces read back over junk. -/
def out0_C_9 : Vec F S256x3072 .i8 :=
  VO0_9.read (Elt F) (VO0_9.writes (Elt F) VO0_9.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).1)

/-- Case C's pieces for output 10 tile its block (6 stores of `S256x256`, checked by the kernel's evaluation: Lib/Ring.lean `Piece.tiledL`, linear in the pieces, through a loop's `@[irreducible]` trip theorem too), so they cover it. -/
theorem cover0_C_10 (y : S256x1536.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.1, y ∈ pc.1.set :=
  View.cover_of_tiledL (s := S256x1536) _ S256x256.size (by sl_kernel_rfl) y

/-- What case C leaves in output 10's staging buffer: its pieces read back over junk. -/
def out0_C_10 : Vec F S256x1536 .bf16 :=
  VO0_10.read (Elt F) (VO0_10.writes (Elt F) VO0_10.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.1)

/-- Case C's pieces for output 11 tile its block (1 store of `S256x128`, checked by the kernel's evaluation: Lib/Ring.lean `Piece.tiledL`, linear in the pieces, through a loop's `@[irreducible]` trip theorem too), so they cover it. -/
theorem cover0_C_11 (y : S256x128.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.1, y ∈ pc.1.set :=
  View.cover_of_tiledL (s := S256x128) _ S256x128.size (by sl_kernel_rfl) y

/-- What case C leaves in output 11's staging buffer: its pieces read back over junk. -/
def out0_C_11 : Vec F S256x128 .i8 :=
  VO0_11.read (Elt F) (VO0_11.writes (Elt F) VO0_11.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.1)

/-- Case C's pieces for output 12 tile its block (1 store of `S1x1x256`, checked by the kernel's evaluation: Lib/Ring.lean `Piece.tiledL`, linear in the pieces, through a loop's `@[irreducible]` trip theorem too), so they cover it. -/
theorem cover0_C_12 (y : S1x1x256.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.1, y ∈ pc.1.set :=
  View.cover_of_tiledL (s := S1x1x256) _ S1x1x256.size (by sl_kernel_rfl) y

/-- What case C leaves in output 12's staging buffer: its pieces read back over junk. -/
def out0_C_12 : Vec F S1x1x256 .f32 :=
  VO0_12.read (Elt F) (VO0_12.writes (Elt F) VO0_12.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.1)

/-- Case C's pieces for output 13 tile its block (1 store of `S256x128`, checked by the kernel's evaluation: Lib/Ring.lean `Piece.tiledL`, linear in the pieces, through a loop's `@[irreducible]` trip theorem too), so they cover it. -/
theorem cover0_C_13 (y : S256x128.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.2.1, y ∈ pc.1.set :=
  View.cover_of_tiledL (s := S256x128) _ S256x128.size (by sl_kernel_rfl) y

/-- What case C leaves in output 13's staging buffer: its pieces read back over junk. -/
def out0_C_13 : Vec F S256x128 .i8 :=
  VO0_13.read (Elt F) (VO0_13.writes (Elt F) VO0_13.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.2.1)

/-- Case C's pieces for output 14 tile its block (1 store of `S1x1x256`, checked by the kernel's evaluation: Lib/Ring.lean `Piece.tiledL`, linear in the pieces, through a loop's `@[irreducible]` trip theorem too), so they cover it. -/
theorem cover0_C_14 (y : S1x1x256.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.2.2.1, y ∈ pc.1.set :=
  View.cover_of_tiledL (s := S1x1x256) _ S1x1x256.size (by sl_kernel_rfl) y

/-- What case C leaves in output 14's staging buffer: its pieces read back over junk. -/
def out0_C_14 : Vec F S1x1x256 .f32 :=
  VO0_14.read (Elt F) (VO0_14.writes (Elt F) VO0_14.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.2.2.1)

/-- Case C's pieces for scratch `a16`, which the kernel carries between points, cover it: 8 pieces of `S32x3072` tiling it (Lib/Ring.lean `Piece.tiledL`). -/
theorem scover0_C_0 (y : S256x3072.Idx) :
    ∃ pc ∈ (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.2.2.2.1, y ∈ pc.1.set :=
  View.cover_of_tiledL (s := S256x3072) _ S32x3072.size (by sl_kernel_rfl) y

/-- What case C leaves in scratch `a16`: its pieces read back over junk. -/
def sout0_C_0 : Vec F S256x3072 .bf16 :=
  VS0_0.read (Elt F) (VS0_0.writes (Elt F) VS0_0.junk (kernelRun0_C c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xs1).2.2.2.2.2.2.1)

end CaseC

section CaseD

variable (c : Dev nD) (i : grid0.Coords) (a1 : Memref sig .tc .vmem S256x3072 .bf16) (w1 : a1.IsWhole)
  (a2 : Memref sig .tc .smem S1x1 .f32) (w2 : a2.IsWhole) (a3 : Memref sig .tc .vmem S256x64 .f32)
  (w3 : a3.IsWhole) (a4 : Memref sig .tc .vmem S256x64 .f32) (w4 : a4.IsWhole)
  (a5 : Memref sig .tc .vmem S1x3072 .f32) (w5 : a5.IsWhole) (a6 : Memref sig .tc .vmem S1x3072 .f32)
  (w6 : a6.IsWhole) (a7 : Memref sig .tc .vmem S3072x1792 .i8) (w7 : a7.IsWhole)
  (a8 : Memref sig .tc .vmem S1x1792 .f32) (w8 : a8.IsWhole) (a9 : Memref sig .tc .vmem S1x1792 .i32)
  (w9 : a9.IsWhole) (a10 : Memref sig .tc .vmem S256x3072 .i8) (w10 : a10.IsWhole)
  (a11 : Memref sig .tc .vmem S256x1536 .bf16) (w11 : a11.IsWhole) (a12 : Memref sig .tc .vmem S256x128 .i8)
  (w12 : a12.IsWhole) (a13 : Memref sig .tc .vmem S1x1x256 .f32) (w13 : a13.IsWhole)
  (a14 : Memref sig .tc .vmem S256x128 .i8) (w14 : a14.IsWhole) (a15 : Memref sig .tc .vmem S1x1x256 .f32)
  (w15 : a15.IsWhole) (a16 : Memref sig .tc .vmem S256x3072 .bf16) (w16 : a16.IsWhole)
  (a17 : Memref sig .tc .vmem S256x3072 .bf16) (w17 : a17.IsWhole) (hc0 : ¬cond0_0 i) (hc1 : ¬cond0_1 i)
  (hc2 : ¬cond0_2 i) (hc3 : cond0_3 i) (x0 : Vec F S256x3072 .bf16) (x1 : Vec F S1x1 .f32) (x2 : Vec F S256x64 .f32)
  (x3 : Vec F S256x64 .f32) (x4 : Vec F S1x3072 .f32) (x5 : Vec F S1x3072 .f32) (x6 : Vec F S3072x1792 .i8)
  (x7 : Vec F S1x1792 .f32) (x8 : Vec F S1x1792 .i32) (xo9 : Vec F S256x3072 .i8) (xs0 : Vec F S256x3072 .bf16)
  (xs1 : Vec F S256x3072 .bf16)

/-- Case D's pieces for output 10 tile its block (6 stores of `S256x256`, checked by the kernel's evaluation: Lib/Ring.lean `Piece.tiledL`, linear in the pieces, through a loop's `@[irreducible]` trip theorem too), so they cover it. -/
theorem cover0_D_10 (y : S256x1536.Idx) :
    ∃ pc ∈ (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.1, y ∈ pc.1.set :=
  View.cover_of_tiledL (s := S256x1536) _ S256x256.size (by sl_kernel_rfl) y

/-- What case D leaves in output 10's staging buffer: its pieces read back over junk. -/
def out0_D_10 : Vec F S256x1536 .bf16 :=
  VO0_10.read (Elt F) (VO0_10.writes (Elt F) VO0_10.junk (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.1)

/-- Case D's pieces for output 11 tile its block (1 store of `S256x128`, checked by the kernel's evaluation: Lib/Ring.lean `Piece.tiledL`, linear in the pieces, through a loop's `@[irreducible]` trip theorem too), so they cover it. -/
theorem cover0_D_11 (y : S256x128.Idx) :
    ∃ pc ∈ (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.1, y ∈ pc.1.set :=
  View.cover_of_tiledL (s := S256x128) _ S256x128.size (by sl_kernel_rfl) y

/-- What case D leaves in output 11's staging buffer: its pieces read back over junk. -/
def out0_D_11 : Vec F S256x128 .i8 :=
  VO0_11.read (Elt F) (VO0_11.writes (Elt F) VO0_11.junk (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.1)

/-- Case D's pieces for output 12 tile its block (1 store of `S1x1x256`, checked by the kernel's evaluation: Lib/Ring.lean `Piece.tiledL`, linear in the pieces, through a loop's `@[irreducible]` trip theorem too), so they cover it. -/
theorem cover0_D_12 (y : S1x1x256.Idx) :
    ∃ pc ∈ (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.2.1, y ∈ pc.1.set :=
  View.cover_of_tiledL (s := S1x1x256) _ S1x1x256.size (by sl_kernel_rfl) y

/-- What case D leaves in output 12's staging buffer: its pieces read back over junk. -/
def out0_D_12 : Vec F S1x1x256 .f32 :=
  VO0_12.read (Elt F) (VO0_12.writes (Elt F) VO0_12.junk (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.2.1)

/-- Case D's pieces for output 13 tile its block (1 store of `S256x128`, checked by the kernel's evaluation: Lib/Ring.lean `Piece.tiledL`, linear in the pieces, through a loop's `@[irreducible]` trip theorem too), so they cover it. -/
theorem cover0_D_13 (y : S256x128.Idx) :
    ∃ pc ∈ (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.2.2.1, y ∈ pc.1.set :=
  View.cover_of_tiledL (s := S256x128) _ S256x128.size (by sl_kernel_rfl) y

/-- What case D leaves in output 13's staging buffer: its pieces read back over junk. -/
def out0_D_13 : Vec F S256x128 .i8 :=
  VO0_13.read (Elt F) (VO0_13.writes (Elt F) VO0_13.junk (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.2.2.1)

/-- Case D's pieces for output 14 tile its block (1 store of `S1x1x256`, checked by the kernel's evaluation: Lib/Ring.lean `Piece.tiledL`, linear in the pieces, through a loop's `@[irreducible]` trip theorem too), so they cover it. -/
theorem cover0_D_14 (y : S1x1x256.Idx) :
    ∃ pc ∈ (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.2.2.2.1, y ∈ pc.1.set :=
  View.cover_of_tiledL (s := S1x1x256) _ S1x1x256.size (by sl_kernel_rfl) y

/-- What case D leaves in output 14's staging buffer: its pieces read back over junk. -/
def out0_D_14 : Vec F S1x1x256 .f32 :=
  VO0_14.read (Elt F) (VO0_14.writes (Elt F) VO0_14.junk (kernelRun0_D c i a1 w1 a2 w2 a3 w3 a4 w4 a5 w5 a6 w6 a7 w7 a8 w8 a9 w9 a10 w10 a11 w11 a12 w12 a13 w13 a14 w14 a15 w15 a16 w16 a17 w17 hc0 hc1 hc2 hc3 x0 x1 x2 x3 x4 x5 x6 x7 x8 xo9 xs0 xs1).2.2.2.2.2.1)

end CaseD

/-! ## What the outputs hold after each point -/

/-- What case A leaves at a point: the outputs in window order, then the scratch. -/
def leftA (c : Dev nD) (t : Fin cfg0.N) (h0 : t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    Vec F S256x3072 .i8 × Vec F S256x1536 .bf16 × Vec F S256x128 .i8 × Vec F S1x1x256 .f32 × Vec F S256x128 .i8 × Vec F S1x1x256 .f32 × Vec F S256x3072 .bf16 × Vec F S256x3072 .bf16 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), VS0_1.read (Elt F) VS0_1.junk)

/-- What case B leaves at a point over what the point before left: the outputs in window order, then the scratch. -/
def leftB (c : Dev nD) (t : Fin cfg0.N) (h0 : ¬t.val % 33 = 0) (h1 : t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) (p : Vec F S256x3072 .i8 × Vec F S256x1536 .bf16 × Vec F S256x128 .i8 × Vec F S1x1x256 .f32 × Vec F S256x128 .i8 × Vec F S1x1x256 .f32 × Vec F S256x3072 .bf16 × Vec F S256x3072 .bf16) :
    Vec F S256x3072 .i8 × Vec F S256x1536 .bf16 × Vec F S256x128 .i8 × Vec F S1x1x256 .f32 × Vec F S256x128 .i8 × Vec F S1x1x256 .f32 × Vec F S256x3072 .bf16 × Vec F S256x3072 .bf16 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1, p.2.2.2.2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.1)

/-- What case C leaves at a point over what the point before left: the outputs in window order, then the scratch. -/
def leftC (c : Dev nD) (t : Fin cfg0.N) (h0 : ¬t.val % 33 = 0) (h1 : ¬t.val % 2 = 1) (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) (p : Vec F S256x3072 .i8 × Vec F S256x1536 .bf16 × Vec F S256x128 .i8 × Vec F S1x1x256 .f32 × Vec F S256x128 .i8 × Vec F S1x1x256 .f32 × Vec F S256x3072 .bf16 × Vec F S256x3072 .bf16) :
    Vec F S256x3072 .i8 × Vec F S256x1536 .bf16 × Vec F S256x128 .i8 × Vec F S1x1x256 .f32 × Vec F S256x128 .i8 × Vec F S1x1x256 .f32 × Vec F S256x3072 .bf16 × Vec F S256x3072 .bf16 :=
  (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) p.2.2.2.2.2.2.2, p.2.2.2.2.2.2.2)

/-- What case D leaves at a point over what the point before left: the outputs in window order, then the scratch. -/
def leftD (c : Dev nD) (t : Fin cfg0.N) (h0 : ¬t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : t.val % 33 = 32) (p : Vec F S256x3072 .i8 × Vec F S256x1536 .bf16 × Vec F S256x128 .i8 × Vec F S1x1x256 .f32 × Vec F S256x128 .i8 × Vec F S1x1x256 .f32 × Vec F S256x3072 .bf16 × Vec F S256x3072 .bf16) :
    Vec F S256x3072 .i8 × Vec F S256x1536 .bf16 × Vec F S256x128 .i8 × Vec F S1x1x256 .f32 × Vec F S256x128 .i8 × Vec F S1x1x256 .f32 × Vec F S256x3072 .bf16 × Vec F S256x3072 .bf16 :=
  (p.1, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) p.1 p.2.2.2.2.2.2.1 p.2.2.2.2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) p.1 p.2.2.2.2.2.2.1 p.2.2.2.2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) p.1 p.2.2.2.2.2.2.1 p.2.2.2.2.2.2.2, out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) p.1 p.2.2.2.2.2.2.1 p.2.2.2.2.2.2.2, out0_D_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) p.1 p.2.2.2.2.2.2.1 p.2.2.2.2.2.2.2, p.2.2.2.2.2.2.1, p.2.2.2.2.2.2.2)

/-- What the point after position `n` leaves over what position `n` left: the case that the closed forms select there. -/
def stepAt (c : Dev nD) (n : ℕ) (hn : n + 1 < cfg0.N) (p : Vec F S256x3072 .i8 × Vec F S256x1536 .bf16 × Vec F S256x128 .i8 × Vec F S1x1x256 .f32 × Vec F S256x128 .i8 × Vec F S1x1x256 .f32 × Vec F S256x3072 .bf16 × Vec F S256x3072 .bf16) :
    Vec F S256x3072 .i8 × Vec F S256x1536 .bf16 × Vec F S256x128 .i8 × Vec F S1x1x256 .f32 × Vec F S256x128 .i8 × Vec F S1x1x256 .f32 × Vec F S256x3072 .bf16 × Vec F S256x3072 .bf16 :=
  if h0 : (n + 1) % 33 = 0 then
    if h1 : (n + 1) % 2 = 1 then
      False.elim (by have hN : n + 1 < 33 := lt_of_lt_of_eq hn (show cfg0.N = 33 from N_0); omega)
    else
      if h2 : ((n + 1) % 33 = 2 ∨ (n + 1) % 33 = 4 ∨ (n + 1) % 33 = 6 ∨ (n + 1) % 33 = 8 ∨ (n + 1) % 33 = 10 ∨ (n + 1) % 33 = 12 ∨ (n + 1) % 33 = 14 ∨ (n + 1) % 33 = 16 ∨ (n + 1) % 33 = 18 ∨ (n + 1) % 33 = 20 ∨ (n + 1) % 33 = 22 ∨ (n + 1) % 33 = 24 ∨ (n + 1) % 33 = 26 ∨ (n + 1) % 33 = 28 ∨ (n + 1) % 33 = 30) then
        False.elim (by have hN : n + 1 < 33 := lt_of_lt_of_eq hn (show cfg0.N = 33 from N_0); omega)
      else
        if h3 : (n + 1) % 33 = 32 then
          False.elim (by have hN : n + 1 < 33 := lt_of_lt_of_eq hn (show cfg0.N = 33 from N_0); omega)
        else
          leftA m c ⟨n + 1, hn⟩ h0 h1 h2 h3
  else
    if h1 : (n + 1) % 2 = 1 then
      if h2 : ((n + 1) % 33 = 2 ∨ (n + 1) % 33 = 4 ∨ (n + 1) % 33 = 6 ∨ (n + 1) % 33 = 8 ∨ (n + 1) % 33 = 10 ∨ (n + 1) % 33 = 12 ∨ (n + 1) % 33 = 14 ∨ (n + 1) % 33 = 16 ∨ (n + 1) % 33 = 18 ∨ (n + 1) % 33 = 20 ∨ (n + 1) % 33 = 22 ∨ (n + 1) % 33 = 24 ∨ (n + 1) % 33 = 26 ∨ (n + 1) % 33 = 28 ∨ (n + 1) % 33 = 30) then
        False.elim (by have hN : n + 1 < 33 := lt_of_lt_of_eq hn (show cfg0.N = 33 from N_0); omega)
      else
        if h3 : (n + 1) % 33 = 32 then
          False.elim (by have hN : n + 1 < 33 := lt_of_lt_of_eq hn (show cfg0.N = 33 from N_0); omega)
        else
          leftB m c ⟨n + 1, hn⟩ h0 h1 h2 h3 p
    else
      if h2 : ((n + 1) % 33 = 2 ∨ (n + 1) % 33 = 4 ∨ (n + 1) % 33 = 6 ∨ (n + 1) % 33 = 8 ∨ (n + 1) % 33 = 10 ∨ (n + 1) % 33 = 12 ∨ (n + 1) % 33 = 14 ∨ (n + 1) % 33 = 16 ∨ (n + 1) % 33 = 18 ∨ (n + 1) % 33 = 20 ∨ (n + 1) % 33 = 22 ∨ (n + 1) % 33 = 24 ∨ (n + 1) % 33 = 26 ∨ (n + 1) % 33 = 28 ∨ (n + 1) % 33 = 30) then
        if h3 : (n + 1) % 33 = 32 then
          False.elim (by have hN : n + 1 < 33 := lt_of_lt_of_eq hn (show cfg0.N = 33 from N_0); omega)
        else
          leftC m c ⟨n + 1, hn⟩ h0 h1 h2 h3 p
      else
        if h3 : (n + 1) % 33 = 32 then
          leftD m c ⟨n + 1, hn⟩ h0 h1 h2 h3 p
        else
          False.elim (by have hN : n + 1 < 33 := lt_of_lt_of_eq hn (show cfg0.N = 33 from N_0); omega)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x3072 .i8 × Vec F S256x1536 .bf16 × Vec F S256x128 .i8 × Vec F S1x1x256 .f32 × Vec F S256x128 .i8 × Vec F S1x1x256 .f32 × Vec F S256x3072 .bf16 × Vec F S256x3072 .bf16
  | 0, hn => leftA m c ⟨0, hn⟩ rfl (by dsimp only; omega) (by dsimp only; omega) (by dsimp only; omega)
  | n + 1, hn => stepAt m c n hn (outsAt0 c n (Nat.lt_of_succ_lt hn))

/-- `outsAt0` at a point of case A: that case's contents. -/
theorem outsAt0_A (c : Dev nD) (t : Fin cfg0.N) (h0 : t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    outsAt0 m c t.val t.isLt = leftA m c t h0 h1 h2 h3 := by
  obtain ⟨n, hn⟩ := t
  cases n with
  | zero => exact rfl
  | succ n => exact (show outsAt0 m c (n + 1) hn = stepAt m c n hn (outsAt0 m c n (Nat.lt_of_succ_lt hn)) from rfl).trans ((dif_pos h0).trans ((dif_neg h1).trans ((dif_neg h2).trans ((dif_neg h3).trans rfl))))

/-- `outsAt0` at a point of case B: that case's contents, over what the point before left. -/
theorem outsAt0_B (c : Dev nD) (t : Fin cfg0.N) (h0 : ¬t.val % 33 = 0) (h1 : t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    outsAt0 m c t.val t.isLt = leftB m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (show outsAt0 m c (n + 1) hn = stepAt m c n hn (outsAt0 m c n (Nat.lt_of_succ_lt hn)) from rfl).trans ((dif_neg h0).trans ((dif_pos h1).trans ((dif_neg h2).trans ((dif_neg h3).trans rfl))))

/-- `outsAt0` at a point of case C: that case's contents, over what the point before left. -/
theorem outsAt0_C (c : Dev nD) (t : Fin cfg0.N) (h0 : ¬t.val % 33 = 0) (h1 : ¬t.val % 2 = 1) (h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : ¬t.val % 33 = 32) :
    outsAt0 m c t.val t.isLt = leftC m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (show outsAt0 m c (n + 1) hn = stepAt m c n hn (outsAt0 m c n (Nat.lt_of_succ_lt hn)) from rfl).trans ((dif_neg h0).trans ((dif_neg h1).trans ((dif_pos h2).trans ((dif_neg h3).trans rfl))))

/-- `outsAt0` at a point of case D: that case's contents, over what the point before left. -/
theorem outsAt0_D (c : Dev nD) (t : Fin cfg0.N) (h0 : ¬t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : t.val % 33 = 32) :
    outsAt0 m c t.val t.isLt = leftD m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (show outsAt0 m c (n + 1) hn = stepAt m c n hn (outsAt0 m c n (Nat.lt_of_succ_lt hn)) from rfl).trans ((dif_neg h0).trans ((dif_neg h1).trans ((dif_neg h2).trans ((dif_pos h3).trans rfl))))

end Cert.QkvIdeal.Gen

end
-- ==== Proof.Qkv.Frame.lean ====
/-
   The kernel `_qkv` over any float layer, in the form in which the generated modules are written:
   what each case leaves in the outputs and in the two scratch buffers, the contents after every point of the grid, the
   proof data of the pipeline, the body obligation at every point, the launch and the frame.

   The second scratch buffer is first stored at point 1. The invariant before a point therefore names its contents from the
   second point on only (`PhiS`); after point 0 it holds anything.
-/
module

public import proofs.«01_k».proof.Proof.Qkv.FrameDefs
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ (∃ d, ⌜n ≠ 0 → d = ((outsAt0 m c n hn).2.2.2.2.2.2.2)⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ (∃ d, ⌜n ≠ 0 → d = ((outsAt0 m c n hn).2.2.2.2.2.2.2)⌝ ∗ owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ (∃ d, ⌜(n - 1) ≠ 0 → d = ((outsAt0 m c (n - 1) (by omega)).2.2.2.2.2.2.2)⌝ ∗ owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 33 := lt_of_lt_of_eq t.isLt (show cfg0.N = 33 from N_0)
  rw [after0_9, after0_9]
  by_cases h0 : t.val % 33 = 0
  · by_cases h1 : t.val % 2 = 1
    · exfalso; omega
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [liveAt0_9_A t ((hcond0_0 t).mpr h0) (fun h => h1 ((hcond0_1 t).mp h)) (fun h => h2 ((hcond0_2 t).mp h)) (fun h => h3 ((hcond0_3 t).mp h))] at hi
          exact absurd hi Bool.false_ne_true
  · by_cases h1 : t.val % 2 = 1
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [liveAt0_9_B t (fun h => h0 ((hcond0_0 t).mp h)) ((hcond0_1 t).mpr h1) (fun h => h2 ((hcond0_2 t).mp h)) (fun h => h3 ((hcond0_3 t).mp h))] at hi
          exact absurd hi Bool.false_ne_true
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · by_cases h3 : t.val % 33 = 32
        · exfalso; omega
        · rw [liveAt0_9_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 33 = 32
        · rw [outsAt0_D m c t h0 h1 h2 h3]
          unfold leftD
          rfl
        · exfalso; omega
/-- At a point of case D output 9's current staging buffer holds what the point before left: the buffer is not fresh
    there (`notFresh0_9_D`: stored into since the region's entry or the last write-back, carried through the points that
    leave it idle by `hcarry0_9`; Lib/Pipeline/TableIdle.lean `Dat.before_out_traj`). -/
theorem before0_9_D (c : Dev nD) (t : Fin cfg0.N) (h0 : ¬t.val % 33 = 0) (h1 : ¬t.val % 2 = 1) (h2 : ¬(t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)) (h3 : t.val % 33 = 32) (d) :
    (dats m 0 c).before 9 t d = (outsAt0 m c (t.val - 1) (Nat.lt_of_le_of_lt (Nat.sub_le _ _) t.isLt)).1 := by
  rw [Dat.before_out_traj _ 9 rfl (fun _ _ => rfl) (hcarry0_9 m c) t.val t rfl d,
    if_neg (by rw [notFresh0_9_D t (fun h => h0 ((hcond0_0 t).mp h)) (fun h => h1 ((hcond0_1 t).mp h)) (fun h => h2 ((hcond0_2 t).mp h)) ((hcond0_3 t).mpr h3)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : t.val % 2 = 1
    · exfalso; omega
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h)) (fun h => h2 ((hcond0_2 t).mp h)) (fun h => h3 ((hcond0_3 t).mp h))], after0_9]
          rw [Dat.leavesExact_idle (dats m 0 c) 10 t (idleAt0_10_A t ((hcond0_0 t).mpr h0) (fun h => h1 ((hcond0_1 t).mp h)) (fun h => h2 ((hcond0_2 t).mp h)) (fun h => h3 ((hcond0_3 t).mp h))) (noFlush0_10_A t ((hcond0_0 t).mpr h0) (fun h => h1 ((hcond0_1 t).mp h)) (fun h => h2 ((hcond0_2 t).mp h)) (fun h => h3 ((hcond0_3 t).mp h)))]
          rw [Dat.leavesExact_idle (dats m 0 c) 11 t (idleAt0_11_A t ((hcond0_0 t).mpr h0) (fun h => h1 ((hcond0_1 t).mp h)) (fun h => h2 ((hcond0_2 t).mp h)) (fun h => h3 ((hcond0_3 t).mp h))) (noFlush0_11_A t ((hcond0_0 t).mpr h0) (fun h => h1 ((hcond0_1 t).mp h)) (fun h => h2 ((hcond0_2 t).mp h)) (fun h => h3 ((hcond0_3 t).mp h)))]
          rw [Dat.leavesExact_idle (dats m 0 c) 12 t (idleAt0_12_A t ((hcond0_0 t).mpr h0) (fun h => h1 ((hcond0_1 t).mp h)) (fun h => h2 ((hcond0_2 t).mp h)) (fun h => h3 ((hcond0_3 t).mp h))) (noFlush0_12_A t ((hcond0_0 t).mpr h0) (fun h => h1 ((hcond0_1 t).mp h)) (fun h => h2 ((hcond0_2 t).mp h)) (fun h => h3 ((hcond0_3 t).mp h)))]
          rw [Dat.leavesExact_idle (dats m 0 c) 13 t (idleAt0_13_A t ((hcond0_0 t).mpr h0) (fun h => h1 ((hcond0_1 t).mp h)) (fun h => h2 ((hcond0_2 t).mp h)) (fun h => h3 ((hcond0_3 t).mp h))) (noFlush0_13_A t ((hcond0_0 t).mpr h0) (fun h => h1 ((hcond0_1 t).mp h)) (fun h => h2 ((hcond0_2 t).mp h)) (fun h => h3 ((hcond0_3 t).mp h)))]
          rw [Dat.leavesExact_idle (dats m 0 c) 14 t (idleAt0_14_A t ((hcond0_0 t).mpr h0) (fun h => h1 ((hcond0_1 t).mp h)) (fun h => h2 ((hcond0_2 t).mp h)) (fun h => h3 ((hcond0_3 t).mp h))) (noFlush0_14_A t ((hcond0_0 t).mpr h0) (fun h => h1 ((hcond0_1 t).mp h)) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold leftA out0_A_9 sout0_A_0; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
            iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2.2.2.2.2.2.2 _ _ _ _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexact H10
            isplitl [H11]; · iexact H11
            isplitl [H12]; · iexact H12
            isplitl [H13]; · iexact H13
            isplitl [H14]; · iexact H14
            isplitl [HS0]; · iexact HS0
            isplitl [HS1]; · iexact HS1
            iintro ⟨H0, H1, H2, H3, H4, H5, H6, H7, H8, ⟨%e9, H9⟩, H10, H11, H12, H13, H14, ⟨%es0, HS0⟩, ⟨%fL1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
                iexists _; isplitr
                swap; · iexact HS1
                ipureintro; exact fun h => absurd hz h
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _)
            isplitl [H10]; · iexists _; iexact H10
            isplitl [H11]; · iexists _; iexact H11
            isplitl [H12]; · iexists _; iexact H12
            isplitl [H13]; · iexists _; iexact H13
            iexists _; iexact H14
          · exfalso; have hN : t.val < 33 := lt_of_lt_of_eq t.isLt (show cfg0.N = 33 from N_0); omega
  · by_cases h1 : t.val % 2 = 1
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · exfalso; omega
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h)) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h)) (fun h => h3 ((hcond0_3 t).mp h))], after0_10]
          rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h)) (fun h => h3 ((hcond0_3 t).mp h))], after0_11]
          rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h)) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h)) (fun h => h3 ((hcond0_3 t).mp h))], after0_13]
          rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h)) (fun h => h3 ((hcond0_3 t).mp h))], after0_14]
          by_cases hz : t.val = 0
          · exfalso; have hN : t.val < 33 := lt_of_lt_of_eq t.isLt (show cfg0.N = 33 from N_0); omega
          · rw [PhiS_castSucc m c t, PhiS_pos m c _ _ hz]
            rw [outsAt0_B m c t h0 h1 h2 h3]
            unfold leftB out0_B_9 out0_B_10 out0_B_11 out0_B_12 out0_B_13 out0_B_14 sout0_B_1; (try dsimp only)
            iintro ⟨⟨⟨HS0, ⟨%dS1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
            iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [H12]; · iexists _; iexact H12
            isplitl [H13]; · iexists _; iexact H13
            isplitl [H14]; · iexists _; iexact H14
            isplitl [HS0]; · iexact HS0
            isplitl [HS1]; · iexists _; iexact HS1
            iintro ⟨H0, H1, H2, H3, H4, H5, H6, H7, H8, ⟨%e9, H9⟩, ⟨%e10, H10⟩, ⟨%e11, H11⟩, ⟨%e12, H12⟩, ⟨%e13, H13⟩, ⟨%e14, H14⟩, HS0, ⟨%es1, HS1⟩⟩
            isplitl [HS0 HS1 Hg]
            · isplitl [HS0 HS1]
              · isplitl [HS0]
                · iexact HS0
                iexists _; isplitr
                · ipureintro; exact fun _ => rfl
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
            isplitl [H11]
            · unfold owns; iexists _; isplitr
              swap; · iexact H11
              ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
            isplitl [H12]
            · unfold owns; iexists _; isplitr
              swap; · iexact H12
              ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
            isplitl [H13]
            · unfold owns; iexists _; isplitr
              swap; · iexact H13
              ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H14
            ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _)
    · by_cases h2 : (t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30)
      · by_cases h3 : t.val % 33 = 32
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h))], after0_10]
          rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2) (fun h => h3 ((hcond0_3 t).mp h))], after0_11]
          rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2) (fun h => h3 ((hcond0_3 t).mp h))], after0_13]
          rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2) (fun h => h3 ((hcond0_3 t).mp h))], after0_14]
          by_cases hz : t.val = 0
          · exfalso; have hN : t.val < 33 := lt_of_lt_of_eq t.isLt (show cfg0.N = 33 from N_0); omega
          · rw [PhiS_castSucc m c t, PhiS_pos m c _ _ hz]
            rw [outsAt0_C m c t h0 h1 h2 h3]
            unfold leftC out0_C_9 out0_C_10 out0_C_11 out0_C_12 out0_C_13 out0_C_14 sout0_C_0; (try dsimp only)
            iintro ⟨⟨⟨HS0, ⟨%dS1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
            obtain rfl := hS1 (by omega)
            iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [H12]; · iexists _; iexact H12
            isplitl [H13]; · iexists _; iexact H13
            isplitl [H14]; · iexists _; iexact H14
            isplitl [HS0]; · iexists _; iexact HS0
            isplitl [HS1]; · iexact HS1
            iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
                iexists _; isplitr
                · ipureintro; exact fun _ => rfl
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
            isplitl [H11]
            · unfold owns; iexists _; isplitr
              swap; · iexact H11
              ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)
            isplitl [H12]
            · unfold owns; iexists _; isplitr
              swap; · iexact H12
              ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _)
            isplitl [H13]
            · unfold owns; iexists _; isplitr
              swap; · iexact H13
              ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H14
            ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _)
      · by_cases h3 : t.val % 33 = 32
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [idleAt0_9_D t (fun h => h0 ((hcond0_0 t).mp h)) (fun h => h1 ((hcond0_1 t).mp h)) (fun h => h2 ((hcond0_2 t).mp h)) ((hcond0_3 t).mpr h3), flushAt0_9_D t (fun h => h0 ((hcond0_0 t).mp h)) (fun h => h1 ((hcond0_1 t).mp h)) (fun h => h2 ((hcond0_2 t).mp h)) ((hcond0_3 t).mpr h3)], after0_9]
          rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3)], after0_10]
          rw [show (dats m 0 c).leavesExact 11 t = owns (c : Thread nD τ) (ms0_11 t) fullShare ((dats m 0 c).after 11 t) from by
      unfold Dat.leavesExact; rw [liveAt0_11_D t (fun h => h0 ((hcond0_0 t).mp h)) (fun h => h1 ((hcond0_1 t).mp h)) (fun h => h2 ((hcond0_2 t).mp h)) ((hcond0_3 t).mpr h3)], after0_11]
          rw [show (dats m 0 c).leavesExact 12 t = owns (c : Thread nD τ) (ms0_12 t) fullShare ((dats m 0 c).after 12 t) from by
      unfold Dat.leavesExact; rw [liveAt0_12_D t (fun h => h0 ((hcond0_0 t).mp h)) (fun h => h1 ((hcond0_1 t).mp h)) (fun h => h2 ((hcond0_2 t).mp h)) ((hcond0_3 t).mpr h3)], after0_12]
          rw [show (dats m 0 c).leavesExact 13 t = owns (c : Thread nD τ) (ms0_13 t) fullShare ((dats m 0 c).after 13 t) from by
      unfold Dat.leavesExact; rw [liveAt0_13_D t (fun h => h0 ((hcond0_0 t).mp h)) (fun h => h1 ((hcond0_1 t).mp h)) (fun h => h2 ((hcond0_2 t).mp h)) ((hcond0_3 t).mpr h3)], after0_13]
          rw [show (dats m 0 c).leavesExact 14 t = owns (c : Thread nD τ) (ms0_14 t) fullShare ((dats m 0 c).after 14 t) from by
      unfold Dat.leavesExact; rw [liveAt0_14_D t (fun h => h0 ((hcond0_0 t).mp h)) (fun h => h1 ((hcond0_1 t).mp h)) (fun h => h2 ((hcond0_2 t).mp h)) ((hcond0_3 t).mpr h3)], after0_14]
          by_cases hz : t.val = 0
          · exfalso; have hN : t.val < 33 := lt_of_lt_of_eq t.isLt (show cfg0.N = 33 from N_0); omega
          · rw [PhiS_castSucc m c t, PhiS_pos m c _ _ hz]
            rw [outsAt0_D m c t h0 h1 h2 h3]
            simp only [before0_9_D m c t h0 h1 h2 h3]
            unfold leftD out0_D_10 out0_D_11 out0_D_12 out0_D_13 out0_D_14; (try dsimp only)
            iintro ⟨⟨⟨HS0, ⟨%dS1, %hS1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
            obtain rfl := hS1 (by omega)
            iapply ((kernelRun0_D c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) _ _ _).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexists _; iexact H10
            isplitl [H11]; · iexists _; iexact H11
            isplitl [H12]; · iexists _; iexact H12
            isplitl [H13]; · iexists _; iexact H13
            isplitl [H14]; · iexists _; iexact H14
            isplitl [HS0]; · iexact HS0
            isplitl [HS1]; · iexact HS1
            iintro ⟨H0, H1, H2, H3, H4, H5, H6, H7, H8, H9, ⟨%e10, H10⟩, ⟨%e11, H11⟩, ⟨%e12, H12⟩, ⟨%e13, H13⟩, ⟨%e14, H14⟩, HS0, HS1⟩
            isplitl [HS0 HS1 Hg]
            · isplitl [HS0 HS1]
              · isplitl [HS0]
                · iexact HS0
                iexists _; isplitr
                · ipureintro; exact fun _ => rfl
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]
            · unfold owns; iexists _; isplitr
              swap; · iexact H10
              ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _ _ _ _ _)
            isplitl [H11]
            · unfold owns; iexists _; isplitr
              swap; · iexact H11
              ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _ _)
            isplitl [H12]
            · unfold owns; iexists _; isplitr
              swap; · iexact H12
              ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _ _ _ _ _)
            isplitl [H13]
            · unfold owns; iexists _; isplitr
              swap; · iexact H13
              ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H14
            ipureintro; exact View.read_writes_of_cover _ _ _ _ _ (cover0_D_14 c _ _ _ _ _ _ _ _ _ _ _ _ _ _ _ _ _ _ _ _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%dS1, -, HS1⟩⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_QkvIdeal`'s statement (Defs.lean) at any `F` — Proof.lean cites it at `Bits`:
    `theorem Cert.Proof.claim : Cert.Claim := ⟨Cert.QkvIdeal.Gen.facts, fun m ρ _ => Cert.QkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.QkvIdeal.Gen

end
-- ==== Proof.Qkv.Bits.lean ====
/- The frame of the program as it stands, with its floats' bits: it is word for word the ideal program, and that one's frame is
   proved for any reading of the floats. -/
module

public import proofs.«01_k».proof.Proof.Qkv.Frame
public import proofs.«01_k».proof.Proof.Gen.Qkv

@[expose] public section

set_option maxRecDepth 16384

noncomputable section

namespace Cert.Qkv

open Idealize.ShloMosaic Idealize.SL.Sem

variable {F : FTy → Type} [FloatOps F]

set_option maxHeartbeats 2000000 in
/-- The two programs' kernel bodies are the same. -/
theorem defs_eq : (Cert.Qkv.defs₀ (F := F)) = (Cert.QkvIdeal.defs₀ (F := F)) := by
  unfold Cert.Qkv.defs₀ Cert.QkvIdeal.defs₀
  refine congrArg Defs.onTc ?_
  funext l a
  match l, a with
  | ⟨0, _⟩, (t, s) => rfl

/-- The program terminates without fault, leaves its arguments as they were and its semaphores at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  unfold defs
  rw [defs_eq]
  exact Cert.QkvIdeal.Gen.frame (F := F) m ρ

end Cert.Qkv

end
-- ==== Proof.Rotary.lean ====
/- The mathematics of the attention inputs' kernel over the extended reals, as plain functions of matrix entries: an int8
   layer as an array, the rotary embedding of a head of 128 columns, and the int8 quantiser whose scale is a row's largest
   absolute value over 127. Then the forms in which the programs print them, read at an index. -/
module

public import proofs.«01_k».proof.Proof.NormLayer
public import Idealize.ShloMosaic.Lib.KernelVsHost

@[expose] public section

noncomputable section

namespace Cert.W8A8

open Idealize.ShloMosaic Idealize.ShloMosaic.ValueIdx
open scoped BigOperators

/-- An int8 layer over real codes `h`, as an array: the product with the weights, plus the bias, times the scales. -/
def linReal {M K N : ℕ} (h : Mat EReal M K) (w : Mat (BitVec 8) K N) (bias : Mat (BitVec 32) 1 N) (s : Mat EReal 1 N)
    (sc : EReal) : Mat EReal M N :=
  fun i => rescale (dot h (fun i => code (w i)) (i 0) (i 1)) (bias (ix2 0 (i 1))) sc (s (ix2 0 (i 1)))

/-- The rotary embedding of one head of 128 entries by 64 cosines and sines: the first half is `t₁ c - t₂ s`, the second
    `t₂ c + t₁ s`. -/
def rotHead (t : Fin 128 → EReal) (cs sn : Fin 64 → EReal) (j : Fin 128) : EReal :=
  if h : j.val < 64 then t j * cs ⟨j.val, h⟩ - t ⟨j.val + 64, by omega⟩ * sn ⟨j.val, h⟩
  else t j * cs ⟨j.val - 64, by omega⟩ + t ⟨j.val - 64, by omega⟩ * sn ⟨j.val - 64, by omega⟩

/-- Row `r` of a matrix. -/
abbrev row {M N : ℕ} (t : Mat EReal M N) (r : Fin M) : Fin N → EReal := fun j => t (ix2 r j)

/-- Head `k` of row `r` of a matrix of 14 heads of 128 columns. -/
def head {M : ℕ} (y : Mat EReal M 1792) (r : Fin M) (k : ℕ) (hk : k < 14) : Fin 128 → EReal :=
  fun j => y (ix2 r ⟨128 * k + j.val, by omega⟩)

/-- The 12 query heads, rotated. -/
def queries {M : ℕ} (y : Mat EReal M 1792) (cs sn : Mat EReal M 64) : Mat EReal M 1536 := fun i =>
  rotHead (head y (i 0) ((i 1).val / 128) (by have : (i 1).val < 1536 := (i 1).isLt; omega)) (row cs (i 0)) (row sn (i 0))
    ⟨(i 1).val % 128, Nat.mod_lt _ (by norm_num)⟩

/-- A query at column `128 k + j` is entry `j` of the rotated head `k`. -/
theorem queries_at {M : ℕ} (y : Mat EReal M 1792) (cs sn : Mat EReal M 64) (r : Fin M) (C : Fin 1536) (k : ℕ) (hk : k < 14)
    (j : Fin 128) (hC : C.val = 128 * k + j.val) :
    queries y cs sn (ix2 r C) = rotHead (head y r k hk) (row cs r) (row sn r) j := by
  have hj := j.isLt
  obtain rfl : k = C.val / 128 := by omega
  obtain rfl : j = ⟨C.val % 128, Nat.mod_lt _ (by norm_num)⟩ := Fin.ext (by show j.val = C.val % 128; omega)
  rfl

/-- The key head, rotated. -/
def keys {M : ℕ} (y : Mat EReal M 1792) (cs sn : Mat EReal M 64) : Mat EReal M 128 := fun i =>
  rotHead (head y (i 0) 12 (by norm_num)) (row cs (i 0)) (row sn (i 0)) (i 1)

/-- The value head. -/
def values {M : ℕ} (y : Mat EReal M 1792) : Mat EReal M 128 := fun i => head y (i 0) 13 (by norm_num) (i 1)

/-- The largest absolute value of a row. -/
def amax {N : ℕ} (t : Fin N → EReal) : EReal :=
  (Finset.univ : Finset (Fin N)).fold max (lit 0xFF800000#32) fun j => max (t j) (-t j)

/-- A row's scale: its largest absolute value over 127, or 1 if that is 0. -/
def scaleOf {N : ℕ} (t : Fin N → EReal) : EReal :=
  Scalar.select (FloatOps.cmpf (F := Ideal) (φ := .f32) .oeq (amax t) (lit 0x00000000#32)) (lit 0x3F800000#32)
    (Ideal.div (amax t) (lit 0x42FE0000#32))

/-- The int8 codes of a matrix whose rows are quantised each with its own scale. -/
def rowCodes {M N : ℕ} (t : Mat EReal M N) : Mat (BitVec 8) M N :=
  fun i => Ideal.fptosi 8 (quant (t i) (scaleOf (row t (i 0))))

/-- The scales of a block of 256 rows. -/
def blockScales (t : Mat EReal 256 128) : (⟨3, ![1, 1, 256]⟩ : Shape).Idx → EReal := fun i => scaleOf (row t (i 2))

/-- The scales of 8192 rows, as 32 blocks of 256. -/
def allScales (t : Mat EReal 8192 128) : (⟨3, ![32, 1, 256]⟩ : Shape).Idx → EReal := fun i =>
  scaleOf (row t ⟨(i 0).val * 256 + (i 2).val, by
    have h0 : (i 0).val < 32 := (i 0).isLt
    have h2 : (i 2).val < 256 := (i 2).isLt
    omega⟩)

/-! ## A row depends on its row only -/

theorem linReal_rows {M M' K N : ℕ} (h : Mat EReal M K) (H : Mat EReal M' K) (w : Mat (BitVec 8) K N)
    (bias : Mat (BitVec 32) 1 N) (s : Mat EReal 1 N) (sc : EReal) (r : Fin M) (R : Fin M')
    (hh : ∀ k, h (ix2 r k) = H (ix2 R k)) (c : Fin N) :
    linReal h w bias s sc (ix2 r c) = linReal H w bias s sc (ix2 R c) := by
  have hd : dot h (fun i => code (w i)) r c = dot H (fun i => code (w i)) R c :=
    Finset.sum_congr rfl fun k _ => congrArg (fun b => b * code (w (ix2 k c))) (hh k)
  exact congrArg (fun d => rescale d (bias (ix2 0 c)) sc (s (ix2 0 c))) hd

theorem queries_rows {M M' : ℕ} (y : Mat EReal M 1792) (Y : Mat EReal M' 1792) (cs sn : Mat EReal M 64)
    (Cs Sn : Mat EReal M' 64) (r : Fin M) (R : Fin M') (hy : ∀ k, y (ix2 r k) = Y (ix2 R k))
    (hc : ∀ k, cs (ix2 r k) = Cs (ix2 R k)) (hs : ∀ k, sn (ix2 r k) = Sn (ix2 R k)) (c : Fin 1536) :
    queries y cs sn (ix2 r c) = queries Y Cs Sn (ix2 R c) := by
  show rotHead (fun j => y (ix2 r _)) (fun j => cs (ix2 r j)) (fun j => sn (ix2 r j)) _
    = rotHead (fun j => Y (ix2 R _)) (fun j => Cs (ix2 R j)) (fun j => Sn (ix2 R j)) _
  rw [funext hc, funext hs, funext fun j : Fin 128 => hy _]
  rfl

theorem keys_rows {M M' : ℕ} (y : Mat EReal M 1792) (Y : Mat EReal M' 1792) (cs sn : Mat EReal M 64)
    (Cs Sn : Mat EReal M' 64) (r : Fin M) (R : Fin M') (hy : ∀ k, y (ix2 r k) = Y (ix2 R k))
    (hc : ∀ k, cs (ix2 r k) = Cs (ix2 R k)) (hs : ∀ k, sn (ix2 r k) = Sn (ix2 R k)) :
    row (keys y cs sn) r = row (keys Y Cs Sn) R := by
  funext c
  show rotHead (fun j => y (ix2 r _)) (fun j => cs (ix2 r j)) (fun j => sn (ix2 r j)) _
    = rotHead (fun j => Y (ix2 R _)) (fun j => Cs (ix2 R j)) (fun j => Sn (ix2 R j)) _
  rw [funext hc, funext hs, funext fun j : Fin 128 => hy _]
  rfl

theorem values_rows {M M' : ℕ} (y : Mat EReal M 1792) (Y : Mat EReal M' 1792) (r : Fin M) (R : Fin M')
    (hy : ∀ k, y (ix2 r k) = Y (ix2 R k)) : row (values y) r = row (values Y) R := funext fun _ => hy _

/-- The codes of a row depend only on that row. -/
theorem rowCodes_rows {M M' N : ℕ} (t : Mat EReal M N) (T : Mat EReal M' N) (r : Fin M) (R : Fin M')
    (h : row t r = row T R) (c : Fin N) : rowCodes t (ix2 r c) = rowCodes T (ix2 R c) := by
  show Ideal.fptosi 8 (quant (row t r c) (scaleOf (row t r))) = Ideal.fptosi 8 (quant (row T R c) (scaleOf (row T R)))
  rw [h]

/-- A row's scale, in its block and in the whole. -/
theorem scales_rows (t : Mat EReal 256 128) (T : Mat EReal 8192 128) (b : Fin 32) (r : Fin 256) (R : Fin 8192)
    (hR : R.val = 256 * b.val + r.val) (h : row t r = row T R) :
    blockScales t (ix3 0 0 r) = allScales T (ix3 b 0 r) := by
  have e : (⟨b.val * 256 + r.val, by omega⟩ : Fin 8192) = R := Fin.ext (by show b.val * 256 + r.val = R.val; omega)
  show scaleOf (row t r) = scaleOf (row T (⟨b.val * 256 + r.val, _⟩ : Fin 8192))
  rw [h, e]

/-! ## The printed forms -/

/-- A head's rotation as the kernel prints it: the cosines twice over, and the halves exchanged against the sines, the
    first of them negated. -/
def rotVec {M : ℕ} (t : FVec Ideal ⟨2, ![M, 128]⟩ .f32) (cs sn : FVec Ideal ⟨2, ![M, 64]⟩ .f32)
    (hc : Shape.Concatenates [⟨2, ![M, 64]⟩, ⟨2, ![M, 64]⟩] ⟨2, ![M, 128]⟩ 1)
    (hr : (⟨2, ![M, 128]⟩ : Shape).Rotates 1 none) : FVec Ideal ⟨2, ![M, 128]⟩ .f32 :=
  addf (mulf t (concatenate ⟨2, ![M, 128]⟩ 1 [⟨⟨2, ![M, 64]⟩, cs⟩, ⟨⟨2, ![M, 64]⟩, cs⟩] hc))
    (mulf (dynamicRotate 1 64#32 none t hr) (concatenate ⟨2, ![M, 128]⟩ 1
      [⟨⟨2, ![M, 64]⟩, subf (broadcast ⟨2, ![M, 64]⟩ (Scalar.ofBits (F := Ideal) .f32 0x00000000#32)) sn⟩, ⟨⟨2, ![M, 64]⟩, sn⟩] hc))

/-- Two matrices of as many rows beside each other, read left of the seam. -/
theorem beside_left {α : Type} {M a b c : ℕ} (x : Mat α M a) (y : Mat α M b)
    (h : Shape.Concatenates [⟨2, ![M, a]⟩, ⟨2, ![M, b]⟩] ⟨2, ![M, c]⟩ 1) (r : Fin M) (j : Fin c) (hj : j.val < a) :
    concatenate ⟨2, ![M, c]⟩ 1 [⟨⟨2, ![M, a]⟩, x⟩, ⟨⟨2, ![M, b]⟩, y⟩] h (ix2 r j) = x (ix2 r ⟨j.val, hj⟩) := by
  refine concatenate_pair_apply_left (t := ⟨2, ![M, c]⟩) (s₁ := ⟨2, ![M, a]⟩) (s₂ := ⟨2, ![M, b]⟩) (1 : Fin 2) x y h (ix2 r j)
    rfl (ix2 r (⟨j.val, hj⟩ : Fin a)) ?_
  intro d
  match d with
  | ⟨0, _⟩ => rfl
  | ⟨1, _⟩ => rfl

/-- The same, read right of the seam. -/
theorem beside_right {α : Type} {M a b c : ℕ} (x : Mat α M a) (y : Mat α M b)
    (h : Shape.Concatenates [⟨2, ![M, a]⟩, ⟨2, ![M, b]⟩] ⟨2, ![M, c]⟩ 1) (r : Fin M) (j : Fin c) (hj : a ≤ j.val)
    (hb : j.val - a < b) :
    concatenate ⟨2, ![M, c]⟩ 1 [⟨⟨2, ![M, a]⟩, x⟩, ⟨⟨2, ![M, b]⟩, y⟩] h (ix2 r j) = y (ix2 r ⟨j.val - a, hb⟩) := by
  refine concatenate_pair_apply_right (t := ⟨2, ![M, c]⟩) (s₁ := ⟨2, ![M, a]⟩) (s₂ := ⟨2, ![M, b]⟩) (1 : Fin 2) x y h (ix2 r j)
    rfl rfl (ix2 r (⟨j.val - a, hb⟩ : Fin b)) ?_ ?_
  · intro d hd
    match d with
    | ⟨0, _⟩ => rfl
    | ⟨1, _⟩ => exact absurd rfl hd
  · show j.val - a + a = j.val
    omega

theorem rotVec_apply {M : ℕ} (t : FVec Ideal ⟨2, ![M, 128]⟩ .f32) (cs sn : FVec Ideal ⟨2, ![M, 64]⟩ .f32)
    (hc : Shape.Concatenates [⟨2, ![M, 64]⟩, ⟨2, ![M, 64]⟩] ⟨2, ![M, 128]⟩ 1)
    (hr : (⟨2, ![M, 128]⟩ : Shape).Rotates 1 none) (r : Fin M) (j : Fin 128) :
    rotVec t cs sn hc hr (ix2 r j) = rotHead (row t r) (row cs r) (row sn r) j := by
  have hroll : ∀ k : Fin 128, k.val = (j.val + 64) % 128 → dynamicRotate 1 64#32 none t hr (ix2 r j) = t (ix2 r k) :=
    fun k hk => dynamicRotate_apply (1 : Fin 2) 64#32 t hr (ix2 r j) (ix2 r k) fun b => by
      match b with
      | ⟨0, _⟩ => rfl
      | ⟨1, _⟩ =>
        show k.val = (j.val + 128 - 64 % 128) % 128
        omega
  show t (ix2 r j) * concatenate ⟨2, ![M, 128]⟩ 1 [⟨⟨2, ![M, 64]⟩, cs⟩, ⟨⟨2, ![M, 64]⟩, cs⟩] hc (ix2 r j)
    + dynamicRotate 1 64#32 none t hr (ix2 r j) * concatenate ⟨2, ![M, 128]⟩ 1
      [⟨⟨2, ![M, 64]⟩, subf (broadcast ⟨2, ![M, 64]⟩ (Scalar.ofBits (F := Ideal) .f32 0x00000000#32)) sn⟩, ⟨⟨2, ![M, 64]⟩, sn⟩] hc (ix2 r j) = _
  unfold rotHead
  by_cases h : j.val < 64
  · rw [dif_pos h, beside_left _ _ hc r j h, beside_left _ _ hc r j h, hroll ⟨j.val + 64, by omega⟩ (by show j.val + 64 = _; omega)]
    show t (ix2 r j) * cs (ix2 r ⟨j.val, h⟩) + t (ix2 r ⟨j.val + 64, _⟩) * (Ideal.ofBits .f32 0x00000000#32 - sn (ix2 r ⟨j.val, h⟩)) = _
    rw [Ideal.ofBits_zero_f32, zero_sub, mul_neg, ← sub_eq_add_neg]
  · rw [dif_neg h, beside_right _ _ hc r j (by omega) (by omega), beside_right _ _ hc r j (by omega) (by omega),
      hroll ⟨j.val - 64, by omega⟩ (by show j.val - 64 = _; omega)]

/-- The rows' scales as a vector, from their largest absolute values `a`, as the programs print them. -/
def scaleVec {s : Shape} (a : FVec Ideal s .f32) : FVec Ideal s .f32 :=
  select (cmpf .oeq a (broadcast s (Scalar.ofBits (F := Ideal) .f32 0x00000000#32)))
    (broadcast s (Scalar.ofBits (F := Ideal) .f32 0x3F800000#32))
    (divf a (broadcast s (Scalar.ofBits (F := Ideal) .f32 0x42FE0000#32)))

theorem scaleVec_apply {s : Shape} (a : FVec Ideal s .f32) (i : s.Idx) {N : ℕ} (t : Fin N → EReal) (h : a i = amax t) :
    scaleVec a i = scaleOf t := by
  show Scalar.select (FloatOps.cmpf (F := Ideal) (φ := .f32) .oeq (a i) (lit 0x00000000#32)) (lit 0x3F800000#32)
    (Ideal.div (a i) (lit 0x42FE0000#32)) = _
  rw [h]
  rfl

/-- The rows' largest absolute values, as the programs print them. -/
def amaxVec {M N : ℕ} (t : FVec Ideal ⟨2, ![M, N]⟩ .f32) (hr : Shape.Reduces ⟨2, ![M, N]⟩ [1] ⟨1, ![M]⟩) :
    FVec Ideal ⟨1, ![M]⟩ .f32 := multiReduction .maximumf [1] ⟨1, ![M]⟩ (absf t) 0xFF800000#32 hr (.inl rfl) rfl

theorem amaxVec_apply {M N : ℕ} (t : FVec Ideal ⟨2, ![M, N]⟩ .f32) (hr : Shape.Reduces ⟨2, ![M, N]⟩ [1] ⟨1, ![M]⟩)
    (r : Fin M) : amaxVec t hr (ix1 r) = amax (row t r) := by
  refine (Ideal.multiReduction_maximumf_single (absf t) 0xFF800000#32 hr (.inl rfl) rfl (ix1 r)).trans ?_
  refine congrArg (fun f => (Finset.univ : Finset (Fin N)).fold max (lit 0xFF800000#32) f) (funext fun k => ?_)
  have e : hr.lift (ix1 r) k = ix2 r k :=
    funext fun a => Fin.ext (by match a with | ⟨0, _⟩ => rfl | ⟨1, _⟩ => rfl)
  show absf t (hr.lift (ix1 r) k) = _
  rw [e]
  rfl

/-- The rows' scales as a column, as the kernel prints them. -/
def scaleCol {M N : ℕ} (t : FVec Ideal ⟨2, ![M, N]⟩ .f32) (hr : Shape.Reduces ⟨2, ![M, N]⟩ [1] ⟨1, ![M]⟩)
    (hs : (⟨1, ![M]⟩ : Shape).ShapeCasts ⟨2, ![M, 1]⟩) : FVec Ideal ⟨2, ![M, 1]⟩ .f32 :=
  scaleVec (shapeCast ⟨2, ![M, 1]⟩ (amaxVec t hr) hs)

theorem scaleCol_apply {M N : ℕ} (t : FVec Ideal ⟨2, ![M, N]⟩ .f32) (hr : Shape.Reduces ⟨2, ![M, N]⟩ [1] ⟨1, ![M]⟩)
    (hs : (⟨1, ![M]⟩ : Shape).ShapeCasts ⟨2, ![M, 1]⟩) (r : Fin M) : scaleCol t hr hs (ix2 r 0) = scaleOf (row t r) :=
  scaleVec_apply _ _ _ ((shapeCast_a_a1_apply _ hs r).trans (amaxVec_apply t hr r))

/-- The codes of rows quantised each with its own scale, as the kernel prints them. -/
theorem rowCodes_vec {M N : ℕ} (t : FVec Ideal ⟨2, ![M, N]⟩ .f32) (hr : Shape.Reduces ⟨2, ![M, N]⟩ [1] ⟨1, ![M]⟩)
    (hs : (⟨1, ![M]⟩ : Shape).ShapeCasts ⟨2, ![M, 1]⟩) (hb : (⟨2, ![M, 1]⟩ : Shape).Broadcasts ⟨2, ![M, N]⟩) :
    fptosi (F := Ideal) (φ := .f32) 8 (quantVec t (broadcastTo ⟨2, ![M, N]⟩ (scaleCol t hr hs) hb)) = rowCodes t := by
  funext i
  obtain ⟨r, c, rfl⟩ : ∃ r c, i = ix2 r c := ⟨i 0, i 1, eq_ix2 i⟩
  show Ideal.fptosi 8 (quantVec t _ (ix2 r c)) = _
  rw [quantVec_apply, broadcastTo_a1_ab_apply, scaleCol_apply]
  rfl

/-- A column of scales stored as one row of a block, as the kernel prints it: spread over 128 columns, transposed, and its
    first row taken. -/
theorem scaleRow_apply (v : FVec Ideal ⟨2, ![256, 1]⟩ .f32) (h0 : (⟨2, ![256, 1]⟩ : Shape).ShapeCasts ⟨2, ![256, 1]⟩)
    (hb : (⟨2, ![256, 1]⟩ : Shape).Broadcasts ⟨2, ![256, 128]⟩)
    (ht : (⟨2, ![256, 128]⟩ : Shape).Transposes [1, 0] ⟨2, ![128, 256]⟩)
    (hl : (⟨2, ![128, 256]⟩ : Shape).Slices ![0, 0] ⟨2, ![1, 256]⟩)
    (hs : (⟨2, ![1, 256]⟩ : Shape).ShapeCasts ⟨3, ![1, 1, 256]⟩) (r : Fin 256) :
    shapeCast ⟨3, ![1, 1, 256]⟩ (extractStridedSlice ⟨2, ![1, 256]⟩ ![0, 0] (transpose ⟨2, ![128, 256]⟩ [1, 0]
      (broadcastTo ⟨2, ![256, 128]⟩ (shapeCast ⟨2, ![256, 1]⟩ v h0) hb) ht) hl) hs (ix3 0 0 r) = v (ix2 r 0) := by
  rw [shapeCast_self]
  refine (shapeCast_ab_1ab_apply _ hs 0 0 r).trans ?_
  refine (extractStridedSlice_apply ![0, 0] _ hl (ix2 (0 : Fin 1) r) (ix2 (0 : Fin 128) r) fun a => by
    match a with
    | ⟨0, _⟩ => rfl
    | ⟨1, _⟩ => exact (Nat.zero_add _).symm).trans ?_
  exact (transpose_ix2_apply _ ht 0 r).trans (broadcastTo_a1_ab_apply v hb r 0)

end Cert.W8A8

end
-- ==== Proof.QkvReference.lean ====
/- What the attention inputs' reference computes, as arrays: the layer norm's codes, the rotated queries, and the rotated keys and
   the values as int8 codes with one scale for each row. -/
module

public import proofs.«01_k».proof.Proof.Gen.QkvRefIdeal.Value
public import proofs.«01_k».proof.Proof.Rotary

@[expose] public section

set_option maxRecDepth 16384

noncomputable section

namespace Cert.QkvRefIdeal.Reference

open Cert.QkvRefIdeal Cert.QkvRefIdeal.Gen Cert.W8A8 Idealize.ShloMosaic Idealize.ShloMosaic.ValueIdx

/-! ## The printed forms -/

section Forms

variable {M H : ℕ}

/-- The rotary embedding of `H` heads as the reference prints it: of the two halves `p` and `q` of the heads, and of the cosines
    and sines at every head. -/
def rotVec (p q c s : FVec Ideal ⟨3, ![M, H, 64]⟩ .f32)
    (hc : Shape.Concatenates [⟨3, ![M, H, 64]⟩, ⟨3, ![M, H, 64]⟩] ⟨3, ![M, H, 128]⟩ 2) : FVec Ideal ⟨3, ![M, H, 128]⟩ .f32 :=
  concatenate ⟨3, ![M, H, 128]⟩ 2 [⟨⟨3, ![M, H, 64]⟩, subf (mulf p c) (mulf q s)⟩, ⟨⟨3, ![M, H, 64]⟩, addf (mulf q c) (mulf p s)⟩] hc

theorem rotVec_apply (t : FVec Ideal ⟨3, ![M, H, 128]⟩ .f32) (c s : FVec Ideal ⟨3, ![M, H, 64]⟩ .f32)
    (hc : Shape.Concatenates [⟨3, ![M, H, 64]⟩, ⟨3, ![M, H, 64]⟩] ⟨3, ![M, H, 128]⟩ 2)
    (h0 : (⟨3, ![M, H, 128]⟩ : Shape).Slices ![0, 0, 0] ⟨3, ![M, H, 64]⟩)
    (h1 : (⟨3, ![M, H, 128]⟩ : Shape).Slices ![0, 0, 64] ⟨3, ![M, H, 64]⟩) (r : Fin M) (k : Fin H) (j : Fin 128)
    (T : Fin 128 → EReal) (C S : Fin 64 → EReal) (hT : ∀ j, t (ix3 r k j) = T j) (hC : ∀ j, c (ix3 r k j) = C j)
    (hS : ∀ j, s (ix3 r k j) = S j) :
    rotVec (extractStridedSlice ⟨3, ![M, H, 64]⟩ ![0, 0, 0] t h0) (extractStridedSlice ⟨3, ![M, H, 64]⟩ ![0, 0, 64] t h1) c s hc
      (ix3 r k j) = rotHead T C S j := by
  have hp : ∀ l : Fin 64, extractStridedSlice ⟨3, ![M, H, 64]⟩ ![0, 0, 0] t h0 (ix3 r k l) = T ⟨l.val, by omega⟩ := fun l =>
    (extractStridedSlice_apply ![0, 0, 0] t h0 (ix3 r k l) (ix3 r k (⟨l.val, by omega⟩ : Fin 128)) fun a => by
      match a with
      | ⟨0, _⟩ => exact (Nat.zero_add _).symm
      | ⟨1, _⟩ => exact (Nat.zero_add _).symm
      | ⟨2, _⟩ => exact (Nat.zero_add _).symm).trans (hT _)
  have hq : ∀ l : Fin 64, extractStridedSlice ⟨3, ![M, H, 64]⟩ ![0, 0, 64] t h1 (ix3 r k l) = T ⟨l.val + 64, by omega⟩ := fun l =>
    (extractStridedSlice_apply ![0, 0, 64] t h1 (ix3 r k l) (ix3 r k (⟨l.val + 64, by omega⟩ : Fin 128)) fun a => by
      match a with
      | ⟨0, _⟩ => exact (Nat.zero_add _).symm
      | ⟨1, _⟩ => exact (Nat.zero_add _).symm
      | ⟨2, _⟩ => exact Nat.add_comm _ _).trans (hT _)
  unfold rotVec rotHead
  by_cases h : j.val < 64
  · rw [dif_pos h]
    refine (concatenate_pair_apply_left (t := ⟨3, ![M, H, 128]⟩) (s₁ := ⟨3, ![M, H, 64]⟩) (s₂ := ⟨3, ![M, H, 64]⟩) (2 : Fin 3) _ _ hc
      (ix3 r k j) rfl (ix3 r k (⟨j.val, h⟩ : Fin 64)) (fun d => by
        match d with
        | ⟨0, _⟩ => rfl
        | ⟨1, _⟩ => rfl
        | ⟨2, _⟩ => rfl)).trans ?_
    show _ * c _ - _ * s _ = _
    rw [hp, hq, hC, hS]
  · rw [dif_neg h]
    refine (concatenate_pair_apply_right (t := ⟨3, ![M, H, 128]⟩) (s₁ := ⟨3, ![M, H, 64]⟩) (s₂ := ⟨3, ![M, H, 64]⟩) (2 : Fin 3) _ _ hc
      (ix3 r k j) rfl rfl (ix3 r k (⟨j.val - 64, by omega⟩ : Fin 64)) (fun d hd => by
        match d with
        | ⟨0, _⟩ => rfl
        | ⟨1, _⟩ => rfl
        | ⟨2, _⟩ => exact absurd rfl hd) (by show j.val - 64 + 64 = j.val; omega)).trans ?_
    show _ * c _ + _ * s _ = _
    rw [hp, hq, hC, hS]
    have e : (⟨j.val - 64 + 64, by omega⟩ : Fin 128) = j := Fin.ext (by show j.val - 64 + 64 = j.val; omega)
    show T ⟨j.val - 64 + 64, _⟩ * _ + _ = _
    rw [e]

/-- One middle axis of length 1 put in. -/
theorem middle_apply {α : Type} {N : ℕ} (x : Mat α M N) (h : (⟨2, ![M, N]⟩ : Shape).ShapeCasts ⟨3, ![M, 1, N]⟩) (r : Fin M) (k : Fin 1)
    (j : Fin N) : shapeCast ⟨3, ![M, 1, N]⟩ x h (ix3 r k j) = x (ix2 r j) := by
  refine shapeCast_apply x h (ix3 r k j) (ix2 r j) ?_
  rw [Shape.rowMajor_val_three, Shape.rowMajor_val_two]
  show r.val * N + j.val = (r.val * 1 + k.val) * N + j.val
  rw [Nat.lt_one_iff.mp k.isLt, Nat.mul_one, Nat.add_zero]

/-- Such an array broadcast over `H` heads. -/
theorem heads_apply {α : Type} (x : (⟨3, ![M, 1, 64]⟩ : Shape).Idx → α)
    (h : (⟨3, ![M, 1, 64]⟩ : Shape).Broadcasts ⟨3, ![M, H, 64]⟩) (r : Fin M) (k : Fin H) (j : Fin 64) :
    broadcastTo ⟨3, ![M, H, 64]⟩ x h (ix3 r k j) = x (ix3 r 0 j) := by
  refine broadcastTo_apply x h (ix3 r k j) (ix3 r 0 j) fun a => ?_
  match a with
  | ⟨0, _⟩ =>
    show r.val = if M = 1 then 0 else r.val
    split
    · have := r.isLt; omega
    · rfl
  | ⟨1, _⟩ => rfl
  | ⟨2, _⟩ => rfl

/-- The codes of rows quantised each with its own scale, as the reference prints them. -/
theorem codes_vec {N : ℕ} (t : FVec Ideal ⟨2, ![M, N]⟩ .f32) (hr : Shape.Reduces ⟨2, ![M, N]⟩ [1] ⟨1, ![M]⟩)
    (hs : (⟨1, ![M]⟩ : Shape).ShapeCasts ⟨2, ![M, 1]⟩) (hb : (⟨2, ![M, 1]⟩ : Shape).Broadcasts ⟨2, ![M, N]⟩) :
    fptosi (F := Ideal) (φ := .f32) 8 (quantVec t (broadcastTo ⟨2, ![M, N]⟩ (shapeCast ⟨2, ![M, 1]⟩ (scaleVec (amaxVec t hr)) hs) hb))
      = rowCodes t := by
  funext i
  obtain ⟨r, c, rfl⟩ : ∃ r c, i = ix2 r c := ⟨i 0, i 1, eq_ix2 i⟩
  show Ideal.fptosi 8 (quantVec t _ (ix2 r c)) = _
  rw [quantVec_apply, broadcastTo_a1_ab_apply, shapeCast_a_a1_apply, scaleVec_apply _ _ (row t r) (amaxVec_apply t hr r)]
  rfl

/-- The rows' scales in 32 blocks of 256, as the reference prints them. -/
theorem scales_vec (t : FVec Ideal ⟨2, ![8192, 128]⟩ .f32) (hr : Shape.Reduces ⟨2, ![8192, 128]⟩ [1] ⟨1, ![8192]⟩)
    (hs : (⟨1, ![8192]⟩ : Shape).ShapeCasts ⟨3, ![32, 1, 256]⟩) :
    shapeCast ⟨3, ![32, 1, 256]⟩ (scaleVec (amaxVec t hr)) hs = allScales t := by
  funext i
  have h0 : (i 0).val < 32 := (i 0).isLt
  have h1 : (i 1).val < 1 := (i 1).isLt
  have h2 : (i 2).val < 256 := (i 2).isLt
  refine (shapeCast_apply _ hs i (ix1 (⟨(i 0).val * 256 + (i 2).val, by omega⟩ : Fin 8192)) ?_).trans
    (scaleVec_apply _ _ _ (amaxVec_apply t hr _))
  rw [Shape.rowMajor_val_three, Shape.rowMajor_val_one]
  show (i 0).val * 256 + (i 2).val = ((i 0).val * 1 + (i 1).val) * 256 + (i 2).val
  omega

end Forms

/-! ## The reference's values -/

section Values

variable (h : Vec Ideal S8192x3072 .i8) (sc : Vec Ideal S1x1 .f32) (w : Vec Ideal S3072x1792 .i8) (s : Vec Ideal S1x1792 .f32)
  (bias : Vec Ideal S1x1792 .i32) (cs sn : Vec Ideal S8192x64 .f32)

/-- The layer over int8 codes `h`. -/
abbrev L : Mat EReal 8192 1792 := linReal (fun i => code (h i)) w bias s (sc (ix2 0 0))

/-- The reference's int8 layer. -/
theorem lin_vec : k0_pay4 (F := Ideal) h sc w s bias = L h sc w s bias := by
  have hv : k0_pay4 (F := Ideal) h sc w s bias = layerVec dot_S8192x3072_S3072x1792_S8192x1792_1_0_0_1_n_n (sitofp .bf16 h) w bias
      (mulf (F := Ideal) (φ := .f32) (broadcastTo S1x1792 sc broadcasts_S1x1_S1x1792) s) broadcasts_S1x1792_S8192x1792 := rfl
  funext i
  obtain ⟨r, c, rfl⟩ : ∃ r c, i = ix2 r c := ⟨i 0, i 1, eq_ix2 i⟩
  have h2 := broadcastTo_11_apply sc broadcasts_S1x1_S1x1792 0 c
  rw [hv]
  refine (layer_apply _ rfl _ _ _ _ _ r c).trans ?_
  show _ * (broadcastTo S1x1792 sc broadcasts_S1x1_S1x1792 (ix2 0 c) * _) = _
  rw [h2]
  rfl

/-- The reference's queries. -/
theorem queries_vec : k0_pay5 (F := Ideal) h sc w s bias cs sn = queries (L h sc w s bias) cs sn := by
  have hv : k0_pay5 (F := Ideal) h sc w s bias cs sn = shapeCast S8192x1536 (rotVec
      (extractStridedSlice S8192x12x64 ![0, 0, 0] (shapeCast S8192x12x128 (extractStridedSlice S8192x1536 ![0, 0]
        (k0_pay4 (F := Ideal) h sc w s bias) slices_S8192x1792_o0_0_S8192x1536) shapeCasts_S8192x1536_S8192x12x128)
        slices_S8192x12x128_o0_0_0_S8192x12x64)
      (extractStridedSlice S8192x12x64 ![0, 0, 64] (shapeCast S8192x12x128 (extractStridedSlice S8192x1536 ![0, 0]
        (k0_pay4 (F := Ideal) h sc w s bias) slices_S8192x1792_o0_0_S8192x1536) shapeCasts_S8192x1536_S8192x12x128)
        slices_S8192x12x128_o0_0_64_S8192x12x64)
      (broadcastTo S8192x12x64 (shapeCast S8192x1x64 cs shapeCasts_S8192x64_S8192x1x64) broadcasts_S8192x1x64_S8192x12x64)
      (broadcastTo S8192x12x64 (shapeCast S8192x1x64 sn shapeCasts_S8192x64_S8192x1x64) broadcasts_S8192x1x64_S8192x12x64)
      concatenates_S8192x12x64_S8192x12x64_S8192x12x128_d2) shapeCasts_S8192x12x128_S8192x1536 := rfl
  funext i
  obtain ⟨r, c, rfl⟩ : ∃ r c, i = ix2 r c := ⟨i 0, i 1, eq_ix2 i⟩
  rw [hv, lin_vec]
  have hc := c.isLt
  refine (shapeCast_apply _ _ (ix2 r c) (ix3 r (⟨c.val / 128, by omega⟩ : Fin 12) (⟨c.val % 128, by omega⟩ : Fin 128)) ?_).trans ?_
  · rw [Shape.rowMajor_val_three, Shape.rowMajor_val_two]
    show (r.val * 12 + c.val / 128) * 128 + c.val % 128 = r.val * 1536 + c.val
    omega
  refine rotVec_apply _ _ _ _ _ _ r _ _ (head (L h sc w s bias) r (c.val / 128) (by omega)) (row cs r) (row sn r) ?_
    (fun j => (heads_apply _ _ r _ j).trans (middle_apply cs _ r 0 j)) (fun j => (heads_apply _ _ r _ j).trans (middle_apply sn _ r 0 j))
  intro j
  have hj := j.isLt
  refine (shapeCast_apply _ _ (ix3 r (⟨c.val / 128, by omega⟩ : Fin 12) j)
    (ix2 r (⟨128 * (c.val / 128) + j.val, by omega⟩ : Fin 1536)) ?_).trans ?_
  · rw [Shape.rowMajor_val_three, Shape.rowMajor_val_two]
    show r.val * 1536 + (128 * (c.val / 128) + j.val) = (r.val * 12 + c.val / 128) * 128 + j.val
    omega
  exact extractStridedSlice_apply ![0, 0] _ _ _ (ix2 r (⟨128 * (c.val / 128) + j.val, by omega⟩ : Fin 1792)) fun a => by
    match a with
    | ⟨0, _⟩ => exact (Nat.zero_add _).symm
    | ⟨1, _⟩ => exact (Nat.zero_add _).symm

/-- The reference's keys. -/
theorem keys_vec : k0_pay13 (F := Ideal) (k0_pay7 h sc w s bias) (k0_pay8 h sc w s bias) (k0_pay9 cs) (k0_pay10 sn)
    (k0_pay11 h sc w s bias cs) (k0_pay12 h sc w s bias sn) = keys (L h sc w s bias) cs sn := by
  have hv : k0_pay13 (F := Ideal) (k0_pay7 h sc w s bias) (k0_pay8 h sc w s bias) (k0_pay9 cs) (k0_pay10 sn)
      (k0_pay11 h sc w s bias cs) (k0_pay12 h sc w s bias sn) = shapeCast S8192x128 (rotVec
      (extractStridedSlice S8192x1x64 ![0, 0, 0] (shapeCast S8192x1x128 (extractStridedSlice S8192x128 ![0, 1536]
        (k0_pay4 (F := Ideal) h sc w s bias) slices_S8192x1792_o0_1536_S8192x128) shapeCasts_S8192x128_S8192x1x128)
        slices_S8192x1x128_o0_0_0_S8192x1x64)
      (extractStridedSlice S8192x1x64 ![0, 0, 64] (shapeCast S8192x1x128 (extractStridedSlice S8192x128 ![0, 1536]
        (k0_pay4 (F := Ideal) h sc w s bias) slices_S8192x1792_o0_1536_S8192x128) shapeCasts_S8192x128_S8192x1x128)
        slices_S8192x1x128_o0_0_64_S8192x1x64)
      (shapeCast S8192x1x64 cs shapeCasts_S8192x64_S8192x1x64) (shapeCast S8192x1x64 sn shapeCasts_S8192x64_S8192x1x64)
      concatenates_S8192x1x64_S8192x1x64_S8192x1x128_d2) shapeCasts_S8192x1x128_S8192x128 := rfl
  funext i
  obtain ⟨r, c, rfl⟩ : ∃ r c, i = ix2 r c := ⟨i 0, i 1, eq_ix2 i⟩
  rw [hv, lin_vec]
  refine (shapeCast_apply _ _ (ix2 r c) (ix3 r (0 : Fin 1) c) ?_).trans ?_
  · rw [Shape.rowMajor_val_three, Shape.rowMajor_val_two]
    show (r.val * 1 + 0) * 128 + c.val = r.val * 128 + c.val
    omega
  refine rotVec_apply _ _ _ _ _ _ r _ _ (head (L h sc w s bias) r 12 (by norm_num)) (row cs r) (row sn r) ?_
    (fun j => middle_apply cs _ r 0 j) (fun j => middle_apply sn _ r 0 j)
  intro j
  refine (middle_apply _ _ r 0 j).trans ?_
  exact extractStridedSlice_apply ![0, 1536] _ _ _ (ix2 r (⟨128 * 12 + j.val, by omega⟩ : Fin 1792)) fun a => by
    match a with
    | ⟨0, _⟩ => exact (Nat.zero_add _).symm
    | ⟨1, _⟩ => rfl

/-- The reference's values. -/
theorem values_vec (y : FVec Ideal S8192x1792 .f32) : k0_pay17 (F := Ideal) y = values y := by
  have hv : k0_pay17 (F := Ideal) y = extractStridedSlice S8192x128 ![0, 1664] y slices_S8192x1792_o0_1664_S8192x128 := rfl
  funext i
  obtain ⟨r, c, rfl⟩ : ∃ r c, i = ix2 r c := ⟨i 0, i 1, eq_ix2 i⟩
  rw [hv]
  exact extractStridedSlice_apply ![0, 1664] _ _ _ (ix2 r (⟨128 * 13 + c.val, by omega⟩ : Fin 1792)) fun a => by
    match a with
    | ⟨0, _⟩ => exact (Nat.zero_add _).symm
    | ⟨1, _⟩ => rfl

end Values

/-! ## The results -/

section Results

variable (a0 : Vec Ideal S8192x3072 .bf16) (a1 : Vec Ideal S1x1 .f32) (a2 a3 : Vec Ideal S8192x64 .f32)
  (a4 a5 : Vec Ideal S1x3072 .f32) (a6 : Vec Ideal S3072x1792 .i8) (a7 : Vec Ideal S1x1792 .f32) (a8 : Vec Ideal S1x1792 .i32)

/-- The layer over the arguments. -/
abbrev Lin : Mat EReal 8192 1792 := linReal (normReal a0 a4 a5 (a1 (ix2 0 0))) a6 a8 a7 (a1 (ix2 0 0))

/-- The reference's codes of the layer norm. -/
theorem norm_eq : Value.G9 (F := Ideal) a0 a1 a2 a3 a4 a5 a6 a7 a8 = normCodes a0 a4 a5 (a1 (ix2 0 0)) := by
  have hv : Value.G9 (F := Ideal) a0 a1 a2 a3 a4 a5 a6 a7 a8
      = fptosi 8 (quantVec (normVec (extf .f32 a0 bitsLt_bf16_f32) a4 a5 reduces_S8192x3072_S8192 shapeCasts_S8192_S8192x1
        broadcasts_S8192x1_S8192x3072 broadcasts_S1x3072_S8192x3072) (broadcastTo S8192x3072 a1 broadcasts_S1x1_S8192x3072)) := rfl
  funext i
  obtain ⟨r, c, rfl⟩ : ∃ r c, i = ix2 r c := ⟨i 0, i 1, eq_ix2 i⟩
  have h1 := broadcastTo_11_apply a1 broadcasts_S1x1_S8192x3072 r c
  rw [hv]
  show Ideal.fptosi 8 (quantVec _ _ (ix2 r c)) = _
  rw [quantVec_apply, normVec_apply]
  exact congrArg (fun d => Ideal.fptosi 8 (quant _ d)) h1

/-- The codes as the later values read them. -/
theorem codes_eq : k0_pay20 (F := Ideal) a0 a1 a2 a3 a4 a5 a6 a7 a8 = normCodes a0 a4 a5 (a1 (ix2 0 0)) := by
  refine Eq.trans ?_ (norm_eq a0 a1 a2 a3 a4 a5 a6 a7 a8)
  unfold k0_pay20 Value.G9
  rw [View.ld_unit_zero (S := S8192x3072) Value.hz0 _ a0, View.ld_unit_zero (S := S1x3072) Value.hz0 _ a4,
    View.ld_unit_zero (S := S1x3072) Value.hz0 _ a5, View.ld_unit_zero (S := S1x1) Value.hz0 _ a1]

/-- The layer over those codes. -/
theorem L_eq : L (normCodes a0 a4 a5 (a1 (ix2 0 0))) a1 a6 a7 a8 = Lin a0 a1 a4 a5 a6 a7 a8 := by
  unfold L Lin
  rw [code_normCodes]

/-- The reference's layer. -/
theorem lin_eq : k0_pay21 (F := Ideal) a0 a1 a2 a3 a4 a5 a6 a7 a8 = Lin a0 a1 a4 a5 a6 a7 a8 := by
  unfold k0_pay21
  rw [View.ld_unit_zero (S := S1x1) Value.hz0 _ a1, View.ld_unit_zero (S := S3072x1792) Value.hz0 _ a6,
    View.ld_unit_zero (S := S1x1792) Value.hz0 _ a7, View.ld_unit_zero (S := S1x1792) Value.hz0 _ a8, codes_eq, lin_vec, L_eq]

/-- The reference's queries. -/
theorem queries_eq : Value.G10 (F := Ideal) a0 a1 a2 a3 a4 a5 a6 a7 a8 = queries (Lin a0 a1 a4 a5 a6 a7 a8) a2 a3 := by
  unfold Value.G10
  rw [codes_eq, queries_vec, L_eq]

/-- The reference's keys. -/
theorem keys_eq : k0_pay13 (F := Ideal) (k0_pay22 a0 a1 a2 a3 a4 a5 a6 a7 a8) (k0_pay23 a0 a1 a2 a3 a4 a5 a6 a7 a8)
    (k0_pay24 a0 a1 a2 a3 a4 a5 a6 a7 a8) (k0_pay25 a0 a1 a2 a3 a4 a5 a6 a7 a8) (k0_pay26 a0 a1 a2 a3 a4 a5 a6 a7 a8)
    (k0_pay27 a0 a1 a2 a3 a4 a5 a6 a7 a8) = keys (Lin a0 a1 a4 a5 a6 a7 a8) a2 a3 := by
  unfold k0_pay22 k0_pay23 k0_pay24 k0_pay25 k0_pay26 k0_pay27
  rw [View.ld_unit_zero (S := S1x1) Value.hz0 _ a1, View.ld_unit_zero (S := S3072x1792) Value.hz0 _ a6,
    View.ld_unit_zero (S := S1x1792) Value.hz0 _ a7, View.ld_unit_zero (S := S1x1792) Value.hz0 _ a8,
    View.ld_unit_zero (S := S8192x64) Value.hz0 _ a2, View.ld_unit_zero (S := S8192x64) Value.hz0 _ a3, codes_eq, keys_vec, L_eq]

/-- The reference's codes of the keys. -/
theorem keyCodes_eq : Value.G11 (F := Ideal) a0 a1 a2 a3 a4 a5 a6 a7 a8 = rowCodes (keys (Lin a0 a1 a4 a5 a6 a7 a8) a2 a3) :=
  (codes_vec _ reduces_S8192x128_S8192 shapeCasts_S8192_S8192x1 broadcasts_S8192x1_S8192x128).trans
    (congrArg rowCodes (keys_eq a0 a1 a2 a3 a4 a5 a6 a7 a8))

/-- The reference's scales of the keys. -/
theorem keyScales_eq : Value.G12 (F := Ideal) a0 a1 a2 a3 a4 a5 a6 a7 a8 = allScales (keys (Lin a0 a1 a4 a5 a6 a7 a8) a2 a3) :=
  (scales_vec _ reduces_S8192x128_S8192 shapeCasts_S8192_S32x1x256).trans (congrArg allScales (keys_eq a0 a1 a2 a3 a4 a5 a6 a7 a8))

/-- The reference's codes of the values. -/
theorem valueCodes_eq : Value.G13 (F := Ideal) a0 a1 a2 a3 a4 a5 a6 a7 a8 = rowCodes (values (Lin a0 a1 a4 a5 a6 a7 a8)) :=
  (codes_vec _ reduces_S8192x128_S8192 shapeCasts_S8192_S8192x1 broadcasts_S8192x1_S8192x128).trans
    (congrArg rowCodes ((values_vec _).trans (congrArg values (lin_eq a0 a1 a2 a3 a4 a5 a6 a7 a8))))

/-- The reference's scales of the values. -/
theorem valueScales_eq : Value.G14 (F := Ideal) a0 a1 a2 a3 a4 a5 a6 a7 a8 = allScales (values (Lin a0 a1 a4 a5 a6 a7 a8)) :=
  (scales_vec _ reduces_S8192x128_S8192 shapeCasts_S8192_S32x1x256).trans
    (congrArg allScales ((values_vec _).trans (congrArg values (lin_eq a0 a1 a2 a3 a4 a5 a6 a7 a8))))

end Results

end Cert.QkvRefIdeal.Reference

end
-- ==== Proof.Qkv.Value.lean ====
/-
   The kernel `_qkv` over any float layer, in the form in which the generated modules are written:
   what the arrays of the two outputs hold at the end, read off the proof data.
-/
module

public import proofs.«01_k».proof.Proof.Qkv.Frame
public import Idealize.ShloMosaic.Lib.Pipeline.Value

@[expose] public section

noncomputable section

namespace Cert.QkvIdeal.Value

open Cert.QkvIdeal Cert.QkvIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t.val t.isLt).1) := by
  show (cfg0.win 9).cut (grid0.coords t) ((dats m 0 c).after 9 t) = _
  rw [after0_9]

/-- An index that no flushing point's block covers keeps output window 9's array contents at region entry. -/
theorem entry9 (c : Dev nD) (i : S8192x3072.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 1), read through the window's block. -/
theorem flushed10 (c : Dev nD) (t : Fin cfg0.N) :
    (dats m 0 c).flushed 10 t = (cfg0.win 10).cut (grid0.coords t) ((outsAt0 m c t.val t.isLt).2.1) := by
  show (cfg0.win 10).cut (grid0.coords t) ((dats m 0 c).after 10 t) = _
  rw [after0_10]

/-- An index that no flushing point's block covers keeps output window 10's array contents at region entry. -/
theorem entry10 (c : Dev nD) (i : S8192x1536.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 2), read through the window's block. -/
theorem flushed11 (c : Dev nD) (t : Fin cfg0.N) :
    (dats m 0 c).flushed 11 t = (cfg0.win 11).cut (grid0.coords t) ((outsAt0 m c t.val t.isLt).2.2.1) := by
  show (cfg0.win 11).cut (grid0.coords t) ((dats m 0 c).after 11 t) = _
  rw [after0_11]

/-- An index that no flushing point's block covers keeps output window 11's array contents at region entry. -/
theorem entry11 (c : Dev nD) (i : S8192x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 3), read through the window's block. -/
theorem flushed12 (c : Dev nD) (t : Fin cfg0.N) :
    (dats m 0 c).flushed 12 t = (cfg0.win 12).cut (grid0.coords t) ((outsAt0 m c t.val t.isLt).2.2.2.1) := by
  show (cfg0.win 12).cut (grid0.coords t) ((dats m 0 c).after 12 t) = _
  rw [after0_12]

/-- An index that no flushing point's block covers keeps output window 12's array contents at region entry. -/
theorem entry12 (c : Dev nD) (i : S32x1x256.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 4), read through the window's block. -/
theorem flushed13 (c : Dev nD) (t : Fin cfg0.N) :
    (dats m 0 c).flushed 13 t = (cfg0.win 13).cut (grid0.coords t) ((outsAt0 m c t.val t.isLt).2.2.2.2.1) := by
  show (cfg0.win 13).cut (grid0.coords t) ((dats m 0 c).after 13 t) = _
  rw [after0_13]

/-- An index that no flushing point's block covers keeps output window 13's array contents at region entry. -/
theorem entry13 (c : Dev nD) (i : S8192x128.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 5), read through the window's block. -/
theorem flushed14 (c : Dev nD) (t : Fin cfg0.N) :
    (dats m 0 c).flushed 14 t = (cfg0.win 14).cut (grid0.coords t) ((outsAt0 m c t.val t.isLt).2.2.2.2.2.1) := by
  show (cfg0.win 14).cut (grid0.coords t) ((dats m 0 c).after 14 t) = _
  rw [after0_14]

/-- An index that no flushing point's block covers keeps output window 14's array contents at region entry. -/
theorem entry14 (c : Dev nD) (i : S32x1x256.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_5) = (dats m 0 c).arrAt 14 cfg0.N :=
  (h c).1 14

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_v0_2) = (dats m 0 c).arrAt 11 cfg0.N
      ∧ r.2.mem ((c : Thread nD τ).loc main_v0_3) = (dats m 0 c).arrAt 12 cfg0.N
      ∧ r.2.mem ((c : Thread nD τ).loc main_v0_4) = (dats m 0 c).arrAt 13 cfg0.N
      ∧ r.2.mem ((c : Thread nD τ).loc main_v0_5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.QkvIdeal.Value

end
-- ==== Proof.QkvBlock.lean ====
/- What the attention inputs' body leaves at one grid point. Its first half writes, in 8 stores of 32 rows, the layer norm's
   codes of the point's rows, into the result window and into one of two scratch buffers; its second half multiplies what the OTHER
   scratch buffer holds from the point before with the weights, and writes the rotated queries in 6 stores of 256 columns, the
   rotated keys and the values each as int8 codes and row scales. Case A (the first point) has the first half only, case D (the
   last) the second only, cases B and C take the two buffers in turn. -/
module

public import proofs.«01_k».proof.Proof.Qkv.Value
public import proofs.«01_k».proof.Proof.Rotary
public import Idealize.ShloMosaic.Lib.Pointwise.TacticCore

@[expose] public section

set_option maxRecDepth 16384

noncomputable section

namespace Cert.QkvIdeal.Block

open Cert.QkvIdeal Cert.QkvIdeal.Gen Cert.W8A8 Idealize.ShloMosaic Idealize.ShloMosaic.TcCoe Idealize.ShloMosaic.Tactic

/-- A load of the whole of a matrix reads the matrix. -/
theorem whole_ld {e : EltTy} {M N : ℕ} (X : (⟨2, ![M, N]⟩ : Shape).Idx → Elt Ideal e)
    (inb : ∀ a, (![0, 0] : Fin 2 → ℕ) a + (![M, N] : Fin 2 → ℕ) a ≤ (⟨2, ![M, N]⟩ : Shape).size a) :
    View.ld (Val := Elt Ideal) (e' := e) X (Rect.unit (s := ⟨2, ![M, N]⟩) ![0, 0] ![M, N] inb) = X :=
  View.ld_unit_zero (S := ⟨2, ![M, N]⟩) (funext fun a => by match a with | ⟨0, _⟩ => rfl | ⟨1, _⟩ => rfl) inb X

section Pieces

variable (X : Vec Ideal S256x3072 .bf16) (sc : EReal) (cs sn : Vec Ideal S256x64 .f32)
  (w : Vec Ideal S3072x1792 .i8) (s : Vec Ideal S1x1792 .f32) (bias : Vec Ideal S1x1792 .i32) (o : ℕ)
  (inX : ∀ a, (![0, 0] : Fin 2 → ℕ) a + (![256, 3072] : Fin 2 → ℕ) a ≤ S256x3072.size a)
  (inc ins : ∀ a, (![0, 0] : Fin 2 → ℕ) a + (![256, 64] : Fin 2 → ℕ) a ≤ S256x64.size a)
  (inw : ∀ a, (![0, o] : Fin 2 → ℕ) a + (![3072, 256] : Fin 2 → ℕ) a ≤ S3072x1792.size a)
  (inb inv : ∀ a, (![0, o] : Fin 2 → ℕ) a + (![1, 256] : Fin 2 → ℕ) a ≤ S1x1792.size a)

/-- 256 columns of the int8 layer, from column `o` on, as the kernel prints them. -/
def colsVec : FVec Ideal S256x256 .f32 :=
  layerVec dot_S256x3072_S3072x256_S256x256_1_0_0_1_n_n
    (View.ld (Val := Elt Ideal) (e' := .bf16) X (Rect.unit (s := S256x3072) ![0, 0] ![256, 3072] inX))
    (View.ld (Val := Elt Ideal) (e' := .i8) w (Rect.unit (s := S3072x1792) ![0, o] ![3072, 256] inw))
    (View.ld (Val := Elt Ideal) (e' := .i32) bias (Rect.unit (s := S1x1792) ![0, o] ![1, 256] inb))
    (mulf (F := Ideal) (φ := .f32) (broadcast S1x256 sc)
      (View.ld (Val := Elt Ideal) (e' := .f32) s (Rect.unit (s := S1x1792) ![0, o] ![1, 256] inv))) broadcasts_S1x256_S256x256

/-- A half of those columns is a head of the whole layer. -/
theorem cols_head (p : ℕ) (hs : S256x256.Slices ![0, p] S256x128) (hp : p + 128 ≤ 256) (k : ℕ) (hk : k < 14)
    (e : o + p = 128 * k) (r : Fin 256) :
    row (extractStridedSlice S256x128 ![0, p] (colsVec X sc w s bias o inX inw inb inv) hs) r
      = head (linReal X w bias s sc) r k hk := by
  funext j
  refine (extractStridedSlice_apply ![0, p] _ hs (ValueIdx.ix2 r j) (ValueIdx.ix2 r (⟨p + j.val, by omega⟩ : Fin 256)) fun a => by
    match a with
    | ⟨0, _⟩ => exact (Nat.zero_add _).symm
    | ⟨1, _⟩ => rfl).trans ?_
  unfold colsVec
  rw [whole_ld (e := .bf16) X inX]
  exact layer_piece dot_S256x3072_S3072x256_S256x256_1_0_0_1_n_n rfl X w bias s sc o inw inb inv _ r ⟨p + j.val, by omega⟩
    ⟨128 * k + j.val, by omega⟩ (by show 128 * k + j.val = o + (p + j.val); omega)

/-- A rotated half of those columns, at an index. -/
theorem cols_rot (p : ℕ) (hs : S256x256.Slices ![0, p] S256x128) (hp : p + 128 ≤ 256) (k : ℕ) (hk : k < 14)
    (e : o + p = 128 * k) (r : Fin 256) (j : Fin 128) :
    rotVec (extractStridedSlice S256x128 ![0, p] (colsVec X sc w s bias o inX inw inb inv) hs)
      (View.ld (Val := Elt Ideal) (e' := .f32) cs (Rect.unit (s := S256x64) ![0, 0] ![256, 64] inc))
      (View.ld (Val := Elt Ideal) (e' := .f32) sn (Rect.unit (s := S256x64) ![0, 0] ![256, 64] ins))
      concatenates_S256x64_S256x64_S256x128_d1 rotates_S256x128_d1 (ValueIdx.ix2 r j)
      = rotHead (head (linReal X w bias s sc) r k hk) (row cs r) (row sn r) j := by
  rw [whole_ld (e := .f32) cs inc, whole_ld (e := .f32) sn ins, rotVec_apply, cols_head X sc w s bias o inX inw inb inv p hs hp k hk e r]

/-- 256 columns of the queries, from column `o` on, as the kernel prints them. -/
theorem queries_piece (n : ℕ) (hn : n < 6) (e : o = 256 * n)
    (ino : ∀ a, (![0, o] : Fin 2 → ℕ) a + (![256, 256] : Fin 2 → ℕ) a ≤ S256x1536.size a) (y : S256x256.Idx) :
    (truncf (F := Ideal) .bf16 (concatenate S256x256 1 [⟨S256x128, rotVec
          (extractStridedSlice S256x128 ![0, 0] (colsVec X sc w s bias o inX inw inb inv) slices_S256x256_o0_0_S256x128)
          (View.ld (Val := Elt Ideal) (e' := .f32) cs (Rect.unit (s := S256x64) ![0, 0] ![256, 64] inc))
          (View.ld (Val := Elt Ideal) (e' := .f32) sn (Rect.unit (s := S256x64) ![0, 0] ![256, 64] ins))
          concatenates_S256x64_S256x64_S256x128_d1 rotates_S256x128_d1⟩, ⟨S256x128, rotVec
          (extractStridedSlice S256x128 ![0, 128] (colsVec X sc w s bias o inX inw inb inv) slices_S256x256_o0_128_S256x128)
          (View.ld (Val := Elt Ideal) (e' := .f32) cs (Rect.unit (s := S256x64) ![0, 0] ![256, 64] inc))
          (View.ld (Val := Elt Ideal) (e' := .f32) sn (Rect.unit (s := S256x64) ![0, 0] ![256, 64] ins))
          concatenates_S256x64_S256x64_S256x128_d1 rotates_S256x128_d1⟩] concatenates_S256x128_S256x128_S256x256_d1)
        bitsLt_bf16_f32 : FVec Ideal S256x256 .bf16) y
      = queries (linReal X w bias s sc) cs sn ((Rect.unit (s := S256x1536) ![0, o] ![256, 256] ino).emb y) := by
  obtain ⟨r, c, rfl⟩ : ∃ r c, y = ValueIdx.ix2 r c := ⟨y 0, y 1, ValueIdx.eq_ix2 y⟩
  have hC : o + c.val < 1536 := by omega
  rw [emb_ix2 0 o ino r c r ⟨o + c.val, hC⟩ (by simp) rfl]
  by_cases hc : c.val < 128
  · refine (beside_left _ _ concatenates_S256x128_S256x128_S256x256_d1 r c hc).trans ?_
    rw [cols_rot X sc cs sn w s bias o inX inc ins inw inb inv 0 _ (by norm_num) (2 * n) (by omega) (by omega) r ⟨c.val, hc⟩,
      queries_at _ cs sn r ⟨o + c.val, hC⟩ (2 * n) (by omega) ⟨c.val, hc⟩ (by show o + c.val = 128 * (2 * n) + c.val; omega)]
  · refine (beside_right _ _ concatenates_S256x128_S256x128_S256x256_d1 r c (by omega) (by omega)).trans ?_
    rw [cols_rot X sc cs sn w s bias o inX inc ins inw inb inv 128 _ (by norm_num) (2 * n + 1) (by omega) (by omega) r
        ⟨c.val - 128, by omega⟩,
      queries_at _ cs sn r ⟨o + c.val, hC⟩ (2 * n + 1) (by omega) ⟨c.val - 128, by omega⟩
        (by show o + c.val = 128 * (2 * n + 1) + (c.val - 128); omega)]

/-- The rotated keys, as the kernel prints them. -/
theorem keys_vec (e : o = 1536) :
    rotVec (extractStridedSlice S256x128 ![0, 0] (colsVec X sc w s bias o inX inw inb inv) slices_S256x256_o0_0_S256x128)
      (View.ld (Val := Elt Ideal) (e' := .f32) cs (Rect.unit (s := S256x64) ![0, 0] ![256, 64] inc))
      (View.ld (Val := Elt Ideal) (e' := .f32) sn (Rect.unit (s := S256x64) ![0, 0] ![256, 64] ins))
      concatenates_S256x64_S256x64_S256x128_d1 rotates_S256x128_d1 = keys (linReal X w bias s sc) cs sn := by
  funext y
  obtain ⟨r, c, rfl⟩ : ∃ r c, y = ValueIdx.ix2 r c := ⟨y 0, y 1, ValueIdx.eq_ix2 y⟩
  exact cols_rot X sc cs sn w s bias o inX inc ins inw inb inv 0 _ (by norm_num) 12 (by norm_num) (by omega) r c

/-- The values, as the kernel prints them. -/
theorem values_vec (e : o = 1536) :
    extractStridedSlice S256x128 ![0, 128] (colsVec X sc w s bias o inX inw inb inv) slices_S256x256_o0_128_S256x128
      = values (linReal X w bias s sc) := by
  funext y
  obtain ⟨r, c, rfl⟩ : ∃ r c, y = ValueIdx.ix2 r c := ⟨y 0, y 1, ValueIdx.eq_ix2 y⟩
  exact congrFun (cols_head X sc w s bias o inX inw inb inv 128 _ (by norm_num) 13 (by norm_num) (by omega) r) c

end Pieces

/-- Codes of rows each with its own scale, stored as a whole block. -/
theorem codes_store (t : FVec Ideal S256x128 .f32) (T : Mat EReal 256 128) (h : t = T)
    (ino : ∀ a, (![0, 0] : Fin 2 → ℕ) a + (![256, 128] : Fin 2 → ℕ) a ≤ S256x128.size a) (y : S256x128.Idx) :
    (fptosi (F := Ideal) (φ := .f32) 8 (quantVec t (broadcastTo S256x128
        (scaleCol t reduces_S256x128_S256 shapeCasts_S256_S256x1) broadcasts_S256x1_S256x128)) : IVec S256x128 8) y
      = rowCodes T ((Rect.unit (s := S256x128) ![0, 0] ![256, 128] ino).emb y) := by
  obtain ⟨r, c, rfl⟩ : ∃ r c, y = ValueIdx.ix2 r c := ⟨y 0, y 1, ValueIdx.eq_ix2 y⟩
  subst h
  rw [emb_ix2 0 0 ino r c r c (by simp) (by simp), rowCodes_vec]

/-- Their scales, stored as a whole block. -/
theorem scales_store (t : FVec Ideal S256x128 .f32) (T : Mat EReal 256 128) (h : t = T)
    (ino : ∀ a, (![0, 0, 0] : Fin 3 → ℕ) a + S1x1x256.size a ≤ S1x1x256.size a) (y : S1x1x256.Idx) :
    (shapeCast S1x1x256 (extractStridedSlice S1x256 ![0, 0] (transpose S128x256 [1, 0] (broadcastTo S256x128
        (shapeCast S256x1 (scaleCol t reduces_S256x128_S256 shapeCasts_S256_S256x1) shapeCasts_S256x1_S256x1)
        broadcasts_S256x1_S256x128) transposes_S256x128_p1_0_S128x256) slices_S128x256_o0_0_S1x256)
        shapeCasts_S1x256_S1x1x256 : FVec Ideal S1x1x256 .f32) y
      = blockScales T ((Rect.unit (s := S1x1x256) ![0, 0, 0] S1x1x256.size ino).emb y) := by
  have hy : (Rect.unit (s := S1x1x256) ![0, 0, 0] S1x1x256.size ino).emb y = y := funext fun a => Fin.ext (by
    rw [show (Rect.unit (s := S1x1x256) ![0, 0, 0] S1x1x256.size ino).emb y = (Rect.unit (s := S1x1x256) ![0, 0, 0] S1x1x256.size ino).idx y from rfl,
      Rect.idx_unit_val]
    match a with
    | ⟨0, _⟩ => exact Nat.zero_add _
    | ⟨1, _⟩ => exact Nat.zero_add _
    | ⟨2, _⟩ => exact Nat.zero_add _)
  obtain ⟨r, rfl⟩ : ∃ r : Fin 256, y = ValueIdx.ix3 (0 : Fin 1) (0 : Fin 1) r :=
    ⟨y 2, funext fun a => Fin.ext (by
      match a with
      | ⟨0, _⟩ => exact Nat.lt_one_iff.mp (y 0).isLt
      | ⟨1, _⟩ => exact Nat.lt_one_iff.mp (y 1).isLt
      | ⟨2, _⟩ => rfl)⟩
  subst h
  rw [hy]
  exact (scaleRow_apply _ _ _ _ _ _ r).trans (scaleCol_apply t _ _ r)

variable (c : Dev nD) (i : grid0.Coords)
  (a1 : Memref sig .tc .vmem S256x3072 .bf16) (w1 : a1.IsWhole)
  (a2 : Memref sig .tc .smem S1x1 .f32) (w2 : a2.IsWhole)
  (a3 : Memref sig .tc .vmem S256x64 .f32) (w3 : a3.IsWhole)
  (a4 : Memref sig .tc .vmem S256x64 .f32) (w4 : a4.IsWhole)
  (a5 : Memref sig .tc .vmem S1x3072 .f32) (w5 : a5.IsWhole)
  (a6 : Memref sig .tc .vmem S1x3072 .f32) (w6 : a6.IsWhole)
  (a7 : Memref sig .tc .vmem S3072x1792 .i8) (w7 : a7.IsWhole)
  (a8 : Memref sig .tc .vmem S1x1792 .f32) (w8 : a8.IsWhole)
  (a9 : Memref sig .tc .vmem S1x1792 .i32) (w9 : a9.IsWhole)
  (a10 : Memref sig .tc .vmem S256x3072 .i8) (w10 : a10.IsWhole)
  (a11 : Memref sig .tc .vmem S256x1536 .bf16) (w11 : a11.IsWhole)
  (a12 : Memref sig .tc .vmem S256x128 .i8) (w12 : a12.IsWhole)
  (a13 : Memref sig .tc .vmem S1x1x256 .f32) (w13 : a13.IsWhole)
  (a14 : Memref sig .tc .vmem S256x128 .i8) (w14 : a14.IsWhole)
  (a15 : Memref sig .tc .vmem S1x1x256 .f32) (w15 : a15.IsWhole)
  (a16 : Memref sig .tc .vmem S256x3072 .bf16) (w16 : a16.IsWhole)
  (a17 : Memref sig .tc .vmem S256x3072 .bf16) (w17 : a17.IsWhole)

variable (x0 : Vec Ideal S256x3072 .bf16) (x1 : Vec Ideal S1x1 .f32) (x2 x3 : Vec Ideal S256x64 .f32) (x4 x5 : Vec Ideal S1x3072 .f32)
  (x6 : Vec Ideal S3072x1792 .i8) (x7 : Vec Ideal S1x1792 .f32) (x8 : Vec Ideal S1x1792 .i32) (xo9 : Vec Ideal S256x3072 .i8)
  (xs0 xs1 : Vec Ideal S256x3072 .bf16)

/-- The first half's block: the layer norm's codes of the point's rows, as real numbers. -/
abbrev normed : Vec Ideal S256x3072 .bf16 := normReal x0 x4 x5 (x1 (ValueIdx.ix2 0 0))

/-- The same codes as int8 words. -/
abbrev codes : Vec Ideal S256x3072 .i8 := normCodes x0 x4 x5 (x1 (ValueIdx.ix2 0 0))

/-- The second half's int8 layer over codes `X`. -/
abbrev lin (X : Vec Ideal S256x3072 .bf16) : Mat EReal 256 1792 := linReal X x6 x8 x7 (x1 (ValueIdx.ix2 0 0))

section CaseA

variable (hc0 : cond0_0 i) (hc1 : ¬cond0_1 i) (hc2 : ¬cond0_2 i) (hc3 : ¬cond0_3 i)

/-- The codes block after the first point. -/
theorem out_A_9 : out0_A_9 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8
    = codes x0 x1 x4 x5 := by
  unfold out0_A_9
  refine read_writes_of_pieces _ _ _ _ (by intro; apply cover0_A_9) ?_
  unfold kernelRun0_A
  dsimp only
  sl_unfold_words
  simp only [View.readAt_eq_ld, w1.read_unread, w2.read_unread, w3.read_unread, w4.read_unread, w5.read_unread, w6.read_unread, w7.read_unread, w8.read_unread, w9.read_unread]
  simp only [first_one x1 _ _ rfl]
  repeat
    refine List.forall_mem_cons.mpr ⟨fun x => ?_, ?_⟩
    · dsimp only
      unfold_payloads
      exact congrArg (Ideal.fptosi 8) (norm_piece x0 x4 x5 (x1 (ValueIdx.ix2 0 0)) _ _ _ _ _ _ _ _ _ x)
  exact fun q hq => absurd hq List.not_mem_nil

/-- Scratch buffer 0 after the first point. -/
theorem sout_A_0 : sout0_A_0 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8
    = normed x0 x1 x4 x5 := by
  unfold sout0_A_0
  refine read_writes_of_pieces _ _ _ _ (by intro; apply scover0_A_0) ?_
  unfold kernelRun0_A
  dsimp only
  sl_unfold_words
  simp only [View.readAt_eq_ld, w1.read_unread, w2.read_unread, w3.read_unread, w4.read_unread, w5.read_unread, w6.read_unread, w7.read_unread, w8.read_unread, w9.read_unread]
  simp only [first_one x1 _ _ rfl]
  repeat
    refine List.forall_mem_cons.mpr ⟨fun x => ?_, ?_⟩
    · dsimp only
      unfold_payloads
      rw [shapeCast_self]
      exact norm_piece x0 x4 x5 (x1 (ValueIdx.ix2 0 0)) _ _ _ _ _ _ _ _ _ x
  exact fun q hq => absurd hq List.not_mem_nil

end CaseA

section CaseB

variable (hc0 : ¬cond0_0 i) (hc1 : cond0_1 i) (hc2 : ¬cond0_2 i) (hc3 : ¬cond0_3 i)

/-- The codes block after an odd point. -/
theorem out_B_9 : out0_B_9 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = codes x0 x1 x4 x5 := by
  unfold out0_B_9
  refine read_writes_of_pieces _ _ _ _ (by intro; apply cover0_B_9) ?_
  unfold kernelRun0_B
  dsimp only
  sl_unfold_words
  simp only [View.readAt_eq_ld, w1.read_unread, w2.read_unread, w3.read_unread, w4.read_unread, w5.read_unread, w6.read_unread, w7.read_unread, w8.read_unread, w9.read_unread]
  simp only [first_one x1 _ _ rfl]
  repeat
    refine List.forall_mem_cons.mpr ⟨fun x => ?_, ?_⟩
    · dsimp only
      unfold_payloads
      exact congrArg (Ideal.fptosi 8) (norm_piece x0 x4 x5 (x1 (ValueIdx.ix2 0 0)) _ _ _ _ _ _ _ _ _ x)
  exact fun q hq => absurd hq List.not_mem_nil

/-- The queries' block after an odd point. -/
theorem out_B_10 : out0_B_10 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = queries (lin x1 x6 x7 x8 xs0) x2 x3 := by
  unfold out0_B_10
  refine read_writes_of_pieces _ _ _ _ (by intro; apply cover0_B_10) ?_
  unfold kernelRun0_B
  dsimp only
  sl_unfold_words
  simp only [View.readAt_eq_ld, w1.read_unread, w2.read_unread, w3.read_unread, w4.read_unread, w5.read_unread, w6.read_unread, w7.read_unread, w8.read_unread, w9.read_unread, w16.read_unread]
  simp only [first_one x1 _ _ rfl]
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
      fun q hq => absurd hq List.not_mem_nil⟩⟩⟩⟩⟩⟩
  · dsimp only
    unfold_payloads
    exact queries_piece xs0 (x1 (ValueIdx.ix2 0 0)) x2 x3 x6 x7 x8 1280 _ _ _ _ _ _ 5 (by norm_num) rfl _ x
  · dsimp only
    unfold_payloads
    exact queries_piece xs0 (x1 (ValueIdx.ix2 0 0)) x2 x3 x6 x7 x8 1024 _ _ _ _ _ _ 4 (by norm_num) rfl _ x
  · dsimp only
    unfold_payloads
    exact queries_piece xs0 (x1 (ValueIdx.ix2 0 0)) x2 x3 x6 x7 x8 768 _ _ _ _ _ _ 3 (by norm_num) rfl _ x
  · dsimp only
    unfold_payloads
    exact queries_piece xs0 (x1 (ValueIdx.ix2 0 0)) x2 x3 x6 x7 x8 512 _ _ _ _ _ _ 2 (by norm_num) rfl _ x
  · dsimp only
    unfold_payloads
    exact queries_piece xs0 (x1 (ValueIdx.ix2 0 0)) x2 x3 x6 x7 x8 256 _ _ _ _ _ _ 1 (by norm_num) rfl _ x
  · dsimp only
    unfold_payloads
    exact queries_piece xs0 (x1 (ValueIdx.ix2 0 0)) x2 x3 x6 x7 x8 0 _ _ _ _ _ _ 0 (by norm_num) rfl _ x

/-- The key codes' block after an odd point. -/
theorem out_B_11 : out0_B_11 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = rowCodes (keys (lin x1 x6 x7 x8 xs0) x2 x3) := by
  unfold out0_B_11
  refine read_writes_of_pieces _ _ _ _ (by intro; apply cover0_B_11) ?_
  unfold kernelRun0_B
  dsimp only
  sl_unfold_words
  simp only [View.readAt_eq_ld, w1.read_unread, w2.read_unread, w3.read_unread, w4.read_unread, w5.read_unread, w6.read_unread, w7.read_unread, w8.read_unread, w9.read_unread, w16.read_unread]
  simp only [first_one x1 _ _ rfl]
  refine List.forall_mem_cons.mpr ⟨fun x => ?_, fun q hq => absurd hq List.not_mem_nil⟩
  dsimp only
  unfold_payloads
  have h := keys_vec xs0 (x1 (ValueIdx.ix2 0 0)) x2 x3 x6 x7 x8 1536 inb_S256x3072_S256x3072_0_0 inb_S256x64_S256x64_0_0
    inb_S256x64_S256x64_0_0 inb_S3072x1792_S3072x256_0_1536 inb_S1x1792_S1x256_0_1536 inb_S1x1792_S1x256_0_1536 rfl
  exact codes_store _ _ h inb_S256x128_S256x128_0_0 x

/-- The key scales' block after an odd point. -/
theorem out_B_12 : out0_B_12 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = blockScales (keys (lin x1 x6 x7 x8 xs0) x2 x3) := by
  unfold out0_B_12
  refine read_writes_of_pieces _ _ _ _ (by intro; apply cover0_B_12) ?_
  unfold kernelRun0_B
  dsimp only
  sl_unfold_words
  simp only [View.readAt_eq_ld, w1.read_unread, w2.read_unread, w3.read_unread, w4.read_unread, w5.read_unread, w6.read_unread, w7.read_unread, w8.read_unread, w9.read_unread, w16.read_unread]
  simp only [first_one x1 _ _ rfl]
  refine List.forall_mem_cons.mpr ⟨fun x => ?_, fun q hq => absurd hq List.not_mem_nil⟩
  dsimp only
  unfold_payloads
  have h := keys_vec xs0 (x1 (ValueIdx.ix2 0 0)) x2 x3 x6 x7 x8 1536 inb_S256x3072_S256x3072_0_0 inb_S256x64_S256x64_0_0
    inb_S256x64_S256x64_0_0 inb_S3072x1792_S3072x256_0_1536 inb_S1x1792_S1x256_0_1536 inb_S1x1792_S1x256_0_1536 rfl
  exact scales_store _ _ h inb_S1x1x256_S1x1x256_0_0_0 x

/-- The value codes' block after an odd point. -/
theorem out_B_13 : out0_B_13 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = rowCodes (values (lin x1 x6 x7 x8 xs0)) := by
  unfold out0_B_13
  refine read_writes_of_pieces _ _ _ _ (by intro; apply cover0_B_13) ?_
  unfold kernelRun0_B
  dsimp only
  sl_unfold_words
  simp only [View.readAt_eq_ld, w1.read_unread, w2.read_unread, w3.read_unread, w4.read_unread, w5.read_unread, w6.read_unread, w7.read_unread, w8.read_unread, w9.read_unread, w16.read_unread]
  simp only [first_one x1 _ _ rfl]
  refine List.forall_mem_cons.mpr ⟨fun x => ?_, fun q hq => absurd hq List.not_mem_nil⟩
  dsimp only
  unfold_payloads
  have h := values_vec xs0 (x1 (ValueIdx.ix2 0 0)) x6 x7 x8 1536 inb_S256x3072_S256x3072_0_0
    inb_S3072x1792_S3072x256_0_1536 inb_S1x1792_S1x256_0_1536 inb_S1x1792_S1x256_0_1536 rfl
  exact codes_store _ _ h inb_S256x128_S256x128_0_0 x

/-- The value scales' block after an odd point. -/
theorem out_B_14 : out0_B_14 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = blockScales (values (lin x1 x6 x7 x8 xs0)) := by
  unfold out0_B_14
  refine read_writes_of_pieces _ _ _ _ (by intro; apply cover0_B_14) ?_
  unfold kernelRun0_B
  dsimp only
  sl_unfold_words
  simp only [View.readAt_eq_ld, w1.read_unread, w2.read_unread, w3.read_unread, w4.read_unread, w5.read_unread, w6.read_unread, w7.read_unread, w8.read_unread, w9.read_unread, w16.read_unread]
  simp only [first_one x1 _ _ rfl]
  refine List.forall_mem_cons.mpr ⟨fun x => ?_, fun q hq => absurd hq List.not_mem_nil⟩
  dsimp only
  unfold_payloads
  have h := values_vec xs0 (x1 (ValueIdx.ix2 0 0)) x6 x7 x8 1536 inb_S256x3072_S256x3072_0_0
    inb_S3072x1792_S3072x256_0_1536 inb_S1x1792_S1x256_0_1536 inb_S1x1792_S1x256_0_1536 rfl
  exact scales_store _ _ h inb_S1x1x256_S1x1x256_0_0_0 x

/-- Scratch buffer 1 after an odd point. -/
theorem sout_B_1 : sout0_B_1 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs0
    = normed x0 x1 x4 x5 := by
  unfold sout0_B_1
  refine read_writes_of_pieces _ _ _ _ (by intro; apply scover0_B_1) ?_
  unfold kernelRun0_B
  dsimp only
  sl_unfold_words
  simp only [View.readAt_eq_ld, w1.read_unread, w2.read_unread, w3.read_unread, w4.read_unread, w5.read_unread, w6.read_unread, w7.read_unread, w8.read_unread, w9.read_unread]
  simp only [first_one x1 _ _ rfl]
  repeat
    refine List.forall_mem_cons.mpr ⟨fun x => ?_, ?_⟩
    · dsimp only
      unfold_payloads
      rw [shapeCast_self]
      exact norm_piece x0 x4 x5 (x1 (ValueIdx.ix2 0 0)) _ _ _ _ _ _ _ _ _ x
  exact fun q hq => absurd hq List.not_mem_nil

end CaseB

section CaseC

variable (hc0 : ¬cond0_0 i) (hc1 : ¬cond0_1 i) (hc2 : cond0_2 i) (hc3 : ¬cond0_3 i)

/-- The codes block after an even point between. -/
theorem out_C_9 : out0_C_9 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = codes x0 x1 x4 x5 := by
  unfold out0_C_9
  refine read_writes_of_pieces _ _ _ _ (by intro; apply cover0_C_9) ?_
  unfold kernelRun0_C
  dsimp only
  sl_unfold_words
  simp only [View.readAt_eq_ld, w1.read_unread, w2.read_unread, w3.read_unread, w4.read_unread, w5.read_unread, w6.read_unread, w7.read_unread, w8.read_unread, w9.read_unread]
  simp only [first_one x1 _ _ rfl]
  repeat
    refine List.forall_mem_cons.mpr ⟨fun x => ?_, ?_⟩
    · dsimp only
      unfold_payloads
      exact congrArg (Ideal.fptosi 8) (norm_piece x0 x4 x5 (x1 (ValueIdx.ix2 0 0)) _ _ _ _ _ _ _ _ _ x)
  exact fun q hq => absurd hq List.not_mem_nil

/-- The queries' block after an even point between. -/
theorem out_C_10 : out0_C_10 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = queries (lin x1 x6 x7 x8 xs1) x2 x3 := by
  unfold out0_C_10
  refine read_writes_of_pieces _ _ _ _ (by intro; apply cover0_C_10) ?_
  unfold kernelRun0_C
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
      fun q hq => absurd hq List.not_mem_nil⟩⟩⟩⟩⟩⟩
  · dsimp only
    unfold_payloads
    exact queries_piece xs1 (x1 (ValueIdx.ix2 0 0)) x2 x3 x6 x7 x8 1280 _ _ _ _ _ _ 5 (by norm_num) rfl _ x
  · dsimp only
    unfold_payloads
    exact queries_piece xs1 (x1 (ValueIdx.ix2 0 0)) x2 x3 x6 x7 x8 1024 _ _ _ _ _ _ 4 (by norm_num) rfl _ x
  · dsimp only
    unfold_payloads
    exact queries_piece xs1 (x1 (ValueIdx.ix2 0 0)) x2 x3 x6 x7 x8 768 _ _ _ _ _ _ 3 (by norm_num) rfl _ x
  · dsimp only
    unfold_payloads
    exact queries_piece xs1 (x1 (ValueIdx.ix2 0 0)) x2 x3 x6 x7 x8 512 _ _ _ _ _ _ 2 (by norm_num) rfl _ x
  · dsimp only
    unfold_payloads
    exact queries_piece xs1 (x1 (ValueIdx.ix2 0 0)) x2 x3 x6 x7 x8 256 _ _ _ _ _ _ 1 (by norm_num) rfl _ x
  · dsimp only
    unfold_payloads
    exact queries_piece xs1 (x1 (ValueIdx.ix2 0 0)) x2 x3 x6 x7 x8 0 _ _ _ _ _ _ 0 (by norm_num) rfl _ x

/-- The key codes' block after an even point between. -/
theorem out_C_11 : out0_C_11 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = rowCodes (keys (lin x1 x6 x7 x8 xs1) x2 x3) := by
  unfold out0_C_11
  refine read_writes_of_pieces _ _ _ _ (by intro; apply cover0_C_11) ?_
  unfold kernelRun0_C
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := keys_vec xs1 (x1 (ValueIdx.ix2 0 0)) x2 x3 x6 x7 x8 1536 inb_S256x3072_S256x3072_0_0 inb_S256x64_S256x64_0_0
    inb_S256x64_S256x64_0_0 inb_S3072x1792_S3072x256_0_1536 inb_S1x1792_S1x256_0_1536 inb_S1x1792_S1x256_0_1536 rfl
  exact codes_store _ _ h inb_S256x128_S256x128_0_0 x

/-- The key scales' block after an even point between. -/
theorem out_C_12 : out0_C_12 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = blockScales (keys (lin x1 x6 x7 x8 xs1) x2 x3) := by
  unfold out0_C_12
  refine read_writes_of_pieces _ _ _ _ (by intro; apply cover0_C_12) ?_
  unfold kernelRun0_C
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := keys_vec xs1 (x1 (ValueIdx.ix2 0 0)) x2 x3 x6 x7 x8 1536 inb_S256x3072_S256x3072_0_0 inb_S256x64_S256x64_0_0
    inb_S256x64_S256x64_0_0 inb_S3072x1792_S3072x256_0_1536 inb_S1x1792_S1x256_0_1536 inb_S1x1792_S1x256_0_1536 rfl
  exact scales_store _ _ h inb_S1x1x256_S1x1x256_0_0_0 x

/-- The value codes' block after an even point between. -/
theorem out_C_13 : out0_C_13 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = rowCodes (values (lin x1 x6 x7 x8 xs1)) := by
  unfold out0_C_13
  refine read_writes_of_pieces _ _ _ _ (by intro; apply cover0_C_13) ?_
  unfold kernelRun0_C
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := values_vec xs1 (x1 (ValueIdx.ix2 0 0)) x6 x7 x8 1536 inb_S256x3072_S256x3072_0_0
    inb_S3072x1792_S3072x256_0_1536 inb_S1x1792_S1x256_0_1536 inb_S1x1792_S1x256_0_1536 rfl
  exact codes_store _ _ h inb_S256x128_S256x128_0_0 x

/-- The value scales' block after an even point between. -/
theorem out_C_14 : out0_C_14 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = blockScales (values (lin x1 x6 x7 x8 xs1)) := by
  unfold out0_C_14
  refine read_writes_of_pieces _ _ _ _ (by intro; apply cover0_C_14) ?_
  unfold kernelRun0_C
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := values_vec xs1 (x1 (ValueIdx.ix2 0 0)) x6 x7 x8 1536 inb_S256x3072_S256x3072_0_0
    inb_S3072x1792_S3072x256_0_1536 inb_S1x1792_S1x256_0_1536 inb_S1x1792_S1x256_0_1536 rfl
  exact scales_store _ _ h inb_S1x1x256_S1x1x256_0_0_0 x

/-- Scratch buffer 0 after an even point between. -/
theorem sout_C_0 : sout0_C_0 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xs1
    = normed x0 x1 x4 x5 := by
  unfold sout0_C_0
  refine read_writes_of_pieces _ _ _ _ (by intro; apply scover0_C_0) ?_
  unfold kernelRun0_C
  dsimp only
  sl_unfold_words
  simp only [View.readAt_eq_ld, w1.read_unread, w2.read_unread, w3.read_unread, w4.read_unread, w5.read_unread, w6.read_unread, w7.read_unread, w8.read_unread, w9.read_unread]
  simp only [first_one x1 _ _ rfl]
  repeat
    refine List.forall_mem_cons.mpr ⟨fun x => ?_, ?_⟩
    · dsimp only
      unfold_payloads
      rw [shapeCast_self]
      exact norm_piece x0 x4 x5 (x1 (ValueIdx.ix2 0 0)) _ _ _ _ _ _ _ _ _ x
  exact fun q hq => absurd hq List.not_mem_nil

end CaseC

section CaseD

variable (hc0 : ¬cond0_0 i) (hc1 : ¬cond0_1 i) (hc2 : ¬cond0_2 i) (hc3 : cond0_3 i)

/-- The queries' block after the last point. -/
theorem out_D_10 : out0_D_10 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xo9 xs0 xs1
    = queries (lin x1 x6 x7 x8 xs1) x2 x3 := by
  unfold out0_D_10
  refine read_writes_of_pieces _ _ _ _ (by intro; apply cover0_D_10) ?_
  unfold kernelRun0_D
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
      fun q hq => absurd hq List.not_mem_nil⟩⟩⟩⟩⟩⟩
  · dsimp only
    unfold_payloads
    exact queries_piece xs1 (x1 (ValueIdx.ix2 0 0)) x2 x3 x6 x7 x8 1280 _ _ _ _ _ _ 5 (by norm_num) rfl _ x
  · dsimp only
    unfold_payloads
    exact queries_piece xs1 (x1 (ValueIdx.ix2 0 0)) x2 x3 x6 x7 x8 1024 _ _ _ _ _ _ 4 (by norm_num) rfl _ x
  · dsimp only
    unfold_payloads
    exact queries_piece xs1 (x1 (ValueIdx.ix2 0 0)) x2 x3 x6 x7 x8 768 _ _ _ _ _ _ 3 (by norm_num) rfl _ x
  · dsimp only
    unfold_payloads
    exact queries_piece xs1 (x1 (ValueIdx.ix2 0 0)) x2 x3 x6 x7 x8 512 _ _ _ _ _ _ 2 (by norm_num) rfl _ x
  · dsimp only
    unfold_payloads
    exact queries_piece xs1 (x1 (ValueIdx.ix2 0 0)) x2 x3 x6 x7 x8 256 _ _ _ _ _ _ 1 (by norm_num) rfl _ x
  · dsimp only
    unfold_payloads
    exact queries_piece xs1 (x1 (ValueIdx.ix2 0 0)) x2 x3 x6 x7 x8 0 _ _ _ _ _ _ 0 (by norm_num) rfl _ x

/-- The key codes' block after the last point. -/
theorem out_D_11 : out0_D_11 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xo9 xs0 xs1
    = rowCodes (keys (lin x1 x6 x7 x8 xs1) x2 x3) := by
  unfold out0_D_11
  refine read_writes_of_pieces _ _ _ _ (by intro; apply cover0_D_11) ?_
  unfold kernelRun0_D
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := keys_vec xs1 (x1 (ValueIdx.ix2 0 0)) x2 x3 x6 x7 x8 1536 inb_S256x3072_S256x3072_0_0 inb_S256x64_S256x64_0_0
    inb_S256x64_S256x64_0_0 inb_S3072x1792_S3072x256_0_1536 inb_S1x1792_S1x256_0_1536 inb_S1x1792_S1x256_0_1536 rfl
  exact codes_store _ _ h inb_S256x128_S256x128_0_0 x

/-- The key scales' block after the last point. -/
theorem out_D_12 : out0_D_12 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xo9 xs0 xs1
    = blockScales (keys (lin x1 x6 x7 x8 xs1) x2 x3) := by
  unfold out0_D_12
  refine read_writes_of_pieces _ _ _ _ (by intro; apply cover0_D_12) ?_
  unfold kernelRun0_D
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := keys_vec xs1 (x1 (ValueIdx.ix2 0 0)) x2 x3 x6 x7 x8 1536 inb_S256x3072_S256x3072_0_0 inb_S256x64_S256x64_0_0
    inb_S256x64_S256x64_0_0 inb_S3072x1792_S3072x256_0_1536 inb_S1x1792_S1x256_0_1536 inb_S1x1792_S1x256_0_1536 rfl
  exact scales_store _ _ h inb_S1x1x256_S1x1x256_0_0_0 x

/-- The value codes' block after the last point. -/
theorem out_D_13 : out0_D_13 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xo9 xs0 xs1
    = rowCodes (values (lin x1 x6 x7 x8 xs1)) := by
  unfold out0_D_13
  refine read_writes_of_pieces _ _ _ _ (by intro; apply cover0_D_13) ?_
  unfold kernelRun0_D
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := values_vec xs1 (x1 (ValueIdx.ix2 0 0)) x6 x7 x8 1536 inb_S256x3072_S256x3072_0_0
    inb_S3072x1792_S3072x256_0_1536 inb_S1x1792_S1x256_0_1536 inb_S1x1792_S1x256_0_1536 rfl
  exact codes_store _ _ h inb_S256x128_S256x128_0_0 x

/-- The value scales' block after the last point. -/
theorem out_D_14 : out0_D_14 c i a1 w1 a2 w2 a3 w3 a4 w4 a5 w5 a6 w6 a7 w7 a8 w8 a9 w9 a10 w10 a11 w11 a12 w12 a13 w13 a14 w14 a15 w15 a16 w16 a17 w17
      hc0 hc1 hc2 hc3 x0 x1 x2 x3 x4 x5 x6 x7 x8 xo9 xs0 xs1
    = blockScales (values (lin x1 x6 x7 x8 xs1)) := by
  unfold out0_D_14
  refine read_writes_of_pieces _ _ _ _ (by intro; apply cover0_D_14) ?_
  unfold kernelRun0_D
  dsimp only
  sl_unfold_words
  simp only [View.readAt_eq_ld, w1.read_unread, w2.read_unread, w3.read_unread, w4.read_unread, w5.read_unread, w6.read_unread, w7.read_unread, w8.read_unread, w9.read_unread, w17.read_unread]
  simp only [first_one x1 _ _ rfl]
  refine List.forall_mem_cons.mpr ⟨fun x => ?_, fun q hq => absurd hq List.not_mem_nil⟩
  dsimp only
  unfold_payloads
  have h := values_vec xs1 (x1 (ValueIdx.ix2 0 0)) x6 x7 x8 1536 inb_S256x3072_S256x3072_0_0
    inb_S3072x1792_S3072x256_0_1536 inb_S1x1792_S1x256_0_1536 inb_S1x1792_S1x256_0_1536 rfl
  exact scales_store _ _ h inb_S1x1x256_S1x1x256_0_0_0 x

end CaseD

end Cert.QkvIdeal.Block

end
-- ==== Proof.QkvArray.lean ====
/- The attention inputs' kernel's six result arrays after its 33 points. Point `t` below 32 computes the layer norm's codes of rows
   `256 t … 256 t + 255`, into its result and into one of two scratch buffers; point `t` above 0 computes the queries, the
   keys and the values of the rows of point `t - 1`, out of the buffer that point filled. All depend on a row only, so the
   blocks are the pieces of the layers over the whole arrays. -/
module

public import proofs.«01_k».proof.Proof.QkvBlock

@[expose] public section

set_option maxRecDepth 16384

noncomputable section

namespace Cert.QkvIdeal.Array

open Cert.QkvIdeal Cert.QkvIdeal.Gen Cert.W8A8 Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Where the blocks lie -/

/-- The block of rows whose codes a point computes (the last point, which computes none, stays at the last block). -/
def cur (t : Fin cfg0.N) : Fin 32 := ⟨min t.val 31, by omega⟩

/-- The block of rows whose queries, keys and values a point computes. -/
def prev (t : Fin cfg0.N) : Fin 32 := ⟨t.val - 1, by have h := t.isLt; have hN : cfg0.N = 33 := N_0; omega⟩

/-- Row `r` of block `b`, as a row of the whole array. -/
def rowIn (b : Fin 32) (r : Fin 256) : Fin 8192 := ⟨256 * b.val + r.val, by omega⟩

/-- Block `b` of an array's rows. -/
def rowsOf {α : Type} {N : ℕ} (y : Mat α 8192 N) (b : Fin 32) : Mat α 256 N := fun j => y (ValueIdx.ix2 (rowIn b (j 0)) (j 1))

theorem idx0 : ∀ t : Fin cfg0.N, win0_0.index t (0 : Fin 2) = min t.val 31 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val - 1 ∧ win0_2.index t (1 : Fin 2) = 0 :=
  (by decide +kernel : ∀ t : Fin grid0.N, _)

theorem idx3 : ∀ t : Fin cfg0.N, win0_3.index t (0 : Fin 2) = t.val - 1 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = min t.val 31 ∧ win0_9.index t (1 : Fin 2) = 0 :=
  (by decide +kernel : ∀ t : Fin grid0.N, _)

theorem idx10 : ∀ t : Fin cfg0.N, win0_10.index t (0 : Fin 2) = t.val - 1 ∧ win0_10.index t (1 : Fin 2) = 0 :=
  (by decide +kernel : ∀ t : Fin grid0.N, _)

theorem idx11 : ∀ t : Fin cfg0.N, win0_11.index t (0 : Fin 2) = t.val - 1 ∧ win0_11.index t (1 : Fin 2) = 0 :=
  (by decide +kernel : ∀ t : Fin grid0.N, _)

theorem idx12 : ∀ t : Fin cfg0.N, win0_12.index t (0 : Fin 3) = t.val - 1 ∧ win0_12.index t (1 : Fin 3) = 0
    ∧ win0_12.index t (2 : Fin 3) = 0 :=
  (by decide +kernel : ∀ t : Fin grid0.N, _)

theorem idx13 : ∀ t : Fin cfg0.N, win0_13.index t (0 : Fin 2) = t.val - 1 ∧ win0_13.index t (1 : Fin 2) = 0 :=
  (by decide +kernel : ∀ t : Fin grid0.N, _)

theorem idx14 : ∀ t : Fin cfg0.N, win0_14.index t (0 : Fin 3) = t.val - 1 ∧ win0_14.index t (1 : Fin 3) = 0
    ∧ win0_14.index t (2 : Fin 3) = 0 :=
  (by decide +kernel : ∀ t : Fin grid0.N, _)

/-- The norm codes' window is written back at every point but 31, whose block the last point writes back. -/
theorem flush9 : ∀ t : Fin cfg0.N, t.val ≠ 31 → (cfg0.win 9).flush t = true :=
  (by decide +kernel : ∀ t : Fin grid0.N, _)

theorem flush10 : ∀ t : Fin cfg0.N, (cfg0.win 10).flush t = true ↔ t.val ≠ 0 :=
  (by decide +kernel : ∀ t : Fin grid0.N, _)

theorem flush11 : ∀ t : Fin cfg0.N, (cfg0.win 11).flush t = true ↔ t.val ≠ 0 :=
  (by decide +kernel : ∀ t : Fin grid0.N, _)

theorem flush12 : ∀ t : Fin cfg0.N, (cfg0.win 12).flush t = true ↔ t.val ≠ 0 :=
  (by decide +kernel : ∀ t : Fin grid0.N, _)

theorem flush13 : ∀ t : Fin cfg0.N, (cfg0.win 13).flush t = true ↔ t.val ≠ 0 :=
  (by decide +kernel : ∀ t : Fin grid0.N, _)

theorem flush14 : ∀ t : Fin cfg0.N, (cfg0.win 14).flush t = true ↔ t.val ≠ 0 :=
  (by decide +kernel : ∀ t : Fin grid0.N, _)

/-- A point's block of `main_arg0`: the rows of its block. -/
theorem iblk0 (t : Fin cfg0.N) : iblk m c 0 t = rowsOf (V m c main_arg0) (cur t) := by
  obtain ⟨e0, e1⟩ := idx0 t
  funext j
  refine congrArg (V m c main_arg0) (funext fun a => Fin.ext ?_)
  match a with
  | ⟨0, _⟩ => show win0_0.index t (0 : Fin 2) * 256 + 1 * (j 0).val = 256 * (min t.val 31) + (j 0).val; omega
  | ⟨1, _⟩ => show win0_0.index t (1 : Fin 2) * 3072 + 1 * (j 1).val = (j 1).val; omega

/-- A point's block of `main_arg2`: the rows of its block. -/
theorem iblk2 (t : Fin cfg0.N) : iblk m c 2 t = rowsOf (V m c main_arg2) (prev t) := by
  obtain ⟨e0, e1⟩ := idx2 t
  funext j
  refine congrArg (V m c main_arg2) (funext fun a => Fin.ext ?_)
  match a with
  | ⟨0, _⟩ => show win0_2.index t (0 : Fin 2) * 256 + 1 * (j 0).val = 256 * (t.val - 1) + (j 0).val; omega
  | ⟨1, _⟩ => show win0_2.index t (1 : Fin 2) * 64 + 1 * (j 1).val = (j 1).val; omega

/-- A point's block of `main_arg3`: the rows of its block. -/
theorem iblk3 (t : Fin cfg0.N) : iblk m c 3 t = rowsOf (V m c main_arg3) (prev t) := by
  obtain ⟨e0, e1⟩ := idx3 t
  funext j
  refine congrArg (V m c main_arg3) (funext fun a => Fin.ext ?_)
  match a with
  | ⟨0, _⟩ => show win0_3.index t (0 : Fin 2) * 256 + 1 * (j 0).val = 256 * (t.val - 1) + (j 0).val; omega
  | ⟨1, _⟩ => show win0_3.index t (1 : Fin 2) * 64 + 1 * (j 1).val = (j 1).val; omega

/-- The codes' scale: every point's block is the whole array. -/
theorem iblk1 (t : Fin cfg0.N) : iblk m c 1 t = V m c main_arg1 := by
  obtain ⟨e0, e1⟩ := idx1 t
  funext j
  refine congrArg (V m c main_arg1) (funext fun a => Fin.ext ?_)
  match a with
  | ⟨0, _⟩ => show win0_1.index t (0 : Fin 2) * 1 + 1 * (j 0).val = (j 0).val; omega
  | ⟨1, _⟩ => show win0_1.index t (1 : Fin 2) * 1 + 1 * (j 1).val = (j 1).val; omega

/-- The norm's gains: every point's block is the whole array. -/
theorem iblk4 (t : Fin cfg0.N) : iblk m c 4 t = V m c main_arg4 := by
  obtain ⟨e0, e1⟩ := idx4 t
  funext j
  refine congrArg (V m c main_arg4) (funext fun a => Fin.ext ?_)
  match a with
  | ⟨0, _⟩ => show win0_4.index t (0 : Fin 2) * 1 + 1 * (j 0).val = (j 0).val; omega
  | ⟨1, _⟩ => show win0_4.index t (1 : Fin 2) * 3072 + 1 * (j 1).val = (j 1).val; omega

/-- The norm's offsets: every point's block is the whole array. -/
theorem iblk5 (t : Fin cfg0.N) : iblk m c 5 t = V m c main_arg5 := by
  obtain ⟨e0, e1⟩ := idx5 t
  funext j
  refine congrArg (V m c main_arg5) (funext fun a => Fin.ext ?_)
  match a with
  | ⟨0, _⟩ => show win0_5.index t (0 : Fin 2) * 1 + 1 * (j 0).val = (j 0).val; omega
  | ⟨1, _⟩ => show win0_5.index t (1 : Fin 2) * 3072 + 1 * (j 1).val = (j 1).val; omega

/-- The weights: every point's block is the whole array. -/
theorem iblk6 (t : Fin cfg0.N) : iblk m c 6 t = V m c main_arg6 := by
  obtain ⟨e0, e1⟩ := idx6 t
  funext j
  refine congrArg (V m c main_arg6) (funext fun a => Fin.ext ?_)
  match a with
  | ⟨0, _⟩ => show win0_6.index t (0 : Fin 2) * 3072 + 1 * (j 0).val = (j 0).val; omega
  | ⟨1, _⟩ => show win0_6.index t (1 : Fin 2) * 1792 + 1 * (j 1).val = (j 1).val; omega

/-- The channel scales: every point's block is the whole array. -/
theorem iblk7 (t : Fin cfg0.N) : iblk m c 7 t = V m c main_arg7 := by
  obtain ⟨e0, e1⟩ := idx7 t
  funext j
  refine congrArg (V m c main_arg7) (funext fun a => Fin.ext ?_)
  match a with
  | ⟨0, _⟩ => show win0_7.index t (0 : Fin 2) * 1 + 1 * (j 0).val = (j 0).val; omega
  | ⟨1, _⟩ => show win0_7.index t (1 : Fin 2) * 1792 + 1 * (j 1).val = (j 1).val; omega

/-- The bias: every point's block is the whole array. -/
theorem iblk8 (t : Fin cfg0.N) : iblk m c 8 t = V m c main_arg8 := by
  obtain ⟨e0, e1⟩ := idx8 t
  funext j
  refine congrArg (V m c main_arg8) (funext fun a => Fin.ext ?_)
  match a with
  | ⟨0, _⟩ => show win0_8.index t (0 : Fin 2) * 1 + 1 * (j 0).val = (j 0).val; omega
  | ⟨1, _⟩ => show win0_8.index t (1 : Fin 2) * 1792 + 1 * (j 1).val = (j 1).val; omega

/-- Where output window 9's block at a point lies in its array. -/
theorem emb9 (t : Fin cfg0.N) (r : Fin 256) (k : Fin 3072) :
    ((cfg0.win 9).blk t).view.emb (ValueIdx.ix2 r k) = (ValueIdx.ix2 (rowIn (cur t) r) k : (⟨2, ![8192, 3072]⟩ : Shape).Idx) := by
  obtain ⟨e0, e1⟩ := idx9 t
  refine funext fun a => Fin.ext ?_
  match a with
  | ⟨0, _⟩ => show win0_9.index t (0 : Fin 2) * 256 + 1 * r.val = 256 * (min t.val 31) + r.val; omega
  | ⟨1, _⟩ => show win0_9.index t (1 : Fin 2) * 3072 + 1 * k.val = k.val; omega

/-- Where output window 10's block at a point lies in its array. -/
theorem emb10 (t : Fin cfg0.N) (r : Fin 256) (k : Fin 1536) :
    ((cfg0.win 10).blk t).view.emb (ValueIdx.ix2 r k) = (ValueIdx.ix2 (rowIn (prev t) r) k : (⟨2, ![8192, 1536]⟩ : Shape).Idx) := by
  obtain ⟨e0, e1⟩ := idx10 t
  refine funext fun a => Fin.ext ?_
  match a with
  | ⟨0, _⟩ => show win0_10.index t (0 : Fin 2) * 256 + 1 * r.val = 256 * (t.val - 1) + r.val; omega
  | ⟨1, _⟩ => show win0_10.index t (1 : Fin 2) * 1536 + 1 * k.val = k.val; omega

/-- Where output window 11's block at a point lies in its array. -/
theorem emb11 (t : Fin cfg0.N) (r : Fin 256) (k : Fin 128) :
    ((cfg0.win 11).blk t).view.emb (ValueIdx.ix2 r k) = (ValueIdx.ix2 (rowIn (prev t) r) k : (⟨2, ![8192, 128]⟩ : Shape).Idx) := by
  obtain ⟨e0, e1⟩ := idx11 t
  refine funext fun a => Fin.ext ?_
  match a with
  | ⟨0, _⟩ => show win0_11.index t (0 : Fin 2) * 256 + 1 * r.val = 256 * (t.val - 1) + r.val; omega
  | ⟨1, _⟩ => show win0_11.index t (1 : Fin 2) * 128 + 1 * k.val = k.val; omega

/-- Where output window 13's block at a point lies in its array. -/
theorem emb13 (t : Fin cfg0.N) (r : Fin 256) (k : Fin 128) :
    ((cfg0.win 13).blk t).view.emb (ValueIdx.ix2 r k) = (ValueIdx.ix2 (rowIn (prev t) r) k : (⟨2, ![8192, 128]⟩ : Shape).Idx) := by
  obtain ⟨e0, e1⟩ := idx13 t
  refine funext fun a => Fin.ext ?_
  match a with
  | ⟨0, _⟩ => show win0_13.index t (0 : Fin 2) * 256 + 1 * r.val = 256 * (t.val - 1) + r.val; omega
  | ⟨1, _⟩ => show win0_13.index t (1 : Fin 2) * 128 + 1 * k.val = k.val; omega

/-- Where output window 12's block at a point lies in its array. -/
theorem emb12 (t : Fin cfg0.N) (r : Fin 256) :
    ((cfg0.win 12).blk t).view.emb (ValueIdx.ix3 0 0 r) = (ValueIdx.ix3 (prev t) 0 r : (⟨3, ![32, 1, 256]⟩ : Shape).Idx) := by
  obtain ⟨e0, e1, e2⟩ := idx12 t
  refine funext fun a => Fin.ext ?_
  match a with
  | ⟨0, _⟩ => show win0_12.index t (0 : Fin 3) * 1 + 1 * 0 = t.val - 1; omega
  | ⟨1, _⟩ => show win0_12.index t (1 : Fin 3) * 1 + 1 * 0 = 0; omega
  | ⟨2, _⟩ => show win0_12.index t (2 : Fin 3) * 256 + 1 * r.val = r.val; omega

/-- Where output window 14's block at a point lies in its array. -/
theorem emb14 (t : Fin cfg0.N) (r : Fin 256) :
    ((cfg0.win 14).blk t).view.emb (ValueIdx.ix3 0 0 r) = (ValueIdx.ix3 (prev t) 0 r : (⟨3, ![32, 1, 256]⟩ : Shape).Idx) := by
  obtain ⟨e0, e1, e2⟩ := idx14 t
  refine funext fun a => Fin.ext ?_
  match a with
  | ⟨0, _⟩ => show win0_14.index t (0 : Fin 3) * 1 + 1 * 0 = t.val - 1; omega
  | ⟨1, _⟩ => show win0_14.index t (1 : Fin 3) * 1 + 1 * 0 = 0; omega
  | ⟨2, _⟩ => show win0_14.index t (2 : Fin 3) * 256 + 1 * r.val = r.val; omega

/-- Some point that writes the norm codes back has any given block. -/
theorem point9 (b : ℕ) (hb : b < 32) : ∃ t : Fin cfg0.N, (cfg0.win 9).flush t = true ∧ (cur t).val = b := by
  have hN : cfg0.N = 33 := N_0
  by_cases h : b < 31
  · exact ⟨⟨b, by omega⟩, flush9 _ (by show b ≠ 31; omega), by show min b 31 = b; omega⟩
  · exact ⟨⟨32, by omega⟩, flush9 _ (by show (32 : ℕ) ≠ 31; omega), by show min 32 31 = b; omega⟩

/-- Some point above 0 has any given block before it. -/
theorem pointAfter (b : ℕ) (hb : b < 32) : ∃ t : Fin cfg0.N, t.val ≠ 0 ∧ (prev t).val = b := by
  have hN : cfg0.N = 33 := N_0
  exact ⟨⟨b + 1, by omega⟩, by show b + 1 ≠ 0; omega, by show b + 1 - 1 = b; omega⟩

/-- The blocks of output window 9 that are written back cover its array. -/
theorem covered9 (i : (⟨2, ![8192, 3072]⟩ : Shape).Idx) :
    ∃ t : Fin cfg0.N, (cfg0.win 9).flush t = true ∧ i ∈ ((cfg0.win 9).blk t).view.set := by
  have h0 : (i 0).val < 8192 := (i 0).isLt
  obtain ⟨t, hf, ht⟩ := point9 ((i 0).val / 256) (by omega)
  refine ⟨t, hf, ?_⟩
  have h := ((cfg0.win 9).blk t).view.emb_mem_set (ValueIdx.ix2 ⟨(i 0).val % 256, Nat.mod_lt _ (by norm_num)⟩ (i 1))
  refine (congrArg (· ∈ ((cfg0.win 9).blk t).view.set) ((emb9 _ _ _).trans ?_)).mp h
  refine (congrArg (ValueIdx.ix2 · (i 1)) (Fin.ext ?_)).trans (ValueIdx.eq_ix2 i).symm
  show 256 * (cur t).val + (i 0).val % 256 = (i 0).val
  omega

/-- The blocks of output window 10 that are written back cover its array. -/
theorem covered10 (i : (⟨2, ![8192, 1536]⟩ : Shape).Idx) :
    ∃ t : Fin cfg0.N, (cfg0.win 10).flush t = true ∧ i ∈ ((cfg0.win 10).blk t).view.set := by
  have h0 : (i 0).val < 8192 := (i 0).isLt
  obtain ⟨t, h, ht⟩ := pointAfter ((i 0).val / 256) (by omega)
  have hf := (flush10 t).mpr h
  refine ⟨t, hf, ?_⟩
  have h := ((cfg0.win 10).blk t).view.emb_mem_set (ValueIdx.ix2 ⟨(i 0).val % 256, Nat.mod_lt _ (by norm_num)⟩ (i 1))
  refine (congrArg (· ∈ ((cfg0.win 10).blk t).view.set) ((emb10 _ _ _).trans ?_)).mp h
  refine (congrArg (ValueIdx.ix2 · (i 1)) (Fin.ext ?_)).trans (ValueIdx.eq_ix2 i).symm
  show 256 * (prev t).val + (i 0).val % 256 = (i 0).val
  omega

/-- The blocks of output window 11 that are written back cover its array. -/
theorem covered11 (i : (⟨2, ![8192, 128]⟩ : Shape).Idx) :
    ∃ t : Fin cfg0.N, (cfg0.win 11).flush t = true ∧ i ∈ ((cfg0.win 11).blk t).view.set := by
  have h0 : (i 0).val < 8192 := (i 0).isLt
  obtain ⟨t, h, ht⟩ := pointAfter ((i 0).val / 256) (by omega)
  have hf := (flush11 t).mpr h
  refine ⟨t, hf, ?_⟩
  have h := ((cfg0.win 11).blk t).view.emb_mem_set (ValueIdx.ix2 ⟨(i 0).val % 256, Nat.mod_lt _ (by norm_num)⟩ (i 1))
  refine (congrArg (· ∈ ((cfg0.win 11).blk t).view.set) ((emb11 _ _ _).trans ?_)).mp h
  refine (congrArg (ValueIdx.ix2 · (i 1)) (Fin.ext ?_)).trans (ValueIdx.eq_ix2 i).symm
  show 256 * (prev t).val + (i 0).val % 256 = (i 0).val
  omega

/-- The blocks of output window 13 that are written back cover its array. -/
theorem covered13 (i : (⟨2, ![8192, 128]⟩ : Shape).Idx) :
    ∃ t : Fin cfg0.N, (cfg0.win 13).flush t = true ∧ i ∈ ((cfg0.win 13).blk t).view.set := by
  have h0 : (i 0).val < 8192 := (i 0).isLt
  obtain ⟨t, h, ht⟩ := pointAfter ((i 0).val / 256) (by omega)
  have hf := (flush13 t).mpr h
  refine ⟨t, hf, ?_⟩
  have h := ((cfg0.win 13).blk t).view.emb_mem_set (ValueIdx.ix2 ⟨(i 0).val % 256, Nat.mod_lt _ (by norm_num)⟩ (i 1))
  refine (congrArg (· ∈ ((cfg0.win 13).blk t).view.set) ((emb13 _ _ _).trans ?_)).mp h
  refine (congrArg (ValueIdx.ix2 · (i 1)) (Fin.ext ?_)).trans (ValueIdx.eq_ix2 i).symm
  show 256 * (prev t).val + (i 0).val % 256 = (i 0).val
  omega

/-- The blocks of output window 12 that are written back cover its array. -/
theorem covered12 (i : (⟨3, ![32, 1, 256]⟩ : Shape).Idx) :
    ∃ t : Fin cfg0.N, (cfg0.win 12).flush t = true ∧ i ∈ ((cfg0.win 12).blk t).view.set := by
  obtain ⟨t, h, ht⟩ := pointAfter (i 0).val (i 0).isLt
  refine ⟨t, (flush12 t).mpr h, ?_⟩
  have h := ((cfg0.win 12).blk t).view.emb_mem_set (ValueIdx.ix3 0 0 (i 2))
  refine (congrArg (· ∈ ((cfg0.win 12).blk t).view.set) ((emb12 _ _).trans ?_)).mp h
  refine funext fun a => Fin.ext ?_
  match a with
  | ⟨0, _⟩ => exact ht
  | ⟨1, _⟩ => exact (Nat.lt_one_iff.mp (i 1).isLt).symm
  | ⟨2, _⟩ => rfl

/-- The blocks of output window 14 that are written back cover its array. -/
theorem covered14 (i : (⟨3, ![32, 1, 256]⟩ : Shape).Idx) :
    ∃ t : Fin cfg0.N, (cfg0.win 14).flush t = true ∧ i ∈ ((cfg0.win 14).blk t).view.set := by
  obtain ⟨t, h, ht⟩ := pointAfter (i 0).val (i 0).isLt
  refine ⟨t, (flush14 t).mpr h, ?_⟩
  have h := ((cfg0.win 14).blk t).view.emb_mem_set (ValueIdx.ix3 0 0 (i 2))
  refine (congrArg (· ∈ ((cfg0.win 14).blk t).view.set) ((emb14 _ _).trans ?_)).mp h
  refine funext fun a => Fin.ext ?_
  match a with
  | ⟨0, _⟩ => exact ht
  | ⟨1, _⟩ => exact (Nat.lt_one_iff.mp (i 1).isLt).symm
  | ⟨2, _⟩ => rfl

/-! ## The arrays -/

/-- The layer norm's codes, as real numbers, of the launch arguments. -/
abbrev Normed : Mat EReal 8192 3072 :=
  normReal (V m c main_arg0) (V m c main_arg4) (V m c main_arg5) (V m c main_arg1 (ValueIdx.ix2 0 0))

/-- The int8 layer over those codes. -/
abbrev Lin : Mat EReal 8192 1792 :=
  linReal (Normed m c) (V m c main_arg6) (V m c main_arg8) (V m c main_arg7) (V m c main_arg1 (ValueIdx.ix2 0 0))

/-- The keys. -/
abbrev Keys : Mat EReal 8192 128 := keys (Lin m c) (V m c main_arg2) (V m c main_arg3)

/-- The norm's codes as an array of the launch arguments. -/
abbrev G9 : Vec Ideal S8192x3072 .i8 :=
  normCodes (V m c main_arg0) (V m c main_arg4) (V m c main_arg5) (V m c main_arg1 (ValueIdx.ix2 0 0))

/-- The queries. -/
abbrev G10 : Vec Ideal S8192x1536 .bf16 := queries (Lin m c) (V m c main_arg2) (V m c main_arg3)

/-- The keys' codes. -/
abbrev G11 : Vec Ideal S8192x128 .i8 := rowCodes (Keys m c)

/-- The keys' scales. -/
abbrev G12 : Vec Ideal S32x1x256 .f32 := allScales (Keys m c)

/-- The values' codes. -/
abbrev G13 : Vec Ideal S8192x128 .i8 := rowCodes (values (Lin m c))

/-- The values' scales. -/
abbrev G14 : Vec Ideal S32x1x256 .f32 := allScales (values (Lin m c))

/-- The first half's real codes at a point are its block of rows. -/
theorem normed_iblk (t : Fin cfg0.N) :
    Block.normed (iblk m c 0 t) (iblk m c 1 t) (iblk m c 4 t) (iblk m c 5 t) = rowsOf (Normed m c) (cur t) := by
  funext j
  obtain ⟨r, k, rfl⟩ : ∃ r k, j = ValueIdx.ix2 r k := ⟨j 0, j 1, ValueIdx.eq_ix2 j⟩
  unfold Block.normed
  rw [iblk0 m c t, iblk1 m c t, iblk4 m c t, iblk5 m c t]
  exact normReal_rows _ (V m c main_arg0) _ _ _ r (rowIn (cur t) r) (fun _ => rfl) k

/-- So are its int8 codes. -/
theorem codes_iblk (t : Fin cfg0.N) :
    Block.codes (iblk m c 0 t) (iblk m c 1 t) (iblk m c 4 t) (iblk m c 5 t) = rowsOf (G9 m c) (cur t) :=
  funext fun j => congrArg (Ideal.fptosi 8) (congrFun (normed_iblk m c t) j)

/-- The second half's layer over a block of rows of codes is that block of the layer. -/
theorem lin_iblk (t : Fin cfg0.N) (b : Fin 32) :
    Block.lin (iblk m c 1 t) (iblk m c 6 t) (iblk m c 7 t) (iblk m c 8 t) (rowsOf (Normed m c) b) = rowsOf (Lin m c) b := by
  funext j
  obtain ⟨r, k, rfl⟩ : ∃ r k, j = ValueIdx.ix2 r k := ⟨j 0, j 1, ValueIdx.eq_ix2 j⟩
  unfold Block.lin
  rw [iblk1 m c t, iblk6 m c t, iblk7 m c t, iblk8 m c t]
  exact linReal_rows _ (Normed m c) _ _ _ _ r (rowIn b r) (fun _ => rfl) k

/-! ## What each point leaves -/

/-- The even points between the first and the last, as the program lists them. -/
abbrev Even (t : Fin cfg0.N) : Prop :=
  t.val % 33 = 2 ∨ t.val % 33 = 4 ∨ t.val % 33 = 6 ∨ t.val % 33 = 8 ∨ t.val % 33 = 10 ∨ t.val % 33 = 12 ∨ t.val % 33 = 14 ∨ t.val % 33 = 16 ∨ t.val % 33 = 18 ∨ t.val % 33 = 20 ∨ t.val % 33 = 22 ∨ t.val % 33 = 24 ∨ t.val % 33 = 26 ∨ t.val % 33 = 28 ∨ t.val % 33 = 30

/-- The second half's five blocks, of a block of the layer and of the cosines and sines. -/
def second (L : Mat EReal 256 1792) (cs sn : Mat EReal 256 64) : Vec Ideal S256x1536 .bf16 × Vec Ideal S256x128 .i8
    × Vec Ideal S1x1x256 .f32 × Vec Ideal S256x128 .i8 × Vec Ideal S1x1x256 .f32 :=
  (queries L cs sn, rowCodes (keys L cs sn), blockScales (keys L cs sn), rowCodes (values L), blockScales (values L))

/-- The five of a point's outputs that its second half writes. -/
def five (p : Vec Ideal S256x3072 .i8 × Vec Ideal S256x1536 .bf16 × Vec Ideal S256x128 .i8 × Vec Ideal S1x1x256 .f32
      × Vec Ideal S256x128 .i8 × Vec Ideal S1x1x256 .f32 × Vec Ideal S256x3072 .bf16 × Vec Ideal S256x3072 .bf16) :
    Vec Ideal S256x1536 .bf16 × Vec Ideal S256x128 .i8 × Vec Ideal S1x1x256 .f32 × Vec Ideal S256x128 .i8 × Vec Ideal S1x1x256 .f32 :=
  (p.2.1, p.2.2.1, p.2.2.2.1, p.2.2.2.2.1, p.2.2.2.2.2.1)

/-- Two tuples of five are equal when their members are. -/
theorem tuple {A B C D E : Type} {a a' : A} {b b' : B} {c c' : C} {d d' : D} {e e' : E} (ha : a = a') (hb : b = b') (hc : c = c')
    (hd : d = d') (he : e = e') : (a, b, c, d, e) = (a', b', c', d', e') := by
  rw [ha, hb, hc, hd, he]

section Points

variable (t : Fin cfg0.N)

/-- The norm codes' block after the first point. -/
theorem at_A_codes (h0 : t.val % 33 = 0) (h1 : ¬t.val % 2 = 1)
    (h2 : ¬Even t)
    (h3 : ¬t.val % 33 = 32) :
    (outsAt0 m c t.val t.isLt).1 = rowsOf (G9 m c) (cur t) := by
  rw [outsAt0_A m c t h0 h1 h2 h3]
  unfold leftA
  dsimp only
  exact (Block.out_A_9 ..).trans (codes_iblk m c t)

/-- Scratch buffer 0 after the first point. -/
theorem at_A_scr (h0 : t.val % 33 = 0) (h1 : ¬t.val % 2 = 1)
    (h2 : ¬Even t)
    (h3 : ¬t.val % 33 = 32) :
    (outsAt0 m c t.val t.isLt).2.2.2.2.2.2.1 = rowsOf (Normed m c) (cur t) := by
  rw [outsAt0_A m c t h0 h1 h2 h3]
  unfold leftA
  dsimp only
  exact (Block.sout_A_0 ..).trans (normed_iblk m c t)

/-- The norm codes' block after an odd point. -/
theorem at_B_codes (h0 : ¬t.val % 33 = 0) (h1 : t.val % 2 = 1)
    (h2 : ¬Even t)
    (h3 : ¬t.val % 33 = 32) :
    (outsAt0 m c t.val t.isLt).1 = rowsOf (G9 m c) (cur t) := by
  rw [outsAt0_B m c t h0 h1 h2 h3]
  unfold leftB
  dsimp only
  exact (Block.out_B_9 ..).trans (codes_iblk m c t)

/-- Scratch buffer 1 after an odd point. -/
theorem at_B_scr (h0 : ¬t.val % 33 = 0) (h1 : t.val % 2 = 1)
    (h2 : ¬Even t)
    (h3 : ¬t.val % 33 = 32) :
    (outsAt0 m c t.val t.isLt).2.2.2.2.2.2.2 = rowsOf (Normed m c) (cur t) := by
  rw [outsAt0_B m c t h0 h1 h2 h3]
  unfold leftB
  dsimp only
  exact (Block.sout_B_1 ..).trans (normed_iblk m c t)

/-- The norm codes' block after an even point between. -/
theorem at_C_codes (h0 : ¬t.val % 33 = 0) (h1 : ¬t.val % 2 = 1)
    (h2 : Even t)
    (h3 : ¬t.val % 33 = 32) :
    (outsAt0 m c t.val t.isLt).1 = rowsOf (G9 m c) (cur t) := by
  rw [outsAt0_C m c t h0 h1 h2 h3]
  unfold leftC
  dsimp only
  exact (Block.out_C_9 ..).trans (codes_iblk m c t)

/-- Scratch buffer 0 after an even point between. -/
theorem at_C_scr (h0 : ¬t.val % 33 = 0) (h1 : ¬t.val % 2 = 1)
    (h2 : Even t)
    (h3 : ¬t.val % 33 = 32) :
    (outsAt0 m c t.val t.isLt).2.2.2.2.2.2.1 = rowsOf (Normed m c) (cur t) := by
  rw [outsAt0_C m c t h0 h1 h2 h3]
  unfold leftC
  dsimp only
  exact (Block.sout_C_0 ..).trans (normed_iblk m c t)

/-- The second half's blocks after an odd point. -/
theorem at_B_second (h0 : ¬t.val % 33 = 0) (h1 : t.val % 2 = 1)
    (h2 : ¬Even t)
    (h3 : ¬t.val % 33 = 32) :
    five (outsAt0 m c t.val t.isLt) = second (Block.lin (iblk m c 1 t) (iblk m c 6 t) (iblk m c 7 t) (iblk m c 8 t) (outsAt0 m c (t.val - 1) (Nat.lt_of_le_of_lt (Nat.sub_le _ _) t.isLt)).2.2.2.2.2.2.1)
      (iblk m c 2 t) (iblk m c 3 t) := by
  rw [outsAt0_B m c t h0 h1 h2 h3]
  unfold leftB five second
  dsimp only
  exact tuple (Block.out_B_10 ..)
    (Block.out_B_11 ..)
    (Block.out_B_12 ..)
    (Block.out_B_13 ..)
    (Block.out_B_14 ..)

/-- The second half's blocks after an even point between. -/
theorem at_C_second (h0 : ¬t.val % 33 = 0) (h1 : ¬t.val % 2 = 1)
    (h2 : Even t)
    (h3 : ¬t.val % 33 = 32) :
    five (outsAt0 m c t.val t.isLt) = second (Block.lin (iblk m c 1 t) (iblk m c 6 t) (iblk m c 7 t) (iblk m c 8 t) (outsAt0 m c (t.val - 1) (Nat.lt_of_le_of_lt (Nat.sub_le _ _) t.isLt)).2.2.2.2.2.2.2)
      (iblk m c 2 t) (iblk m c 3 t) := by
  rw [outsAt0_C m c t h0 h1 h2 h3]
  unfold leftC five second
  dsimp only
  exact tuple (Block.out_C_10 ..)
    (Block.out_C_11 ..)
    (Block.out_C_12 ..)
    (Block.out_C_13 ..)
    (Block.out_C_14 ..)

/-- The second half's blocks after the last point. -/
theorem at_D_second (h0 : ¬t.val % 33 = 0) (h1 : ¬t.val % 2 = 1)
    (h2 : ¬Even t)
    (h3 : t.val % 33 = 32) :
    five (outsAt0 m c t.val t.isLt) = second (Block.lin (iblk m c 1 t) (iblk m c 6 t) (iblk m c 7 t) (iblk m c 8 t) (outsAt0 m c (t.val - 1) (Nat.lt_of_le_of_lt (Nat.sub_le _ _) t.isLt)).2.2.2.2.2.2.2)
      (iblk m c 2 t) (iblk m c 3 t) := by
  rw [outsAt0_D m c t h0 h1 h2 h3]
  unfold leftD five second
  dsimp only
  exact tuple (Block.out_D_10 ..)
    (Block.out_D_11 ..)
    (Block.out_D_12 ..)
    (Block.out_D_13 ..)
    (Block.out_D_14 ..)

/-- The last point leaves the norm codes' block as it is. -/
theorem at_D_codes (h0 : ¬t.val % 33 = 0) (h1 : ¬t.val % 2 = 1)
    (h2 : ¬Even t)
    (h3 : t.val % 33 = 32) :
    (outsAt0 m c t.val t.isLt).1 = (outsAt0 m c (t.val - 1) (Nat.lt_of_le_of_lt (Nat.sub_le _ _) t.isLt)).1 := by
  rw [outsAt0_D m c t h0 h1 h2 h3]
  unfold leftD
  dsimp only

end Points

/-- An even point that is neither the first nor the last is in that list. -/
theorem between (t : Fin cfg0.N) (h0 : ¬t.val % 33 = 0) (h1 : ¬t.val % 2 = 1) (h3 : ¬t.val % 33 = 32) :
    Even t := by
  have hN : cfg0.N = 33 := N_0
  have ht : t.val < 33 := hN ▸ t.isLt
  unfold Even
  rw [Nat.mod_eq_of_lt ht] at h0 h3 ⊢
  omega

/-- The norm codes' block after point `t` below 32. -/
theorem codesBelow (t : Fin cfg0.N) (h : t.val < 32) : (outsAt0 m c t.val t.isLt).1 = rowsOf (G9 m c) (cur t) := by
  by_cases h0 : t.val % 33 = 0
  · exact at_A_codes m c t h0 (by omega) (by omega) (by omega)
  by_cases h1 : t.val % 2 = 1
  · exact at_B_codes m c t h0 h1 (by omega) (by omega)
  · exact at_C_codes m c t h0 h1 (between t h0 h1 (by omega)) (by omega)

/-- The norm codes' block after any point: the last point leaves what point 31 left. -/
theorem codesAt (t : Fin cfg0.N) : (outsAt0 m c t.val t.isLt).1 = rowsOf (G9 m c) (cur t) := by
  have hN : cfg0.N = 33 := N_0
  have ht := t.isLt
  by_cases h : t.val < 32
  · exact codesBelow m c t h
  · refine (at_D_codes m c t (by omega) (by omega) (by omega) (by omega)).trans ?_
    refine (codesBelow m c ⟨t.val - 1, Nat.lt_of_le_of_lt (Nat.sub_le _ _) t.isLt⟩ (by show t.val - 1 < 32; omega)).trans ?_
    exact congrArg (rowsOf (G9 m c)) (Fin.ext (by show min (t.val - 1) 31 = min t.val 31; omega))

/-- The first scratch buffer after an even point below 32. -/
theorem scratch0 (t : Fin cfg0.N) (h : t.val < 32) (he : t.val % 2 = 0) :
    (outsAt0 m c t.val t.isLt).2.2.2.2.2.2.1 = rowsOf (Normed m c) (cur t) := by
  by_cases h0 : t.val % 33 = 0
  · exact at_A_scr m c t h0 (by omega) (by omega) (by omega)
  · exact at_C_scr m c t h0 (by omega) (between t h0 (by omega) (by omega)) (by omega)

/-- The second scratch buffer after an odd point. -/
theorem scratch1 (t : Fin cfg0.N) (h : t.val < 32) (ho : t.val % 2 = 1) :
    (outsAt0 m c t.val t.isLt).2.2.2.2.2.2.2 = rowsOf (Normed m c) (cur t) :=
  at_B_scr m c t (by omega) ho (by omega) (by omega)

/-- The second half's blocks over the scratch rows of the point before. -/
theorem second_of (t : Fin cfg0.N) (X : Vec Ideal S256x3072 .bf16) (hX : X = rowsOf (Normed m c) (prev t)) :
    second (Block.lin (iblk m c 1 t) (iblk m c 6 t) (iblk m c 7 t) (iblk m c 8 t) X) (iblk m c 2 t) (iblk m c 3 t)
      = second (rowsOf (Lin m c) (prev t)) (rowsOf (V m c main_arg2) (prev t)) (rowsOf (V m c main_arg3) (prev t)) := by
  rw [hX, lin_iblk m c t (prev t), iblk2 m c t, iblk3 m c t]

/-- The second half's blocks after every point but the first. -/
theorem secondAt (t : Fin cfg0.N) (h : t.val ≠ 0) : five (outsAt0 m c t.val t.isLt)
    = second (rowsOf (Lin m c) (prev t)) (rowsOf (V m c main_arg2) (prev t)) (rowsOf (V m c main_arg3) (prev t)) := by
  have hN : cfg0.N = 33 := N_0
  have ht := t.isLt
  have hl : t.val - 1 < cfg0.N := Nat.lt_of_le_of_lt (Nat.sub_le _ _) t.isLt
  have hc : cur ⟨t.val - 1, hl⟩ = prev t := Fin.ext (by show min (t.val - 1) 31 = t.val - 1; omega)
  by_cases h1 : t.val % 2 = 1
  · have hs := scratch0 m c ⟨t.val - 1, hl⟩ (by show t.val - 1 < 32; omega) (by show (t.val - 1) % 2 = 0; omega)
    rw [hc] at hs
    exact (at_B_second m c t (by omega) h1 (by omega) (by omega)).trans (second_of m c t _ hs)
  · have hs := scratch1 m c ⟨t.val - 1, hl⟩ (by show t.val - 1 < 32; omega) (by show (t.val - 1) % 2 = 1; omega)
    rw [hc] at hs
    by_cases h3 : t.val % 33 = 32
    · exact (at_D_second m c t (by omega) h1 (by omega) h3).trans (second_of m c t _ hs)
    · exact (at_C_second m c t (by omega) h1 (between t (by omega) h1 h3) h3).trans (second_of m c t _ hs)

/-! ## The run -/

/-- What a point writes back to the norm's codes is its block of `G9`. -/
theorem flushed9 (t : Fin cfg0.N) : (dats m 0 c).flushed 9 t = ((cfg0.win 9).blk t).view.read (Elt Ideal) (G9 m c) := by
  rw [Value.flushed9, codesAt]
  funext j
  obtain ⟨r, k, rfl⟩ : ∃ r k, j = ValueIdx.ix2 r k := ⟨j 0, j 1, ValueIdx.eq_ix2 j⟩
  exact congrArg (G9 m c) (emb9 t r k).symm

/-- A row of the keys of a block of rows is that row of the keys. -/
theorem keyRow (t : Fin cfg0.N) (r : Fin 256) :
    row (keys (rowsOf (Lin m c) (prev t)) (rowsOf (V m c main_arg2) (prev t)) (rowsOf (V m c main_arg3) (prev t))) r
      = row (Keys m c) (rowIn (prev t) r) :=
  keys_rows _ (Lin m c) _ _ (V m c main_arg2) (V m c main_arg3) r (rowIn (prev t) r) (fun _ => rfl) (fun _ => rfl) (fun _ => rfl)

/-- What a point writes back to the queries is its block of `G10`. -/
theorem flushed10 (t : Fin cfg0.N) (hf : (cfg0.win 10).flush t = true) :
    (dats m 0 c).flushed 10 t = ((cfg0.win 10).blk t).view.read (Elt Ideal) (G10 m c) := by
  have h := congrArg (fun p => p.1) (secondAt m c t ((flush10 t).mp hf))
  rw [Value.flushed10]
  refine (congrArg ((cfg0.win 10).cut (grid0.coords t)) h).trans ?_
  funext j
  obtain ⟨r, k, rfl⟩ : ∃ r k, j = ValueIdx.ix2 r k := ⟨j 0, j 1, ValueIdx.eq_ix2 j⟩
  exact (queries_rows _ (Lin m c) _ _ (V m c main_arg2) (V m c main_arg3) r (rowIn (prev t) r) (fun _ => rfl) (fun _ => rfl) (fun _ => rfl) k).trans
    (congrArg (G10 m c) (emb10 t r k).symm)

/-- What a point writes back to the keys' codes is its block of `G11`. -/
theorem flushed11 (t : Fin cfg0.N) (hf : (cfg0.win 11).flush t = true) :
    (dats m 0 c).flushed 11 t = ((cfg0.win 11).blk t).view.read (Elt Ideal) (G11 m c) := by
  have h := congrArg (fun p => p.2.1) (secondAt m c t ((flush11 t).mp hf))
  rw [Value.flushed11]
  refine (congrArg ((cfg0.win 11).cut (grid0.coords t)) h).trans ?_
  funext j
  obtain ⟨r, k, rfl⟩ : ∃ r k, j = ValueIdx.ix2 r k := ⟨j 0, j 1, ValueIdx.eq_ix2 j⟩
  exact (rowCodes_rows _ (Keys m c) r (rowIn (prev t) r) (keyRow m c t r) k).trans
    (congrArg (G11 m c) (emb11 t r k).symm)

/-- What a point writes back to the keys' scales is its block of `G12`. -/
theorem flushed12 (t : Fin cfg0.N) (hf : (cfg0.win 12).flush t = true) :
    (dats m 0 c).flushed 12 t = ((cfg0.win 12).blk t).view.read (Elt Ideal) (G12 m c) := by
  have h := congrArg (fun p => p.2.2.1) (secondAt m c t ((flush12 t).mp hf))
  rw [Value.flushed12]
  refine (congrArg ((cfg0.win 12).cut (grid0.coords t)) h).trans ?_
  funext j
  obtain ⟨r, rfl⟩ : ∃ r : Fin 256, j = ValueIdx.ix3 (0 : Fin 1) (0 : Fin 1) r := ⟨j 2, funext fun a => Fin.ext (by
      match a with
      | ⟨0, _⟩ => exact Nat.lt_one_iff.mp (j 0).isLt
      | ⟨1, _⟩ => exact Nat.lt_one_iff.mp (j 1).isLt
      | ⟨2, _⟩ => rfl)⟩
  exact (scales_rows _ (Keys m c) (prev t) r (rowIn (prev t) r) rfl (keyRow m c t r)).trans
    (congrArg (G12 m c) (emb12 t r).symm)

/-- What a point writes back to the values' codes is its block of `G13`. -/
theorem flushed13 (t : Fin cfg0.N) (hf : (cfg0.win 13).flush t = true) :
    (dats m 0 c).flushed 13 t = ((cfg0.win 13).blk t).view.read (Elt Ideal) (G13 m c) := by
  have h := congrArg (fun p => p.2.2.2.1) (secondAt m c t ((flush13 t).mp hf))
  rw [Value.flushed13]
  refine (congrArg ((cfg0.win 13).cut (grid0.coords t)) h).trans ?_
  funext j
  obtain ⟨r, k, rfl⟩ : ∃ r k, j = ValueIdx.ix2 r k := ⟨j 0, j 1, ValueIdx.eq_ix2 j⟩
  exact (rowCodes_rows _ (values (Lin m c)) r (rowIn (prev t) r) rfl k).trans
    (congrArg (G13 m c) (emb13 t r k).symm)

/-- What a point writes back to the values' scales is its block of `G14`. -/
theorem flushed14 (t : Fin cfg0.N) (hf : (cfg0.win 14).flush t = true) :
    (dats m 0 c).flushed 14 t = ((cfg0.win 14).blk t).view.read (Elt Ideal) (G14 m c) := by
  have h := congrArg (fun p => p.2.2.2.2) (secondAt m c t ((flush14 t).mp hf))
  rw [Value.flushed14]
  refine (congrArg ((cfg0.win 14).cut (grid0.coords t)) h).trans ?_
  funext j
  obtain ⟨r, rfl⟩ : ∃ r : Fin 256, j = ValueIdx.ix3 (0 : Fin 1) (0 : Fin 1) r := ⟨j 2, funext fun a => Fin.ext (by
      match a with
      | ⟨0, _⟩ => exact Nat.lt_one_iff.mp (j 0).isLt
      | ⟨1, _⟩ => exact Nat.lt_one_iff.mp (j 1).isLt
      | ⟨2, _⟩ => rfl)⟩
  exact (scales_rows _ (values (Lin m c)) (prev t) r (rowIn (prev t) r) rfl rfl).trans
    (congrArg (G14 m c) (emb14 t r).symm)

/-- The kernel's run: its six results are the norm's codes, the queries, and the keys and the values with their scales, of the
    launch arguments, which stay. -/
theorem run : θ_run defs (onTc (τ := τ) (main (F := Ideal))) ⟨m, fun _ => 0, ρ⟩ fun r => ∀ c : Dev nD,
      r.2.mem ((c : Thread nD τ).loc main_v0_0) = G9 m c
      ∧ r.2.mem ((c : Thread nD τ).loc main_v0_1) = G10 m c
      ∧ r.2.mem ((c : Thread nD τ).loc main_v0_2) = G11 m c
      ∧ r.2.mem ((c : Thread nD τ).loc main_v0_3) = G12 m c
      ∧ r.2.mem ((c : Thread nD τ).loc main_v0_4) = G13 m c
      ∧ r.2.mem ((c : Thread nD τ).loc main_v0_5) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    have ⟨h9, h10, h11, h12, h13, h14, ha⟩ := h c
    ⟨h9.trans ((dats m 0 c).arrAt_eq_of_cover 9 (G9 m c) (fun t _ => flushed9 m c t) covered9),
      h10.trans ((dats m 0 c).arrAt_eq_of_cover 10 (G10 m c) (fun t hf => flushed10 m c t hf) covered10),
      h11.trans ((dats m 0 c).arrAt_eq_of_cover 11 (G11 m c) (fun t hf => flushed11 m c t hf) covered11),
      h12.trans ((dats m 0 c).arrAt_eq_of_cover 12 (G12 m c) (fun t hf => flushed12 m c t hf) covered12),
      h13.trans ((dats m 0 c).arrAt_eq_of_cover 13 (G13 m c) (fun t hf => flushed13 m c t hf) covered13),
      h14.trans ((dats m 0 c).arrAt_eq_of_cover 14 (G14 m c) (fun t hf => flushed14 m c t hf) covered14), ha⟩)
    (Value.run_blocks m ρ)

end Cert.QkvIdeal.Array

end
-- ==== Proof.MlpReference.lean ====
/- What the MLP's reference computes, entry by entry: its codes are the quantised gelu of the first layer (`W8A8.fcCode`)
   and its hidden array is the residual plus the second layer over those codes (`W8A8.projOut`). -/
module

public import proofs.«01_k».proof.Proof.Gen.MlpRefIdeal.Value
public import proofs.«01_k».proof.Proof.W8A8

@[expose] public section

noncomputable section

namespace Cert.MlpRefIdeal.Reference

open Cert.MlpRefIdeal Cert.MlpRefIdeal.Gen Cert.W8A8 Idealize.ShloMosaic Idealize.ShloMosaic.ValueIdx

variable (a0 : Vec Ideal S8192x3072 .i8) (a1 : Vec Ideal S8192x3072 .f32) (a2 a3 : Vec Ideal S1x1 .f32)
  (a4 : Vec Ideal S3072x6144 .i8) (a5 : Vec Ideal S1x6144 .f32) (a6 : Vec Ideal S1x6144 .i32)
  (a7 : Vec Ideal S6144x3072 .i8) (a8 : Vec Ideal S1x3072 .f32) (a9 : Vec Ideal S1x3072 .i32)

/-- The reference's code at `(r, c)`. -/
theorem codes_apply (r : Fin 8192) (c : Fin 6144) :
    k0_pay2 (F := Ideal) a0 a2 a4 a5 a6 a3 (ix2 r c)
      = Ideal.fptosi 8 (fcCode a0 a4 a6 a5 (a2 (ix2 0 0)) (a3 (ix2 0 0)) r c) := by
  have hv : k0_pay2 (F := Ideal) a0 a2 a4 a5 a6 a3
      = fptosi 8 (quantVec (geluVec (layerVec dot_S8192x3072_S3072x6144_S8192x6144_1_0_0_1_n_n (sitofp .bf16 a0) a4 a6
        (mulf (F := Ideal) (φ := .f32) (broadcastTo S1x6144 a2 broadcasts_S1x1_S1x6144) a5)
        broadcasts_S1x6144_S8192x6144)) (broadcastTo S8192x6144 a3 broadcasts_S1x1_S8192x6144)) := rfl
  have h2 := broadcastTo_11_apply a2 broadcasts_S1x1_S1x6144 0 c
  have h3 := broadcastTo_11_apply a3 broadcasts_S1x1_S8192x6144 r c
  rw [hv]
  show Ideal.fptosi 8 (quantVec _ _ (ix2 r c)) = _
  rw [quantVec_apply, geluVec_apply]
  refine (congrArg₂ (fun h d => Ideal.fptosi 8 (quant (gelu h) d)) (layer_apply _ rfl _ _ _ _ _ r c) h3).trans ?_
  show Ideal.fptosi 8 (quant (gelu (_ * (broadcastTo S1x6144 a2 broadcasts_S1x1_S1x6144 (ix2 0 c) * _))) _) = _
  rw [h2]
  rfl

/-- The reference's hidden entry at `(r, c)`, over any codes `g`. -/
theorem hidden_apply (g : Vec Ideal S8192x6144 .i8) (r : Fin 8192) (c : Fin 3072) :
    k0_pay1 (F := Ideal) g a3 a7 a8 a9 a1 (ix2 r c)
      = projOut a1 (fun i => code (g i)) a7 a9 a8 (a3 (ix2 0 0)) r c := by
  have hv : k0_pay1 (F := Ideal) g a3 a7 a8 a9 a1
      = addf (F := Ideal) (φ := .f32) a1 (layerVec dot_S8192x6144_S6144x3072_S8192x3072_1_0_0_1_n_n (sitofp .bf16 g) a7 a9
        (mulf (F := Ideal) (φ := .f32) (broadcastTo S1x3072 a3 broadcasts_S1x1_S1x3072) a8)
        broadcasts_S1x3072_S8192x3072) := rfl
  have h3 := broadcastTo_11_apply a3 broadcasts_S1x1_S1x3072 0 c
  rw [hv]
  show a1 (ix2 r c) + layerVec _ _ _ _ _ _ (ix2 r c) = _
  refine (congrArg (fun h => a1 (ix2 r c) + h) (layer_apply _ rfl _ _ _ _ _ r c)).trans ?_
  show _ + _ * (broadcastTo S1x3072 a3 broadcasts_S1x1_S1x3072 (ix2 0 c) * _) = _
  rw [h3]
  rfl

/-- The reference's codes, as an array of its arguments. -/
theorem codes_eq : Value.G10 (F := Ideal) a0 a1 a2 a3 a4 a5 a6 a7 a8 a9
    = fcCodes a0 a4 a6 a5 (a2 (ix2 0 0)) (a3 (ix2 0 0)) := by
  funext i
  obtain ⟨r, c, rfl⟩ : ∃ r c, i = ix2 r c := ⟨i 0, i 1, eq_ix2 i⟩
  unfold Value.G10 k0_pay3
  rw [View.ld_unit_zero (S := S8192x3072) Value.hz0 _ a0, View.ld_unit_zero (S := S1x1) Value.hz0 _ a2,
    View.ld_unit_zero (S := S3072x6144) Value.hz0 _ a4, View.ld_unit_zero (S := S1x6144) Value.hz0 _ a5,
    View.ld_unit_zero (S := S1x6144) Value.hz0 _ a6, View.ld_unit_zero (S := S1x1) Value.hz0 _ a3]
  exact codes_apply a0 a2 a3 a4 a5 a6 r c

/-- The reference's hidden array, as an array of its arguments. -/
theorem hidden_eq : Value.G11 (F := Ideal) a0 a1 a2 a3 a4 a5 a6 a7 a8 a9
    = projOuts a1 (fcReal a0 a4 a6 a5 (a2 (ix2 0 0)) (a3 (ix2 0 0))) a7 a9 a8 (a3 (ix2 0 0)) := by
  funext i
  obtain ⟨r, c, rfl⟩ : ∃ r c, i = ix2 r c := ⟨i 0, i 1, eq_ix2 i⟩
  show k0_pay1 (F := Ideal) (Value.G10 a0 a1 a2 a3 a4 a5 a6 a7 a8 a9) a3 a7 a8 a9 a1 (ix2 r c) = _
  rw [codes_eq, hidden_apply, code_fcCodes]
  rfl

end Cert.MlpRefIdeal.Reference

end
-- ==== Proof.MlpBlock.lean ====
/- What the MLP kernel's body leaves at one grid point: the block of codes is the quantised gelu of the first layer on
   the point's rows (24 stores of 256 columns), and the hidden block is the residual plus the second layer over those codes
   (12 stores of 256 columns), read back from the scratch that the first layer filled. Case A is the point that copies
   the two weight matrices into scratch, case B a point that finds them there. -/
module

public import proofs.«01_k».proof.Proof.Gen.MlpIdeal.Value
public import proofs.«01_k».proof.Proof.W8A8
public import Idealize.ShloMosaic.Lib.Pointwise.TacticCore

@[expose] public section

set_option maxRecDepth 16384

noncomputable section

namespace Cert.MlpIdeal.Block

open Cert.MlpIdeal Cert.MlpIdeal.Gen Cert.W8A8 Idealize.ShloMosaic Idealize.ShloMosaic.TcCoe Idealize.ShloMosaic.Tactic

variable (c : Dev nD) (i : grid0.Coords) (arg1 : Memref sig .tc .vmem S256x3072 .i8) (harg1 : arg1.IsWhole)
  (arg2 : Memref sig .tc .vmem S256x3072 .f32) (harg2 : arg2.IsWhole) (arg3 : Memref sig .tc .smem S1x1 .f32) (harg3 : arg3.IsWhole)
  (arg4 : Memref sig .tc .smem S1x1 .f32) (harg4 : arg4.IsWhole) (arg6 : Memref sig .tc .vmem S1x6144 .f32) (harg6 : arg6.IsWhole)
  (arg7 : Memref sig .tc .vmem S1x6144 .i32) (harg7 : arg7.IsWhole) (arg9 : Memref sig .tc .vmem S1x3072 .f32) (harg9 : arg9.IsWhole)
  (arg10 : Memref sig .tc .vmem S1x3072 .i32) (harg10 : arg10.IsWhole) (arg11 : Memref sig .tc .vmem S256x6144 .i8) (harg11 : arg11.IsWhole)
  (arg12 : Memref sig .tc .vmem S256x3072 .bf16) (harg12 : arg12.IsWhole) (arg13 : Memref sig .tc .vmem S3072x6144 .i8) (harg13 : arg13.IsWhole)
  (arg14 : Memref sig .tc .vmem S6144x3072 .i8) (harg14 : arg14.IsWhole) (arg15 : Memref sig .tc .vmem S256x6144 .bf16) (harg15 : arg15.IsWhole)
  (x0 : Vec Ideal S256x3072 .i8) (x1 : Vec Ideal S256x3072 .f32) (x2 : Vec Ideal S1x1 .f32) (x3 : Vec Ideal S1x1 .f32) (x4 : Vec Ideal S1x6144 .f32)
  (x5 : Vec Ideal S1x6144 .i32) (x6 : Vec Ideal S1x3072 .f32) (x7 : Vec Ideal S1x3072 .i32)

variable (w : Vec Ideal S3072x6144 .i8) (p : Vec Ideal S6144x3072 .i8)

/-- The scalar that a one-element block holds. -/
theorem first_11 (X : Vec Ideal S1x1 .f32) (r : Rect S1x1) (hr : r = Rect.unit ![0, 0] ![1, 1] inb_S1x1_S1x1_0_0)
    (h : 0 < r.shape.numel) : View.ld X r (Shape.Idx.first h) = X (ValueIdx.ix2 0 0) := by
  refine congrArg X (funext fun a => Fin.ext ?_)
  subst hr
  match a with
  | ⟨0, _⟩ => rfl
  | ⟨1, _⟩ => rfl

section CaseB

variable (hc : ¬cond0_0 i) (fh0 : HbBuf0 (F := Ideal) c hbM0_0) (fh1 : HbBuf0 (F := Ideal) c hbM0_1)

/-- The codes block at a point that finds the weights in scratch. -/
theorem out_B_8 :
    out0_B_8 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p fh0 fh1
    = fcCodes x0 w x5 x4 (x2 (ValueIdx.ix2 0 0)) (x3 (ValueIdx.ix2 0 0)) := by
  unfold out0_B_8
  rw [View.read_writes_eq_canon _ _ _ (cover0_B_8 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p fh0 fh1)]
  funext y
  refine View.canon_apply_of_pieces (fcCodes x0 w x5 x4 (x2 (ValueIdx.ix2 0 0)) (x3 (ValueIdx.ix2 0 0))) _ ?_ y (cover0_B_8 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p fh0 fh1 y)
  unfold kernelRun0_B
  dsimp only
  sl_unfold_words
  simp only [View.readAt_eq_ld, readCov_whole, harg1.read_unread, harg2.read_unread, harg3.read_unread, harg4.read_unread,
    harg6.read_unread, harg7.read_unread, harg9.read_unread, harg10.read_unread, harg13.read_unread, harg14.read_unread]
  simp only [first_11 x2 _ rfl, first_11 x3 _ rfl]
  repeat
    refine List.forall_mem_cons.mpr ⟨fun x => ?_, ?_⟩
    · dsimp only
      unfold_payloads
      exact congrArg (Ideal.fptosi 8) (codes_piece dot_S256x3072_S3072x256_S256x256_1_0_0_1_n_n rfl x0 w x5 x4
        (x2 (ValueIdx.ix2 0 0)) (x3 (ValueIdx.ix2 0 0)) _ _ _ _ _ _ _ x)
  exact fun q hq => absurd hq List.not_mem_nil

/-- The hidden block at a point that finds the weights in scratch. -/
theorem out_B_9 :
    out0_B_9 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p fh0 fh1
    = projOuts x1 (fcReal x0 w x5 x4 (x2 (ValueIdx.ix2 0 0)) (x3 (ValueIdx.ix2 0 0))) p x7 x6 (x3 (ValueIdx.ix2 0 0)) := by
  unfold out0_B_9
  rw [View.read_writes_eq_canon _ _ _ (cover0_B_9 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p fh0 fh1)]
  funext y
  refine View.canon_apply_of_pieces (projOuts x1 (fcReal x0 w x5 x4 (x2 (ValueIdx.ix2 0 0)) (x3 (ValueIdx.ix2 0 0))) p x7 x6 (x3 (ValueIdx.ix2 0 0))) _ ?_ y (cover0_B_9 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p fh0 fh1 y)
  unfold kernelRun0_B
  dsimp only
  sl_unfold_words
  simp only [View.readAt_eq_ld, readCov_whole, harg1.read_unread, harg2.read_unread, harg3.read_unread, harg4.read_unread,
    harg6.read_unread, harg7.read_unread, harg9.read_unread, harg10.read_unread, harg13.read_unread, harg14.read_unread]
  simp only [first_11 x2 _ rfl, first_11 x3 _ rfl]
  rw [readCov_of_pieces arg15.view _ (fcReal x0 w x5 x4 (x2 (ValueIdx.ix2 0 0)) (x3 (ValueIdx.ix2 0 0)))
    (funext fun a => by fin_cases a <;> rfl) _ ?_ ?_]
  rotate_left
  · exact View.cover_of_tiledL _ S256x256.size (by sl_kernel_rfl)
  · skip
    repeat
      refine List.forall_mem_cons.mpr ⟨fun x => ?_, ?_⟩
      · dsimp only
        unfold_payloads
        rw [shapeCast_self]
        exact codes_piece dot_S256x3072_S3072x256_S256x256_1_0_0_1_n_n rfl x0 w x5 x4 (x2 (ValueIdx.ix2 0 0)) (x3 (ValueIdx.ix2 0 0)) _ _ _ _ _ _ _ x
    exact fun q hq => absurd hq List.not_mem_nil
  repeat
    refine List.forall_mem_cons.mpr ⟨fun x => ?_, ?_⟩
    · dsimp only
      unfold_payloads
      exact proj_piece dot_S256x6144_S6144x256_S256x256_1_0_0_1_n_n rfl x1 (fcReal x0 w x5 x4 (x2 (ValueIdx.ix2 0 0)) (x3 (ValueIdx.ix2 0 0)))
        p x7 x6 (x3 (ValueIdx.ix2 0 0)) _ _ _ _ _ _ _ x
  exact fun q hq => absurd hq List.not_mem_nil

end CaseB

section CaseA

variable (hc : cond0_0 i)

/-- The codes block at a point that copies the weights in. -/
theorem out_A_8 :
    out0_A_8 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p
    = fcCodes x0 w x5 x4 (x2 (ValueIdx.ix2 0 0)) (x3 (ValueIdx.ix2 0 0)) := by
  unfold out0_A_8
  rw [View.read_writes_eq_canon _ _ _ (cover0_A_8 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p)]
  funext y
  refine View.canon_apply_of_pieces (fcCodes x0 w x5 x4 (x2 (ValueIdx.ix2 0 0)) (x3 (ValueIdx.ix2 0 0))) _ ?_ y (cover0_A_8 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p y)
  unfold kernelRun0_A
  dsimp only
  sl_unfold_words
  simp only [View.readAt_eq_ld, readCov_whole, harg1.read_unread, harg2.read_unread, harg3.read_unread, harg4.read_unread,
    harg6.read_unread, harg7.read_unread, harg9.read_unread, harg10.read_unread, harg13.read_unread, harg14.read_unread]
  simp only [first_11 x2 _ rfl, first_11 x3 _ rfl]
  repeat
    refine List.forall_mem_cons.mpr ⟨fun x => ?_, ?_⟩
    · dsimp only
      unfold_payloads
      exact congrArg (Ideal.fptosi 8) (codes_piece dot_S256x3072_S3072x256_S256x256_1_0_0_1_n_n rfl x0 w x5 x4
        (x2 (ValueIdx.ix2 0 0)) (x3 (ValueIdx.ix2 0 0)) _ _ _ _ _ _ _ x)
  exact fun q hq => absurd hq List.not_mem_nil

/-- The hidden block at a point that copies the weights in. -/
theorem out_A_9 :
    out0_A_9 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p
    = projOuts x1 (fcReal x0 w x5 x4 (x2 (ValueIdx.ix2 0 0)) (x3 (ValueIdx.ix2 0 0))) p x7 x6 (x3 (ValueIdx.ix2 0 0)) := by
  unfold out0_A_9
  rw [View.read_writes_eq_canon _ _ _ (cover0_A_9 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p)]
  funext y
  refine View.canon_apply_of_pieces (projOuts x1 (fcReal x0 w x5 x4 (x2 (ValueIdx.ix2 0 0)) (x3 (ValueIdx.ix2 0 0))) p x7 x6 (x3 (ValueIdx.ix2 0 0))) _ ?_ y (cover0_A_9 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p y)
  unfold kernelRun0_A
  dsimp only
  sl_unfold_words
  simp only [View.readAt_eq_ld, readCov_whole, harg1.read_unread, harg2.read_unread, harg3.read_unread, harg4.read_unread,
    harg6.read_unread, harg7.read_unread, harg9.read_unread, harg10.read_unread, harg13.read_unread, harg14.read_unread]
  simp only [first_11 x2 _ rfl, first_11 x3 _ rfl]
  rw [readCov_of_pieces arg15.view _ (fcReal x0 w x5 x4 (x2 (ValueIdx.ix2 0 0)) (x3 (ValueIdx.ix2 0 0)))
    (funext fun a => by fin_cases a <;> rfl) _ ?_ ?_]
  rotate_left
  · exact View.cover_of_tiledL _ S256x256.size (by sl_kernel_rfl)
  · skip
    repeat
      refine List.forall_mem_cons.mpr ⟨fun x => ?_, ?_⟩
      · dsimp only
        unfold_payloads
        rw [shapeCast_self]
        exact codes_piece dot_S256x3072_S3072x256_S256x256_1_0_0_1_n_n rfl x0 w x5 x4 (x2 (ValueIdx.ix2 0 0)) (x3 (ValueIdx.ix2 0 0)) _ _ _ _ _ _ _ x
    exact fun q hq => absurd hq List.not_mem_nil
  repeat
    refine List.forall_mem_cons.mpr ⟨fun x => ?_, ?_⟩
    · dsimp only
      unfold_payloads
      exact proj_piece dot_S256x6144_S6144x256_S256x256_1_0_0_1_n_n rfl x1 (fcReal x0 w x5 x4 (x2 (ValueIdx.ix2 0 0)) (x3 (ValueIdx.ix2 0 0)))
        p x7 x6 (x3 (ValueIdx.ix2 0 0)) _ _ _ _ _ _ _ x
  exact fun q hq => absurd hq List.not_mem_nil

/-- Scratch after that point: the first layer's weights, whole. -/
theorem sout_A_0 :
    sout0_A_0 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p = w := by
  unfold sout0_A_0
  rw [View.read_writes_eq_canon _ _ _ (scover0_A_0 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p)]
  funext y
  refine View.canon_apply_of_pieces w _ ?_ y (scover0_A_0 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p y)
  unfold kernelRun0_A
  dsimp only
  refine List.forall_mem_cons.mpr ⟨fun x => congrArg w (Rect.emb_whole_apply _ x).symm, ?_⟩
  exact fun q hq => absurd hq List.not_mem_nil

/-- Scratch after that point: the second layer's weights, whole. -/
theorem sout_A_1 :
    sout0_A_1 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p = p := by
  unfold sout0_A_1
  rw [View.read_writes_eq_canon _ _ _ (scover0_A_1 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p)]
  funext y
  refine View.canon_apply_of_pieces p _ ?_ y (scover0_A_1 c i arg1 harg1 arg2 harg2 arg3 harg3 arg4 harg4 arg6 harg6 arg7 harg7 arg9 harg9 arg10 harg10 arg11 harg11 arg12 harg12
      arg13 harg13 arg14 harg14 arg15 harg15 hc x0 x1 x2 x3 x4 x5 x6 x7 w p y)
  unfold kernelRun0_A
  dsimp only
  refine List.forall_mem_cons.mpr ⟨fun x => congrArg p (Rect.emb_whole_apply _ x).symm, ?_⟩
  exact fun q hq => absurd hq List.not_mem_nil

end CaseA

end Cert.MlpIdeal.Block

end
-- ==== Proof.MlpArray.lean ====
/- The MLP kernel's two result arrays after the whole grid. The 32 points take 256 rows each; the weights reach scratch
   at the first point and stay there; each point's blocks are the layers on its rows (`Block`), and a layer's row depends on
   that row only, so the blocks are the pieces of the layers over the whole arrays. -/
module

public import proofs.«01_k».proof.Proof.MlpBlock

@[expose] public section

set_option maxRecDepth 16384

noncomputable section

namespace Cert.MlpIdeal.Array

open Cert.MlpIdeal Cert.MlpIdeal.Gen Cert.W8A8 Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Where the blocks lie -/

/-- Row `r` of point `t`'s block, as a row of the whole array. -/
def row (t : Fin cfg0.N) (r : Fin 256) : Fin 8192 :=
  ⟨256 * t.val + r.val, by have h := t.isLt; have hN : cfg0.N = 32 := N_0; have hr := r.isLt; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = t.val ∧ win0_8.index t (1 : Fin 2) = 0 :=
  (by decide +kernel : ∀ t : Fin grid0.N, _)

theorem idx9 : ∀ t : Fin cfg0.N, win0_9.index t (0 : Fin 2) = t.val ∧ win0_9.index t (1 : Fin 2) = 0 :=
  (by decide +kernel : ∀ t : Fin grid0.N, _)

/-- A point's block of `main_arg0`: rows `256 t … 256 t + 255`. -/
theorem iblk0 (t : Fin cfg0.N) (r : Fin 256) (k : Fin 3072) :
    iblk m c 0 t (ValueIdx.ix2 r k) = V m c main_arg0 (ValueIdx.ix2 (row t r) k) := by
  obtain ⟨e0, e1⟩ := idx0 t
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 3072 + 1 * k.val = k.val; omega

/-- A point's block of `main_arg1`: rows `256 t … 256 t + 255`. -/
theorem iblk1 (t : Fin cfg0.N) (r : Fin 256) (k : Fin 3072) :
    iblk m c 1 t (ValueIdx.ix2 r k) = V m c main_arg1 (ValueIdx.ix2 (row t r) k) := by
  obtain ⟨e0, e1⟩ := idx1 t
  refine congrArg (V m c main_arg1) (funext fun a => Fin.ext ?_)
  match a with
  | ⟨0, _⟩ => show win0_1.index t (0 : Fin 2) * 256 + 1 * r.val = 256 * t.val + r.val; omega
  | ⟨1, _⟩ => show win0_1.index t (1 : Fin 2) * 3072 + 1 * k.val = k.val; omega

/-- The activations' scale: every point's block is the whole array. -/
theorem iblk2 (t : Fin cfg0.N) : iblk m c 2 t = V m c main_arg2 := by
  obtain ⟨e0, e1⟩ := idx2 t
  funext j
  refine congrArg (V m c main_arg2) (funext fun a => Fin.ext ?_)
  match a with
  | ⟨0, _⟩ => show win0_2.index t (0 : Fin 2) * 1 + 1 * (j 0).val = (j 0).val; omega
  | ⟨1, _⟩ => show win0_2.index t (1 : Fin 2) * 1 + 1 * (j 1).val = (j 1).val; omega

/-- The codes' scale: every point's block is the whole array. -/
theorem iblk3 (t : Fin cfg0.N) : iblk m c 3 t = V m c main_arg3 := by
  obtain ⟨e0, e1⟩ := idx3 t
  funext j
  refine congrArg (V m c main_arg3) (funext fun a => Fin.ext ?_)
  match a with
  | ⟨0, _⟩ => show win0_3.index t (0 : Fin 2) * 1 + 1 * (j 0).val = (j 0).val; omega
  | ⟨1, _⟩ => show win0_3.index t (1 : Fin 2) * 1 + 1 * (j 1).val = (j 1).val; omega

/-- The first layer's channel scales: every point's block is the whole array. -/
theorem iblk4 (t : Fin cfg0.N) : iblk m c 4 t = V m c main_arg5 := by
  obtain ⟨e0, e1⟩ := idx4 t
  funext j
  refine congrArg (V m c main_arg5) (funext fun a => Fin.ext ?_)
  match a with
  | ⟨0, _⟩ => show win0_4.index t (0 : Fin 2) * 1 + 1 * (j 0).val = (j 0).val; omega
  | ⟨1, _⟩ => show win0_4.index t (1 : Fin 2) * 6144 + 1 * (j 1).val = (j 1).val; omega

/-- The first layer's bias: every point's block is the whole array. -/
theorem iblk5 (t : Fin cfg0.N) : iblk m c 5 t = V m c main_arg6 := by
  obtain ⟨e0, e1⟩ := idx5 t
  funext j
  refine congrArg (V m c main_arg6) (funext fun a => Fin.ext ?_)
  match a with
  | ⟨0, _⟩ => show win0_5.index t (0 : Fin 2) * 1 + 1 * (j 0).val = (j 0).val; omega
  | ⟨1, _⟩ => show win0_5.index t (1 : Fin 2) * 6144 + 1 * (j 1).val = (j 1).val; omega

/-- The second layer's channel scales: every point's block is the whole array. -/
theorem iblk6 (t : Fin cfg0.N) : iblk m c 6 t = V m c main_arg8 := by
  obtain ⟨e0, e1⟩ := idx6 t
  funext j
  refine congrArg (V m c main_arg8) (funext fun a => Fin.ext ?_)
  match a with
  | ⟨0, _⟩ => show win0_6.index t (0 : Fin 2) * 1 + 1 * (j 0).val = (j 0).val; omega
  | ⟨1, _⟩ => show win0_6.index t (1 : Fin 2) * 3072 + 1 * (j 1).val = (j 1).val; omega

/-- The second layer's bias: every point's block is the whole array. -/
theorem iblk7 (t : Fin cfg0.N) : iblk m c 7 t = V m c main_arg9 := by
  obtain ⟨e0, e1⟩ := idx7 t
  funext j
  refine congrArg (V m c main_arg9) (funext fun a => Fin.ext ?_)
  match a with
  | ⟨0, _⟩ => show win0_7.index t (0 : Fin 2) * 1 + 1 * (j 0).val = (j 0).val; omega
  | ⟨1, _⟩ => show win0_7.index t (1 : Fin 2) * 3072 + 1 * (j 1).val = (j 1).val; omega

/-- Where output window 8's block at a point lies in its array. -/
theorem emb8 (t : Fin cfg0.N) (r : Fin 256) (k : Fin 6144) :
    ((cfg0.win 8).blk t).view.emb (ValueIdx.ix2 r k) = (ValueIdx.ix2 (row t r) k : (⟨2, ![8192, 6144]⟩ : Shape).Idx) := by
  obtain ⟨e0, e1⟩ := idx8 t
  refine funext fun a => Fin.ext ?_
  match a with
  | ⟨0, _⟩ => show win0_8.index t (0 : Fin 2) * 256 + 1 * r.val = 256 * t.val + r.val; omega
  | ⟨1, _⟩ => show win0_8.index t (1 : Fin 2) * 6144 + 1 * k.val = k.val; omega

/-- The points' blocks of output window 8 cover its array. -/
theorem covered8 (i : (⟨2, ![8192, 6144]⟩ : Shape).Idx) :
    ∃ t : Fin cfg0.N, (cfg0.win 8).flush t = true ∧ i ∈ ((cfg0.win 8).blk t).view.set := by
  have h0 : (i 0).val < 8192 := (i 0).isLt
  have hN : cfg0.N = 32 := N_0
  have ht : (i 0).val / 256 < cfg0.N := by omega
  refine ⟨⟨(i 0).val / 256, ht⟩, flush0_8 _, ?_⟩
  have h := ((cfg0.win 8).blk ⟨(i 0).val / 256, ht⟩).view.emb_mem_set
    (ValueIdx.ix2 ⟨(i 0).val % 256, Nat.mod_lt _ (by norm_num)⟩ (i 1))
  refine (congrArg (· ∈ ((cfg0.win 8).blk ⟨(i 0).val / 256, ht⟩).view.set) ((emb8 _ _ _).trans ?_)).mp h
  refine (congrArg (ValueIdx.ix2 · (i 1)) (Fin.ext ?_)).trans (ValueIdx.eq_ix2 i).symm
  show 256 * ((i 0).val / 256) + (i 0).val % 256 = (i 0).val
  omega

/-- Where output window 9's block at a point lies in its array. -/
theorem emb9 (t : Fin cfg0.N) (r : Fin 256) (k : Fin 3072) :
    ((cfg0.win 9).blk t).view.emb (ValueIdx.ix2 r k) = (ValueIdx.ix2 (row t r) k : (⟨2, ![8192, 3072]⟩ : Shape).Idx) := by
  obtain ⟨e0, e1⟩ := idx9 t
  refine funext fun a => Fin.ext ?_
  match a with
  | ⟨0, _⟩ => show win0_9.index t (0 : Fin 2) * 256 + 1 * r.val = 256 * t.val + r.val; omega
  | ⟨1, _⟩ => show win0_9.index t (1 : Fin 2) * 3072 + 1 * k.val = k.val; omega

/-- The points' blocks of output window 9 cover its array. -/
theorem covered9 (i : (⟨2, ![8192, 3072]⟩ : Shape).Idx) :
    ∃ t : Fin cfg0.N, (cfg0.win 9).flush t = true ∧ i ∈ ((cfg0.win 9).blk t).view.set := by
  have h0 : (i 0).val < 8192 := (i 0).isLt
  have hN : cfg0.N = 32 := N_0
  have ht : (i 0).val / 256 < cfg0.N := by omega
  refine ⟨⟨(i 0).val / 256, ht⟩, flush0_9 _, ?_⟩
  have h := ((cfg0.win 9).blk ⟨(i 0).val / 256, ht⟩).view.emb_mem_set
    (ValueIdx.ix2 ⟨(i 0).val % 256, Nat.mod_lt _ (by norm_num)⟩ (i 1))
  refine (congrArg (· ∈ ((cfg0.win 9).blk ⟨(i 0).val / 256, ht⟩).view.set) ((emb9 _ _ _).trans ?_)).mp h
  refine (congrArg (ValueIdx.ix2 · (i 1)) (Fin.ext ?_)).trans (ValueIdx.eq_ix2 i).symm
  show 256 * ((i 0).val / 256) + (i 0).val % 256 = (i 0).val
  omega

/-! ## The weights in scratch -/

/-- The point that copies them in leaves the two weight matrices in scratch. -/
theorem scratchA (t : Fin cfg0.N) (h : t.val % 32 = 0) :
    (outsAt0 m c t.val t.isLt).2.2 = (V m c main_arg4, V m c main_arg7) := by
  rw [outsAt0_A m c t h]
  dsimp only
  rw [Block.sout_A_0, Block.sout_A_1]

/-- After every point the two scratch buffers hold the two weight matrices: the first point copies them, no later point
    writes there. -/
theorem scratch (n : ℕ) : ∀ hn : n < cfg0.N, (outsAt0 m c n hn).2.2 = (V m c main_arg4, V m c main_arg7) := by
  induction n with
  | zero =>
    intro hn
    exact scratchA m c ⟨0, hn⟩ rfl
  | succ n ih =>
    intro hn
    have hN : cfg0.N = 32 := N_0
    exact (congrArg (fun o => o.2.2) (outsAt0_B m c ⟨n + 1, hn⟩ (by show ¬(n + 1) % 32 = 0; omega))).trans
      (ih (Nat.lt_of_succ_lt hn))

/-! ## What each point leaves -/

/-- The codes block after point `t`. -/
theorem codesAt (t : Fin cfg0.N) : (outsAt0 m c t.val t.isLt).1
    = fcCodes (iblk m c 0 t) (V m c main_arg4) (V m c main_arg6) (V m c main_arg5) (V m c main_arg2 (ValueIdx.ix2 0 0)) (V m c main_arg3 (ValueIdx.ix2 0 0)) := by
  rw [← iblk5 m c t, ← iblk4 m c t, ← iblk2 m c t, ← iblk3 m c t]
  by_cases h : t.val % 32 = 0
  · rw [outsAt0_A m c t h]
    dsimp only
    exact (Block.out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
      (V m c main_arg4) (V m c main_arg7) ((hcond0_0 t).mpr h))
  · have hs := scratch m c (t.val - 1) (Nat.lt_of_le_of_lt (Nat.sub_le _ _) t.isLt)
    have h0 := congrArg Prod.fst hs
    have h1 := congrArg Prod.snd hs
    dsimp only at h0 h1
    rw [outsAt0_B m c t h]
    dsimp only
    refine ((Block.out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2.1
      (outsAt0 m c (t.val - 1) (Nat.lt_of_le_of_lt (Nat.sub_le _ _) t.isLt)).2.2.2 (fun h0 => h ((hcond0_0 t).mp h0)) (V m c main_arg4) (V m c main_arg7)).trans ?_)
    rw [h0]

/-- The hidden block after point `t`. -/
theorem hiddenAt (t : Fin cfg0.N) : (outsAt0 m c t.val t.isLt).2.1
    = projOuts (iblk m c 1 t) (fcReal (iblk m c 0 t) (V m c main_arg4) (V m c main_arg6) (V m c main_arg5) (V m c main_arg2 (ValueIdx.ix2 0 0)) (V m c main_arg3 (ValueIdx.ix2 0 0)))
        (V m c main_arg7) (V m c main_arg9) (V m c main_arg8) (V m c main_arg3 (ValueIdx.ix2 0 0)) := by
  rw [← iblk5 m c t, ← iblk4 m c t, ← iblk2 m c t, ← iblk3 m c t, ← iblk6 m c t, ← iblk7 m c t]
  by_cases h : t.val % 32 = 0
  · rw [outsAt0_A m c t h]
    dsimp only
    exact (Block.out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
      (V m c main_arg4) (V m c main_arg7) ((hcond0_0 t).mpr h))
  · have hs := scratch m c (t.val - 1) (Nat.lt_of_le_of_lt (Nat.sub_le _ _) t.isLt)
    have h0 := congrArg Prod.fst hs
    have h1 := congrArg Prod.snd hs
    dsimp only at h0 h1
    rw [outsAt0_B m c t h]
    dsimp only
    refine ((Block.out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2.1
      (outsAt0 m c (t.val - 1) (Nat.lt_of_le_of_lt (Nat.sub_le _ _) t.isLt)).2.2.2 (fun h0 => h ((hcond0_0 t).mp h0)) (V m c main_arg4) (V m c main_arg7)).trans ?_)
    rw [h0, h1]

/-! ## The arrays -/

/-- The codes as an array of the launch arguments. -/
abbrev G8 : Vec Ideal S8192x6144 .i8 :=
  fcCodes (V m c main_arg0) (V m c main_arg4) (V m c main_arg6) (V m c main_arg5) (V m c main_arg2 (ValueIdx.ix2 0 0)) (V m c main_arg3 (ValueIdx.ix2 0 0))

/-- The hidden array of the launch arguments. -/
abbrev G9 : Vec Ideal S8192x3072 .bf16 :=
  projOuts (V m c main_arg1) (fcReal (V m c main_arg0) (V m c main_arg4) (V m c main_arg6) (V m c main_arg5) (V m c main_arg2 (ValueIdx.ix2 0 0)) (V m c main_arg3 (ValueIdx.ix2 0 0)))
    (V m c main_arg7) (V m c main_arg9) (V m c main_arg8) (V m c main_arg3 (ValueIdx.ix2 0 0))

/-- A row of a point's real codes is the row of the whole layer's. -/
theorem fcReal_row (t : Fin cfg0.N) (r : Fin 256) (k : Fin 6144) :
    fcReal (iblk m c 0 t) (V m c main_arg4) (V m c main_arg6) (V m c main_arg5) (V m c main_arg2 (ValueIdx.ix2 0 0)) (V m c main_arg3 (ValueIdx.ix2 0 0)) (ValueIdx.ix2 r k)
      = fcReal (V m c main_arg0) (V m c main_arg4) (V m c main_arg6) (V m c main_arg5) (V m c main_arg2 (ValueIdx.ix2 0 0)) (V m c main_arg3 (ValueIdx.ix2 0 0)) (ValueIdx.ix2 (row t r) k) :=
  fcReal_rows _ _ _ _ _ _ _ r (row t r) (fun k => iblk0 m c t r k) k

/-- What a point writes back to the codes array is its block of `G8`. -/
theorem flushed8 (t : Fin cfg0.N) : (dats m 0 c).flushed 8 t = ((cfg0.win 8).blk t).view.read (Elt Ideal) (G8 m c) := by
  rw [Value.flushed8, codesAt]
  funext j
  obtain ⟨r, k, rfl⟩ : ∃ r k, j = ValueIdx.ix2 r k := ⟨j 0, j 1, ValueIdx.eq_ix2 j⟩
  show _ = G8 m c (((cfg0.win 8).blk t).view.emb (ValueIdx.ix2 r k))
  rw [emb8]
  exact congrArg (Ideal.fptosi 8) (fcReal_row m c t r k)

/-- What a point writes back to the hidden array is its block of `G9`. -/
theorem flushed9 (t : Fin cfg0.N) : (dats m 0 c).flushed 9 t = ((cfg0.win 9).blk t).view.read (Elt Ideal) (G9 m c) := by
  rw [Value.flushed9, hiddenAt]
  funext j
  obtain ⟨r, k, rfl⟩ : ∃ r k, j = ValueIdx.ix2 r k := ⟨j 0, j 1, ValueIdx.eq_ix2 j⟩
  show _ = G9 m c (((cfg0.win 9).blk t).view.emb (ValueIdx.ix2 r k))
  rw [emb9]
  exact projOuts_rows _ _ _ _ _ _ _ _ r (row t r) (fcReal_row m c t r) k (iblk1 m c t r k)

/-- The codes array after the run. -/
theorem final8 : (dats m 0 c).arrAt 8 cfg0.N = G8 m c :=
  (dats m 0 c).arrAt_eq_of_cover 8 (G8 m c) (fun t _ => flushed8 m c t) covered8

/-- The hidden array after the run. -/
theorem final9 : (dats m 0 c).arrAt 9 cfg0.N = G9 m c :=
  (dats m 0 c).arrAt_eq_of_cover 9 (G9 m c) (fun t _ => flushed9 m c t) covered9

/-- The kernel's run: its two results are the two layers of the launch arguments, which stay. -/
theorem run : θ_run defs (onTc (τ := τ) (main (F := Ideal))) ⟨m, fun _ => 0, ρ⟩ fun r => ∀ c : Dev nD,
      r.2.mem ((c : Thread nD τ).loc main_v0_0) = G8 m c
      ∧ r.2.mem ((c : Thread nD τ).loc main_v0_1) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2.1.trans (final9 m c), (h c).2.2⟩)
    (Value.run_blocks m ρ)

end Cert.MlpIdeal.Array

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.MlpIdeal.Value
public import proofs.«01_k».proof.Proof.Gen.MlpRefIdeal.Value
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojRefIdeal.Value
public import proofs.«01_k».proof.Proof.Oproj.Bits
public import proofs.«01_k».proof.Proof.OprojReference
public import proofs.«01_k».proof.Proof.OprojArray
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.Qkv.Bits
public import proofs.«01_k».proof.Proof.QkvReference
public import proofs.«01_k».proof.Proof.QkvArray
public import proofs.«01_k».proof.Proof.MlpReference
public import proofs.«01_k».proof.Proof.MlpArray
public import Idealize.ShloMosaic.Adequacy
public import Idealize.ShloMosaic.Init

@[expose] public section

noncomputable section

namespace Cert.Proof

open Idealize.ShloMosaic Idealize.ShloMosaic.TcCoe Idealize.SL.Sem Cert.W8A8

/-- The MLP kernel and its reference, over the reals, end with equal results. -/
theorem mlp_algebraic : Cert.algebraic_MlpIdeal_MlpRefIdeal := by
  intro m ρ m' ρ' _ hargs
  refine ⟨fun c => Cert.MlpIdeal.Array.G8 m c, fun c => Cert.MlpIdeal.Array.G9 m c, Cert.MlpIdeal.Array.run m ρ, ?_⟩
  refine (θ_run _ _ _).mono (fun r h c => ?_) (Cert.MlpRefIdeal.Value.run m' ρ')
  obtain ⟨e0, e1, hk⟩ := h c
  obtain ⟨a0, a1, a2, a3, a4, a5, a6, a7, a8, a9⟩ := hargs c
  rw [a0, a1, a2, a3, a4, a5, a6, a7, a8, a9] at e0 e1
  exact ⟨e0.trans (Cert.MlpRefIdeal.Reference.codes_eq _ _ _ _ _ _ _ _ _ _),
    e1.trans (Cert.MlpRefIdeal.Reference.hidden_eq _ _ _ _ _ _ _ _ _ _), hk⟩

/-- The output projection kernel and its reference, over the reals, end with equal results. -/
theorem oproj_algebraic : Cert.algebraic_OprojIdeal_OprojRefIdeal := by
  intro m ρ m' ρ' _ hargs
  refine ⟨fun c => Cert.OprojIdeal.Array.G9 m c, fun c => Cert.OprojIdeal.Array.G10 m c, Cert.OprojIdeal.Array.run m ρ, ?_⟩
  refine (θ_run _ _ _).mono (fun r h c => ?_) (Cert.OprojRefIdeal.Value.run m' ρ')
  obtain ⟨e0, e1, hk⟩ := h c
  obtain ⟨a0, a1, a2, a3, a4, a5, a6, a7, a8⟩ := hargs c
  rw [a0, a1, a2, a3, a4, a5, a6, a7, a8] at e0 e1
  exact ⟨e0.trans (Cert.OprojRefIdeal.Reference.res_eq _ _ _ _ _ _ _ _ _),
    e1.trans (Cert.OprojRefIdeal.Reference.codes_eq _ _ _ _ _ _ _ _ _), hk⟩

/-- The attention inputs' kernel and its reference, over the reals, end with equal results. -/
theorem qkv_algebraic : Cert.algebraic_QkvIdeal_QkvRefIdeal := by
  intro m ρ m' ρ' _ hargs
  refine ⟨fun c => Cert.QkvIdeal.Array.G9 m c, fun c => Cert.QkvIdeal.Array.G10 m c, fun c => Cert.QkvIdeal.Array.G11 m c,
    fun c => Cert.QkvIdeal.Array.G12 m c, fun c => Cert.QkvIdeal.Array.G13 m c, fun c => Cert.QkvIdeal.Array.G14 m c,
    Cert.QkvIdeal.Array.run m ρ, ?_⟩
  refine (θ_run _ _ _).mono (fun r h c => ?_) (Cert.QkvRefIdeal.Value.run m' ρ')
  obtain ⟨e0, e1, e2, e3, e4, e5, hk⟩ := h c
  obtain ⟨a0, a1, a2, a3, a4, a5, a6, a7, a8⟩ := hargs c
  rw [a0, a1, a2, a3, a4, a5, a6, a7, a8] at e0 e1 e2 e3 e4 e5
  exact ⟨e0.trans (Cert.QkvRefIdeal.Reference.norm_eq _ _ _ _ _ _ _ _ _),
    e1.trans (Cert.QkvRefIdeal.Reference.queries_eq _ _ _ _ _ _ _ _ _),
    e2.trans (Cert.QkvRefIdeal.Reference.keyCodes_eq _ _ _ _ _ _ _ _ _),
    e3.trans (Cert.QkvRefIdeal.Reference.keyScales_eq _ _ _ _ _ _ _ _ _),
    e4.trans (Cert.QkvRefIdeal.Reference.valueCodes_eq _ _ _ _ _ _ _ _ _),
    e5.trans (Cert.QkvRefIdeal.Reference.valueScales_eq _ _ _ _ _ _ _ _ _), hk⟩

/-- Every claim of the certificate. -/
theorem claim : Cert.Claim := ⟨Cert.Mlp.Gen.facts, Cert.MlpIdeal.Gen.facts, Cert.MlpRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  fun m ρ _ => Cert.Mlp.Gen.frame m ρ, fun m ρ _ => Cert.MlpIdeal.Gen.frame m ρ, fun m ρ _ => Cert.MlpRefIdeal.Gen.frame m ρ,
  fun m ρ _ => Cert.Oproj.frame m ρ, fun m ρ _ => Cert.OprojIdeal.Gen.frame m ρ, fun m ρ _ => Cert.OprojRefIdeal.Gen.frame m ρ,
  fun m ρ _ => Cert.Qkv.frame m ρ, fun m ρ _ => Cert.QkvIdeal.Gen.frame m ρ, fun m ρ _ => Cert.QkvRefIdeal.Gen.frame m ρ,
  trivial, mlp_algebraic, trivial, oproj_algebraic, trivial, qkv_algebraic⟩

end Cert.Proof

end
